-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale2" .f32 0x3E0293EE#32 (((Real.sqrt 128)⁻¹ * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩
abbrev S1 : Shape := ⟨1, ![1]⟩
abbrev S3 : Shape := ⟨1, ![3]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S3 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x4096x8x128 .f32 := Host.absf main_arg2
  let main_cst_2 : FVec F S_ .f32 := constant S_ .f32 0x7F800000#32
  let main_v9 : FVec F S1x4096x8x128 .f32 := broadcastInDim S1x4096x8x128 ![] bcast_S_S1x4096x8x128 main_cst_2
  let main_v10 : IVec S1x4096x8x128 1 := cmpf .olt main_v8 main_v9
  let main_c_3 : IVec S_ 1 := constantI S_ 1 1#1
  let main_v11 : IVec S_ 1 := (fun x v => Host.reduce IntOp.andi x v reducesTo_S1x4096x8x128_S_d0_1_2_3 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Pre_finite_ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S_ : Shape := ⟨0, ![]⟩
abbrev S1 : Shape := ⟨1, ![1]⟩
abbrev S3 : Shape := ⟨1, ![3]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S1x2048x1024 .f32) (main_arg1 : FVec F S1024x1024 .f32) (main_arg2 : FVec F S1x32768x8x128 .f32) (main_arg3 : FVec F S1x32768x8x128 .f32) (main_arg4 : FVec F S1024x1024 .f32) : IVec S3 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x32768x8x128 .f32 := Host.absf main_arg2
  let main_cst_2 : FVec F S_ .f32 := constant S_ .f32 0x7F800000#32
  let main_v9 : FVec F S1x32768x8x128 .f32 := broadcastInDim S1x32768x8x128 ![] bcast_S_S1x32768x8x128 main_cst_2
  let main_v10 : IVec S1x32768x8x128 1 := cmpf .olt main_v8 main_v9
  let main_c_3 : IVec S_ 1 := constantI S_ 1 1#1
  let main_v11 : IVec S_ 1 := (fun x v => Host.reduce IntOp.andi x v reducesTo_S1x32768x8x128_S_d0_1_2_3 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S8 : Shape := ⟨1, ![8]⟩
abbrev S256x1024 : Shape := ⟨2, ![256, 1024]⟩
abbrev S256x8x128 : Shape := ⟨3, ![256, 8, 128]⟩
abbrev S8x256x128 : Shape := ⟨3, ![8, 256, 128]⟩
abbrev S4096x8x128 : Shape := ⟨3, ![4096, 8, 128]⟩
abbrev S8x4096x128 : Shape := ⟨3, ![8, 4096, 128]⟩
abbrev S_ : Shape := ⟨0, ![]⟩
abbrev S1 : Shape := ⟨1, ![1]⟩
abbrev S8x1 : Shape := ⟨2, ![8, 1]⟩
abbrev S11 : Shape := ⟨1, ![11]⟩
abbrev S8x8x256x128 : Shape := ⟨4, ![8, 8, 256, 128]⟩
abbrev S8x256x8 : Shape := ⟨3, ![8, 256, 8]⟩
abbrev S256x8 : Shape := ⟨2, ![256, 8]⟩
abbrev S2x4096x128 : Shape := ⟨3, ![2, 4096, 128]⟩
abbrev S2 : Shape := ⟨1, ![2]⟩
abbrev S1x8x256x128 : Shape := ⟨4, ![1, 8, 256, 128]⟩
abbrev S1x256x8 : Shape := ⟨3, ![1, 256, 8]⟩
abbrev S256x1 : Shape := ⟨2, ![256, 1]⟩
abbrev S1x4096 : Shape := ⟨2, ![1, 4096]⟩
abbrev S1x4096x128 : Shape := ⟨3, ![1, 4096, 128]⟩
abbrev S4096x128 : Shape := ⟨2, ![4096, 128]⟩
abbrev S256x4096 : Shape := ⟨2, ![256, 4096]⟩
abbrev S1x1x256x128 : Shape := ⟨4, ![1, 1, 256, 128]⟩
abbrev S256x128 : Shape := ⟨2, ![256, 128]⟩
abbrev S256 : Shape := ⟨1, ![256]⟩
abbrev S1x256x128 : Shape := ⟨3, ![1, 256, 128]⟩
abbrev S1x256x1 : Shape := ⟨3, ![1, 256, 1]⟩

abbrev nBuf : Space → Nat
  | .hbm => 90
  | .vmem => 9
  | .smem => 1
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S8, .i32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S256x1024, .f32⟩
  | .hbm, ⟨10, _⟩ => ⟨S256x1024, .f32⟩
  | .hbm, ⟨11, _⟩ => ⟨S256x8x128, .f32⟩
  | .hbm, ⟨12, _⟩ => ⟨S8x256x128, .f32⟩
  | .hbm, ⟨13, _⟩ => ⟨S8x256x128, .bf16⟩
  | .hbm, ⟨14, _⟩ => ⟨S4096x8x128, .f32⟩
  | .hbm, ⟨15, _⟩ => ⟨S8x4096x128, .f32⟩
  | .hbm, ⟨16, _⟩ => ⟨S8x4096x128, .bf16⟩
  | .hbm, ⟨17, _⟩ => ⟨S4096x8x128, .f32⟩
  | .hbm, ⟨18, _⟩ => ⟨S8x4096x128, .f32⟩
  | .hbm, ⟨19, _⟩ => ⟨S8x4096x128, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i1⟩
  | .hbm, ⟨47, _⟩ => ⟨S_, .i32⟩
  | .hbm, ⟨48, _⟩ => ⟨S8, .i32⟩
  | .hbm, ⟨49, _⟩ => ⟨S8, .i1⟩
  | .hbm, ⟨50, _⟩ => ⟨S_, .i32⟩
  | .hbm, ⟨51, _⟩ => ⟨S_, .i1⟩
  | .hbm, ⟨52, _⟩ => ⟨S8, .i1⟩
  | .hbm, ⟨53, _⟩ => ⟨S8, .i1⟩
  | .hbm, ⟨54, _⟩ => ⟨S8, .i1⟩
  | .hbm, ⟨55, _⟩ => ⟨S8, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S8, .i32⟩
  | .hbm, ⟨60, _⟩ => ⟨S8, .i1⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S8, .i32⟩
  | .hbm, ⟨65, _⟩ => ⟨S8x1, .i32⟩
  | .hbm, ⟨66, _⟩ => ⟨S8, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S1, .i32⟩
  | .hbm, ⟨84, _⟩ => ⟨S11, .i32⟩
  | .hbm, ⟨85, _⟩ => ⟨S8x256x128, .f32⟩
  | .hbm, ⟨86, _⟩ => ⟨S256x8x128, .f32⟩
  | .hbm, ⟨87, _⟩ => ⟨S256x1024, .f32⟩
  | .hbm, ⟨88, _⟩ => ⟨S256x1024, .f32⟩
  | .hbm, ⟨89, _⟩ => ⟨S1x256x1024, .f32⟩
  | .local _ .vmem, ⟨0, _⟩ => ⟨S8x256x128, .bf16⟩
  | .local _ .vmem, ⟨1, _⟩ => ⟨S8x256x128, .f32⟩
  | .local _ .vmem, ⟨2, _⟩ => ⟨S8x8x256x128, .bf16⟩
  | .local _ .vmem, ⟨3, _⟩ => ⟨S8x8x256x128, .bf16⟩
  | .local _ .vmem, ⟨4, _⟩ => ⟨S8x256x8, .f32⟩
  | .local _ .vmem, ⟨5, _⟩ => ⟨S8x256x128, .bf16⟩
  | .local _ .vmem, ⟨6, _⟩ => ⟨S256x8, .f32⟩
  | .local _ .vmem, ⟨7, _⟩ => ⟨S2x4096x128, .bf16⟩
  | .local _ .vmem, ⟨8, _⟩ => ⟨S2x4096x128, .bf16⟩
  | .local _ .smem, ⟨0, _⟩ => ⟨S11, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 2 → Bool
  | ⟨0, _⟩ => false
  | ⟨1, _⟩ => true
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 2 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v24 : Ref sig .tc := ⟨.hbm, 57, rfl⟩
abbrev main_c_8 : Ref sig .tc := ⟨.hbm, 58, rfl⟩
abbrev main_v25 : Ref sig .tc := ⟨.hbm, 59, rfl⟩
abbrev main_v26 : Ref sig .tc := ⟨.hbm, 60, rfl⟩
abbrev main_c_9 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_10 : Ref sig .tc := ⟨.hbm, 67, rfl⟩
abbrev main_v32 : Ref sig .tc := ⟨.hbm, 68, rfl⟩
abbrev main_c_11 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_12 : Ref sig .tc := ⟨.hbm, 75, rfl⟩
abbrev main_v38 : Ref sig .tc := ⟨.hbm, 76, rfl⟩
abbrev main_c_13 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (v1 : BitVec 32) : Nat :=
  let c0_i32 : BitVec 32 := 0#32
  let c1_i32_14 : BitVec 32 := 1#32
  let v17 : BitVec 32 := Scalar.muli v1 c1_i32_14
  let v18 : BitVec 32 := Scalar.addi c0_i32 v17
  v18.toNat

def k0_dev2 (v0 : BitVec 32) : Nat :=
  let c0_i32_17 : BitVec 32 := 0#32
  let c1_i32_16 : BitVec 32 := 1#32
  let v19 : BitVec 32 := Scalar.muli v0 c1_i32_16
  let v20 : BitVec 32 := Scalar.addi c0_i32_17 v19
  v20.toNat

@[reducible] def k0_t1_loop : Scf.Loop 32 :=
  let c0_i32_32 : BitVec 32 := 0#32
  let c8_i32 : BitVec 32 := 8#32
  let v74 : BitVec 32 := Scalar.addi c0_i32_32 c8_i32
  let c1_i32_33 : BitVec 32 := 1#32
  ⟨c0_i32_32, v74, c1_i32_33⟩
def k0_cond1 (k0_t1 : Fin k0_t1_loop.trips) : BitVec 1 :=
  let c0_i32_32 : BitVec 32 := 0#32
  let c1_i32_33 : BitVec 32 := 1#32
  let arg20 : BitVec 32 := Scf.iv c0_i32_32 c1_i32_33 k0_t1
  let c0_i32_156 : BitVec 32 := 0#32
  let v194 : BitVec 1 := Scalar.cmpi .sgt arg20 c0_i32_156
  let v195 : BitVec 32 := Scalar.extui v194
  let c0_i32_157 : BitVec 32 := 0#32
  let v196 : BitVec 1 := Scalar.cmpi .ne v195 c0_i32_157
  v196

def k0_off1 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  let c1_i32_671 : BitVec 32 := 1#32
  let v812 : BitVec 32 := Scalar.subi arg20 c1_i32_671
  ![v812.toNat]
def k0_off2 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c1_i32_671 : BitVec 32 := 1#32
  let v812 : BitVec 32 := Scalar.subi arg20 c1_i32_671
  let c0_i32_673 : BitVec 32 := 0#32
  let c0_i32_674 : BitVec 32 := 0#32
  let c0_i32_675 : BitVec 32 := 0#32
  ![v812.toNat, 0, 0, 0]
def k0_off3 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c0_i32_676 : BitVec 32 := 0#32
  let c0_i32_677 : BitVec 32 := 0#32
  let c0_i32_678 : BitVec 32 := 0#32
  ![arg20.toNat, 0, 0, 0]
def k0_off4 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  ![arg20.toNat]
def k0_cond2 (k0_t1 : Fin k0_t1_loop.trips) : BitVec 1 :=
  let c0_i32_32 : BitVec 32 := 0#32
  let c1_i32_33 : BitVec 32 := 1#32
  let arg20 : BitVec 32 := Scf.iv c0_i32_32 c1_i32_33 k0_t1
  let c7_i32_158 : BitVec 32 := 7#32
  let v197 : BitVec 1 := Scalar.cmpi .slt arg20 c7_i32_158
  let v198 : BitVec 32 := Scalar.extui v197
  let c0_i32_159 : BitVec 32 := 0#32
  let v199 : BitVec 1 := Scalar.cmpi .ne v198 c0_i32_159
  v199

def k0_off5 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  ![arg20.toNat]
def k0_off6 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  let c1_i32_149 : BitVec 32 := 1#32
  let v183 : BitVec 32 := Scalar.addi arg20 c1_i32_149
  let c8_i32_150 : BitVec 32 := 8#32
  let c0_i32_151 : BitVec 32 := 0#32
  let v184 : BitVec 1 := Scalar.cmpi .eq c8_i32_150 c0_i32_151
  let c1_i32_152 : BitVec 32 := 1#32
  let v185 : BitVec 32 := Scalar.select v184 c1_i32_152 c8_i32_150
  let v186 : BitVec 32 := Scalar.remsi v183 v185
  let c0_i32_154 : BitVec 32 := 0#32
  let v188 : BitVec 1 := Scalar.cmpi .slt v186 c0_i32_154
  let c0_i32_155 : BitVec 32 := 0#32
  let v189 : BitVec 1 := Scalar.cmpi .slt v185 c0_i32_155
  let v190 : BitVec 1 := Scalar.xori v188 v189
  let c0_i32_153 : BitVec 32 := 0#32
  let v187 : BitVec 1 := Scalar.cmpi .ne v186 c0_i32_153
  let v191 : BitVec 1 := Scalar.andi v190 v187
  let v192 : BitVec 32 := Scalar.addi v186 v185
  let v193 : BitVec 32 := Scalar.select v191 v192 v186
  ![v193.toNat]
def k0_off7 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c1_i32_149 : BitVec 32 := 1#32
  let v183 : BitVec 32 := Scalar.addi arg20 c1_i32_149
  let c8_i32_150 : BitVec 32 := 8#32
  let c0_i32_151 : BitVec 32 := 0#32
  let v184 : BitVec 1 := Scalar.cmpi .eq c8_i32_150 c0_i32_151
  let c1_i32_152 : BitVec 32 := 1#32
  let v185 : BitVec 32 := Scalar.select v184 c1_i32_152 c8_i32_150
  let v186 : BitVec 32 := Scalar.remsi v183 v185
  let c0_i32_154 : BitVec 32 := 0#32
  let v188 : BitVec 1 := Scalar.cmpi .slt v186 c0_i32_154
  let c0_i32_155 : BitVec 32 := 0#32
  let v189 : BitVec 1 := Scalar.cmpi .slt v185 c0_i32_155
  let v190 : BitVec 1 := Scalar.xori v188 v189
  let c0_i32_153 : BitVec 32 := 0#32
  let v187 : BitVec 1 := Scalar.cmpi .ne v186 c0_i32_153
  let v191 : BitVec 1 := Scalar.andi v190 v187
  let v192 : BitVec 32 := Scalar.addi v186 v185
  let v193 : BitVec 32 := Scalar.select v191 v192 v186
  let c0_i32_673 : BitVec 32 := 0#32
  let c0_i32_674 : BitVec 32 := 0#32
  let c0_i32_675 : BitVec 32 := 0#32
  ![v193.toNat, 0, 0, 0]
def k0_off8 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c0_i32_676 : BitVec 32 := 0#32
  let c0_i32_677 : BitVec 32 := 0#32
  let c0_i32_678 : BitVec 32 := 0#32
  ![arg20.toNat, 0, 0, 0]
def k0_dev3 (v0 : BitVec 32) : Nat :=
  let c0_i32_672 : BitVec 32 := 0#32
  let c1_i32_671 : BitVec 32 := 1#32
  let v812 : BitVec 32 := Scalar.muli v0 c1_i32_671
  let v813 : BitVec 32 := Scalar.addi c0_i32_672 v812
  v813.toNat
def k0_off9 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  let v212 : Index := Scalar.indexCast arg20
  ![v212.toNat]
def k0_off10 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v273 : Index := Scalar.indexCast arg20
  let c0_211 : Index := 0#32
  let c0_212 : Index := 0#32
  let c0_213 : Index := 0#32
  ![v273.toNat, 0, 0, 0]
def k0_off11 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v320 : Index := Scalar.indexCast arg20
  let c1_257 : Index := 1#32
  let c0_258 : Index := 0#32
  let c0_259 : Index := 0#32
  ![v320.toNat, 1, 0, 0]
def k0_off12 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v367 : Index := Scalar.indexCast arg20
  let c2_303 : Index := 2#32
  let c0_304 : Index := 0#32
  let c0_305 : Index := 0#32
  ![v367.toNat, 2, 0, 0]
def k0_off13 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v414 : Index := Scalar.indexCast arg20
  let c3_349 : Index := 3#32
  let c0_350 : Index := 0#32
  let c0_351 : Index := 0#32
  ![v414.toNat, 3, 0, 0]
def k0_off14 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v461 : Index := Scalar.indexCast arg20
  let c4_394 : Index := 4#32
  let c0_395 : Index := 0#32
  let c0_396 : Index := 0#32
  ![v461.toNat, 4, 0, 0]
def k0_off15 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v508 : Index := Scalar.indexCast arg20
  let c5_439 : Index := 5#32
  let c0_440 : Index := 0#32
  let c0_441 : Index := 0#32
  ![v508.toNat, 5, 0, 0]
def k0_off16 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v555 : Index := Scalar.indexCast arg20
  let c6_485 : Index := 6#32
  let c0_486 : Index := 0#32
  let c0_487 : Index := 0#32
  ![v555.toNat, 6, 0, 0]
def k0_off17 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let v590 : Index := Scalar.indexCast arg20
  let c7_517 : Index := 7#32
  let c0_518 : Index := 0#32
  let c0_519 : Index := 0#32
  ![v590.toNat, 7, 0, 0]
def k0_cond3 (k0_t1 : Fin k0_t1_loop.trips) : BitVec 1 :=
  let c0_i32_32 : BitVec 32 := 0#32
  let c1_i32_33 : BitVec 32 := 1#32
  let arg20 : BitVec 32 := Scf.iv c0_i32_32 c1_i32_33 k0_t1
  let c0_i32_535 : BitVec 32 := 0#32
  let v613 : BitVec 1 := Scalar.cmpi .sgt arg20 c0_i32_535
  let v614 : BitVec 32 := Scalar.extui v613
  let c0_i32_536 : BitVec 32 := 0#32
  let v615 : BitVec 1 := Scalar.cmpi .ne v614 c0_i32_536
  v615

def k0_off18 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  let c1_i32_671 : BitVec 32 := 1#32
  let v812 : BitVec 32 := Scalar.subi arg20 c1_i32_671
  ![v812.toNat]
def k0_off19 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c1_i32_671 : BitVec 32 := 1#32
  let v812 : BitVec 32 := Scalar.subi arg20 c1_i32_671
  let c0_i32_673 : BitVec 32 := 0#32
  let c0_i32_674 : BitVec 32 := 0#32
  let c0_i32_675 : BitVec 32 := 0#32
  ![v812.toNat, 0, 0, 0]
def k0_off20 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c0_i32_676 : BitVec 32 := 0#32
  let c0_i32_677 : BitVec 32 := 0#32
  let c0_i32_678 : BitVec 32 := 0#32
  ![arg20.toNat, 0, 0, 0]
def k0_off21 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let c1_i32_671 : BitVec 32 := 1#32
  let v812 : BitVec 32 := Scalar.subi arg20 c1_i32_671
  let c0_i32_680 : BitVec 32 := 0#32
  let c0_i32_681 : BitVec 32 := 0#32
  ![v812.toNat, 0, 0]
def k0_off22 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let c0_i32_682 : BitVec 32 := 0#32
  let c0_i32_683 : BitVec 32 := 0#32
  ![arg20.toNat, 0, 0]
def k0_off23 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  ![arg20.toNat]
def k0_off24 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v616 : Index := Scalar.indexCast arg20
  let c0_537 : Index := 0#32
  let c0_538 : Index := 0#32
  ![v616.toNat, 0, 0]
def k0_off25 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v638 : Index := Scalar.indexCast arg20
  let c0_552 : Index := 0#32
  let c1_553 : Index := 1#32
  ![v638.toNat, 0, 1]
def k0_off26 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v660 : Index := Scalar.indexCast arg20
  let c0_567 : Index := 0#32
  let c2_568 : Index := 2#32
  ![v660.toNat, 0, 2]
def k0_off27 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v682 : Index := Scalar.indexCast arg20
  let c0_582 : Index := 0#32
  let c3_583 : Index := 3#32
  ![v682.toNat, 0, 3]
def k0_off28 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v704 : Index := Scalar.indexCast arg20
  let c0_597 : Index := 0#32
  let c4_598 : Index := 4#32
  ![v704.toNat, 0, 4]
def k0_off29 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v726 : Index := Scalar.indexCast arg20
  let c0_612 : Index := 0#32
  let c5_613 : Index := 5#32
  ![v726.toNat, 0, 5]
def k0_off30 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v748 : Index := Scalar.indexCast arg20
  let c0_627 : Index := 0#32
  let c6_628 : Index := 6#32
  ![v748.toNat, 0, 6]
def k0_off31 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let v770 : Index := Scalar.indexCast arg20
  let c0_642 : Index := 0#32
  let c7_643 : Index := 7#32
  ![v770.toNat, 0, 7]
def k0_off32 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  ![arg20.toNat]
def k0_off33 (k0_t1 : Fin k0_t1_loop.trips) : Fin 1 → Nat :=
  let c0_i32_32 : BitVec 32 := 0#32
  let c1_i32_33 : BitVec 32 := 1#32
  let arg20 : BitVec 32 := Scf.iv c0_i32_32 c1_i32_33 k0_t1
  let c1_i32_149 : BitVec 32 := 1#32
  let v183 : BitVec 32 := Scalar.addi arg20 c1_i32_149
  let c8_i32_150 : BitVec 32 := 8#32
  let c0_i32_151 : BitVec 32 := 0#32
  let v184 : BitVec 1 := Scalar.cmpi .eq c8_i32_150 c0_i32_151
  let c1_i32_152 : BitVec 32 := 1#32
  let v185 : BitVec 32 := Scalar.select v184 c1_i32_152 c8_i32_150
  let v186 : BitVec 32 := Scalar.remsi v183 v185
  let c0_i32_154 : BitVec 32 := 0#32
  let v188 : BitVec 1 := Scalar.cmpi .slt v186 c0_i32_154
  let c0_i32_155 : BitVec 32 := 0#32
  let v189 : BitVec 1 := Scalar.cmpi .slt v185 c0_i32_155
  let v190 : BitVec 1 := Scalar.xori v188 v189
  let c0_i32_153 : BitVec 32 := 0#32
  let v187 : BitVec 1 := Scalar.cmpi .ne v186 c0_i32_153
  let v191 : BitVec 1 := Scalar.andi v190 v187
  let v192 : BitVec 32 := Scalar.addi v186 v185
  let v193 : BitVec 32 := Scalar.select v191 v192 v186
  ![v193.toNat]
def k0_off34 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c1_i32_149 : BitVec 32 := 1#32
  let v183 : BitVec 32 := Scalar.addi arg20 c1_i32_149
  let c8_i32_150 : BitVec 32 := 8#32
  let c0_i32_151 : BitVec 32 := 0#32
  let v184 : BitVec 1 := Scalar.cmpi .eq c8_i32_150 c0_i32_151
  let c1_i32_152 : BitVec 32 := 1#32
  let v185 : BitVec 32 := Scalar.select v184 c1_i32_152 c8_i32_150
  let v186 : BitVec 32 := Scalar.remsi v183 v185
  let c0_i32_154 : BitVec 32 := 0#32
  let v188 : BitVec 1 := Scalar.cmpi .slt v186 c0_i32_154
  let c0_i32_155 : BitVec 32 := 0#32
  let v189 : BitVec 1 := Scalar.cmpi .slt v185 c0_i32_155
  let v190 : BitVec 1 := Scalar.xori v188 v189
  let c0_i32_153 : BitVec 32 := 0#32
  let v187 : BitVec 1 := Scalar.cmpi .ne v186 c0_i32_153
  let v191 : BitVec 1 := Scalar.andi v190 v187
  let v192 : BitVec 32 := Scalar.addi v186 v185
  let v193 : BitVec 32 := Scalar.select v191 v192 v186
  let c0_i32_659 : BitVec 32 := 0#32
  let c0_i32_660 : BitVec 32 := 0#32
  let c0_i32_661 : BitVec 32 := 0#32
  ![v193.toNat, 0, 0, 0]
def k0_off35 (k0_t1 : Fin k0_t1_loop.trips) : Fin 4 → Nat :=
  let c0_i32_32 : BitVec 32 := 0#32
  let c1_i32_33 : BitVec 32 := 1#32
  let arg20 : BitVec 32 := Scf.iv c0_i32_32 c1_i32_33 k0_t1
  let c0_i32_662 : BitVec 32 := 0#32
  let c0_i32_663 : BitVec 32 := 0#32
  let c0_i32_664 : BitVec 32 := 0#32
  ![arg20.toNat, 0, 0, 0]
def k0_dev4 (v0 : BitVec 32) : Nat :=
  let c0_i32_658 : BitVec 32 := 0#32
  let c1_i32_657 : BitVec 32 := 1#32
  let v792 : BitVec 32 := Scalar.muli v0 c1_i32_657
  let v793 : BitVec 32 := Scalar.addi c0_i32_658 v792
  v793.toNat
def k0_off36 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let c1_i32_149 : BitVec 32 := 1#32
  let v183 : BitVec 32 := Scalar.addi arg20 c1_i32_149
  let c8_i32_150 : BitVec 32 := 8#32
  let c0_i32_151 : BitVec 32 := 0#32
  let v184 : BitVec 1 := Scalar.cmpi .eq c8_i32_150 c0_i32_151
  let c1_i32_152 : BitVec 32 := 1#32
  let v185 : BitVec 32 := Scalar.select v184 c1_i32_152 c8_i32_150
  let v186 : BitVec 32 := Scalar.remsi v183 v185
  let c0_i32_154 : BitVec 32 := 0#32
  let v188 : BitVec 1 := Scalar.cmpi .slt v186 c0_i32_154
  let c0_i32_155 : BitVec 32 := 0#32
  let v189 : BitVec 1 := Scalar.cmpi .slt v185 c0_i32_155
  let v190 : BitVec 1 := Scalar.xori v188 v189
  let c0_i32_153 : BitVec 32 := 0#32
  let v187 : BitVec 1 := Scalar.cmpi .ne v186 c0_i32_153
  let v191 : BitVec 1 := Scalar.andi v190 v187
  let v192 : BitVec 32 := Scalar.addi v186 v185
  let v193 : BitVec 32 := Scalar.select v191 v192 v186
  let c0_i32_667 : BitVec 32 := 0#32
  let c0_i32_668 : BitVec 32 := 0#32
  ![v193.toNat, 0, 0]
def k0_off37 (k0_t1 : Fin k0_t1_loop.trips) : Fin 3 → Nat :=
  let c0_i32_32 : BitVec 32 := 0#32
  let c1_i32_33 : BitVec 32 := 1#32
  let arg20 : BitVec 32 := Scf.iv c0_i32_32 c1_i32_33 k0_t1
  let c0_i32_669 : BitVec 32 := 0#32
  let c0_i32_670 : BitVec 32 := 0#32
  ![arg20.toNat, 0, 0]
def k0_dev5 (v0 : BitVec 32) : Nat :=
  let c0_i32_666 : BitVec 32 := 0#32
  let c1_i32_665 : BitVec 32 := 1#32
  let v802 : BitVec 32 := Scalar.muli v0 c1_i32_665
  let v803 : BitVec 32 := Scalar.addi c0_i32_666 v802
  v803.toNat
def k0_dev6 (v1 : BitVec 32) : Nat :=
  let c0_i32_151_r0 : BitVec 32 := 0#32
  let c1_i32_150_r0 : BitVec 32 := 1#32
  let v184_r0 : BitVec 32 := Scalar.muli v1 c1_i32_150_r0
  let v185_r0 : BitVec 32 := Scalar.addi c0_i32_151_r0 v184_r0
  v185_r0.toNat

def k0_chk1 (v1 : BitVec 32) : Prop :=
  ((k0_dev1 v1) < nD) ∧
  ((k0_dev6 v1) < nD)
theorem k0_dev1_lt : ∀ (v1 : BitVec 32) (k0_hw1 : k0_chk1 v1), (k0_dev1 v1) < nD := fun v1 k0_hw1 => k0_hw1.1
theorem k0_dev6_lt : ∀ (v1 : BitVec 32) (k0_hw1 : k0_chk1 v1), (k0_dev6 v1) < nD := fun v1 k0_hw1 => k0_hw1.2

def k0_dev7 (v0 : BitVec 32) : Nat :=
  let c0_i32_154_r0 : BitVec 32 := 0#32
  let c1_i32_153_r0 : BitVec 32 := 1#32
  let v186_r0 : BitVec 32 := Scalar.muli v0 c1_i32_153_r0
  let v187_r0 : BitVec 32 := Scalar.addi c0_i32_154_r0 v186_r0
  v187_r0.toNat

def k0_chk2 (v0 : BitVec 32) : Prop :=
  ((k0_dev2 v0) < nD) ∧
  (∀ k0_t1 : Fin k0_t1_loop.trips, ∀ (k0_h2 : k0_cond2 k0_t1 = 1#1), (k0_dev3 v0) < nD) ∧
  ((k0_dev4 v0) < nD) ∧
  ((k0_dev5 v0) < nD) ∧
  ((k0_dev7 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0) (k0_t1 : Fin k0_t1_loop.trips), ∀ (k0_h2 : k0_cond2 k0_t1 = 1#1), (k0_dev3 v0) < nD := fun v0 k0_hw2 k0_t1 k0_h2 => k0_hw2.2.1 k0_t1 k0_h2
theorem k0_dev4_lt : ∀ (v0 : BitVec 32) (k0_hw2 : k0_chk2 v0), (k0_dev4 v0) < nD := fun v0 k0_hw2 => k0_hw2.2.2.1
theorem k0_dev5_lt : ∀ (v0 : BitVec 32) (k0_hw2 : k0_chk2 v0), (k0_dev5 v0) < nD := fun v0 k0_hw2 => k0_hw2.2.2.2.1
theorem k0_dev7_lt : ∀ (v0 : BitVec 32) (k0_hw2 : k0_chk2 v0), (k0_dev7 v0) < nD := fun v0 k0_hw2 => k0_hw2.2.2.2.2

abbrev stage0_0 : Fin 1 → Memref sig .tc .smem S11 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale2" => some (((Real.sqrt 128)⁻¹ * (Real.log 2)⁻¹ : ℝ) : EReal)
  | _ => none
-- ==== ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S32768 : Shape := ⟨1, ![32768]⟩
abbrev S1x32768 : Shape := ⟨2, ![1, 32768]⟩
abbrev S2048x32768 : Shape := ⟨2, ![2048, 32768]⟩
abbrev S1x8x2048x32768 : Shape := ⟨4, ![1, 8, 2048, 32768]⟩
abbrev S1x1x2048x32768 : Shape := ⟨4, ![1, 1, 2048, 32768]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 124
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S32768, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S1x32768, .i32⟩
  | .hbm, ⟨47, _⟩ => ⟨S2048x32768, .i32⟩
  | .hbm, ⟨48, _⟩ => ⟨S2048x32768, .i32⟩
  | .hbm, ⟨49, _⟩ => ⟨S2048x32768, .i1⟩
  | .hbm, ⟨50, _⟩ => ⟨S_, .i32⟩
  | .hbm, ⟨51, _⟩ => ⟨S1x32768, .i32⟩
  | .hbm, ⟨52, _⟩ => ⟨S1x32768, .i1⟩
  | .hbm, ⟨53, _⟩ => ⟨S2048x32768, .i1⟩
  | .hbm, ⟨54, _⟩ => ⟨S2048x32768, .i1⟩
  | .hbm, ⟨55, _⟩ => ⟨S2048x32768, .i32⟩
  | .hbm, ⟨56, _⟩ => ⟨S2048x32768, .i32⟩
  | .hbm, ⟨57, _⟩ => ⟨S2048x32768, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x32768, .i32⟩
  | .hbm, ⟨65, _⟩ => ⟨S2048x32768, .i32⟩
  | .hbm, ⟨66, _⟩ => ⟨S_, .i32⟩
  | .hbm, ⟨67, _⟩ => ⟨S2048x32768, .i32⟩
  | .hbm, ⟨68, _⟩ => ⟨S2048x32768, .i1⟩
  | .hbm, ⟨69, _⟩ => ⟨S_, .i32⟩
  | .hbm, ⟨70, _⟩ => ⟨S2048x32768, .i32⟩
  | .hbm, ⟨71, _⟩ => ⟨S2048x32768, .i1⟩
  | .hbm, ⟨72, _⟩ => ⟨S_, .i32⟩
  | .hbm, ⟨73, _⟩ => ⟨S_, .i1⟩
  | .hbm, ⟨74, _⟩ => ⟨S2048x32768, .i1⟩
  | .hbm, ⟨75, _⟩ => ⟨S2048x32768, .i1⟩
  | .hbm, ⟨76, _⟩ => ⟨S2048x32768, .i1⟩
  | .hbm, ⟨77, _⟩ => ⟨S2048x32768, .i32⟩
  | .hbm, ⟨78, _⟩ => ⟨S2048x32768, .i32⟩
  | .hbm, ⟨79, _⟩ => ⟨S2048x32768, .i32⟩
  | .hbm, ⟨80, _⟩ => ⟨S_, .i32⟩
  | .hbm, ⟨81, _⟩ => ⟨S2048x32768, .i32⟩
  | .hbm, ⟨82, _⟩ => ⟨S2048x32768, .i1⟩
  | .hbm, ⟨83, _⟩ => ⟨S2048x32768, .i1⟩
  | .hbm, ⟨84, _⟩ => ⟨S1x8x2048x32768, .f32⟩
  | .hbm, ⟨85, _⟩ => ⟨S_, .f32⟩
  | .hbm, ⟨86, _⟩ => ⟨S_, .f32⟩
  | .hbm, ⟨87, _⟩ => ⟨S1x8x2048x32768, .f32⟩
  | .hbm, ⟨88, _⟩ => ⟨S1x8x2048x32768, .f32⟩
  | .hbm, ⟨89, _⟩ => ⟨S1x1x2048x32768, .i1⟩
  | .hbm, ⟨90, _⟩ => ⟨S_, .f32⟩
  | .hbm, ⟨91, _⟩ => ⟨S_, .f32⟩
  | .hbm, ⟨92, _⟩ => ⟨S1x8x2048x32768, .i1⟩
  | .hbm, ⟨93, _⟩ => ⟨S1x8x2048x32768, .f32⟩
  | .hbm, ⟨94, _⟩ => ⟨S1x8x2048x32768, .f32⟩
  | .hbm, ⟨95, _⟩ => ⟨S_, .f32⟩
  | .hbm, ⟨96, _⟩ => ⟨S1x8x2048, .f32⟩
  | .hbm, ⟨97, _⟩ => ⟨S1x8x2048x1, .f32⟩
  | .hbm, ⟨98, _⟩ => ⟨S1x8x2048x32768, .f32⟩
  | .hbm, ⟨99, _⟩ => ⟨S1x8x2048x32768, .f32⟩
  | .hbm, ⟨100, _⟩ => ⟨S1x8x2048x32768, .f32⟩
  | .hbm, ⟨101, _⟩ => ⟨S_, .i1⟩
  | .hbm, ⟨102, _⟩ => ⟨S2048, .i1⟩
  | .hbm, ⟨103, _⟩ => ⟨S1x1x2048x1, .i1⟩
  | .hbm, ⟨104, _⟩ => ⟨S_, .f32⟩
  | .hbm, ⟨105, _⟩ => ⟨S1x8x2048, .f32⟩
  | .hbm, ⟨106, _⟩ => ⟨S1x8x2048x1, .f32⟩
  | .hbm, ⟨107, _⟩ => ⟨S_, .f32⟩
  | .hbm, ⟨108, _⟩ => ⟨S_, .f32⟩
  | .hbm, ⟨109, _⟩ => ⟨S1x8x2048x1, .i1⟩
  | .hbm, ⟨110, _⟩ => ⟨S1x8x2048x1, .f32⟩
  | .hbm, ⟨111, _⟩ => ⟨S1x8x2048x1, .f32⟩
  | .hbm, ⟨112, _⟩ => ⟨S1x8x2048x32768, .f32⟩
  | .hbm, ⟨113, _⟩ => ⟨S1x8x2048x32768, .f32⟩
  | .hbm, ⟨114, _⟩ => ⟨S1x1x2048x1, .i1⟩
  | .hbm, ⟨115, _⟩ => ⟨S_, .f32⟩
  | .hbm, ⟨116, _⟩ => ⟨S_, .f32⟩
  | .hbm, ⟨117, _⟩ => ⟨S1x8x2048x32768, .i1⟩
  | .hbm, ⟨118, _⟩ => ⟨S1x8x2048x32768, .f32⟩
  | .hbm, ⟨119, _⟩ => ⟨S1x8x2048x32768, .f32⟩
  | .hbm, ⟨120, _⟩ => ⟨S1x8x128x2048, .f32⟩
  | .hbm, ⟨121, _⟩ => ⟨S1x2048x8x128, .f32⟩
  | .hbm, ⟨122, _⟩ => ⟨S1x2048x1024, .f32⟩
  | .hbm, ⟨123, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_6 : Ref sig .tc := ⟨.hbm, 101, rfl⟩
abbrev main_v33 : Ref sig .tc := ⟨.hbm, 102, rfl⟩
abbrev main_v34 : Ref sig .tc := ⟨.hbm, 103, rfl⟩
abbrev main_cst_7 : Ref sig .tc := ⟨.hbm, 104, rfl⟩
abbrev main_v35 : Ref sig .tc := ⟨.hbm, 105, rfl⟩
abbrev main_v36 : Ref sig .tc := ⟨.hbm, 106, rfl⟩
abbrev main_cst_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.Ring.lean ====
/-
  The ring protocol of the kernel: the devices in ring order, the semaphore cells, the slots of the travelling buffers,
  and the schedule — per cell who pays, how much, and what the payment hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The ring -/

/-- The device after c in ring order, and the device before. -/
def nxt (c : Dev nD) : Dev nD := (![1, 2, 3, 7, 0, 4, 5, 6] : Fin 8 → Fin 8) c
def prv (c : Dev nD) : Dev nD := (![4, 0, 1, 2, 5, 6, 7, 3] : Fin 8 → Fin 8) c

theorem prv_nxt (c : Dev nD) : prv (nxt c) = c := by revert c; decide
theorem nxt_prv (c : Dev nD) : nxt (prv c) = c := by revert c; decide

/-- The owner of the query block at device c at step s. -/
def own (c : Dev nD) : ℕ → Dev nD
  | 0 => c
  | s + 1 => own (prv c) s

theorem own_seven (c : Dev nD) : own c 7 = nxt c := by revert c; decide
theorem own_nxt_succ (c : Dev nD) (s : ℕ) : own (nxt c) (s + 1) = own c s := by rw [own, prv_nxt]

/-! ## The resource algebra: the pipeline library's copy and the ring protocol's -/

abbrev UU : Type := UR sig nD τ × (URounds (GSem nD τ sig) Bool × Counters)

local notation "𝕄" => MT nD τ sig Unit (Elt F) ℕ UU ℕ

abbrev EP : Emb (UR sig nD τ) (MT nD τ sig Unit (Elt F) ℕ UU ℕ) := embL
def ER : Emb (URounds (GSem nD τ sig) Bool) (MT nD τ sig Unit (Elt F) ℕ UU ℕ) := Emb.inl.trans embR
instance ER_lands : (ER (F := F)).LandsIn (upEmb : UEmb _ (MT nD τ sig Unit (Elt F) ℕ UU ℕ)) := by unfold ER; infer_instance

/-! ## Cells -/

/-- The regular semaphores: the barrier and the closing handshake. -/
abbrev barS : Sem sig := ⟨0, by decide⟩
abbrev extS : Sem sig := ⟨1, by decide⟩

/-- Semaphore j of the k-th array of eight: the query's send and receive, the partial sum's send and receive, the row
    sums' send and receive. -/
def dS (k : Fin 6) (j : Fin 8) : DmaSem sig := ⟨3 + 8 * k.val + j.val, by have := k.isLt; have := j.isLt; show _ < 55; omega⟩

inductive Kind where
  | bar | ext | dma (k : Fin 6) (j : Fin 8) | other
deriving DecidableEq

/-- What a semaphore is to the protocol. -/
def kind : SemLoc sig → Kind
  | .reg s => if s.val = 0 then .bar else .ext
  | .dma d => if h : 3 ≤ d.val ∧ d.val < 51 then .dma ⟨(d.val - 3) / 8, by omega⟩ ⟨(d.val - 3) % 8, by omega⟩ else .other

@[simp] theorem kind_bar : kind (.reg barS) = .bar := rfl
@[simp] theorem kind_ext : kind (.reg extS) = .ext := rfl
@[simp] theorem kind_dS (k : Fin 6) (j : Fin 8) : kind (.dma (dS k j)) = .dma k j := by
  revert k j; decide

abbrev cell (c : Dev nD) (s : SemLoc sig) : GSem nD τ sig := ((c : Thread nD τ), s)
abbrev barCell (c : Dev nD) : GSem nD τ sig := cell c (.reg barS)
abbrev extCell (c : Dev nD) : GSem nD τ sig := cell c (.reg extS)
abbrev dCell (c : Dev nD) (k : Fin 6) (j : Fin 8) : GSem nD τ sig := cell c (.dma (dS k j))

/-! ## Slots -/

theorem inbQ (j : Fin 8) : ∀ a, (![j.val, 0, 0, 0] : Fin 4 → Nat) a + S1x8x256x128.size a ≤ S8x8x256x128.size a := by
  revert j; decide
theorem inbS (j : Fin 8) : ∀ a, (![j.val, 0, 0] : Fin 3 → Nat) a + S1x256x8.size a ≤ S8x256x8.size a := by
  revert j; decide

/-- Slot j of the query buffer, of the partial sums' buffer, of the row sums' buffer. -/
abbrev qSlot (j : Fin 8) : Memref sig .tc .vmem S8x256x128 .bf16 :=
  ((Memref.whole cc0_scratch0).slice (Rect.unit (s := S8x8x256x128) ![j.val, 0, 0, 0] S1x8x256x128.size (inbQ j)) (fun _ => rfl)).squeeze
    S8x256x128 squeezes_S1x8x256x128_S8x256x128
abbrev aSlot (j : Fin 8) : Memref sig .tc .vmem S8x256x128 .bf16 :=
  ((Memref.whole cc0_scratch1).slice (Rect.unit (s := S8x8x256x128) ![j.val, 0, 0, 0] S1x8x256x128.size (inbQ j)) (fun _ => rfl)).squeeze
    S8x256x128 squeezes_S1x8x256x128_S8x256x128
abbrev sSlot (j : Fin 8) : Memref sig .tc .vmem S256x8 .f32 :=
  ((Memref.whole cc0_scratch2).slice (Rect.unit (s := S8x256x8) ![j.val, 0, 0] S1x256x8.size (inbS j)) (fun _ => rfl)).squeeze
    S256x8 squeezes_S1x256x8_S256x8

/-- A query block or a partial sum; the row sums. -/
abbrev QT (F : FTy → Type) : Type := S8x256x128.Idx → Elt F .bf16
abbrev ST (F : FTy → Type) : Type := S256x8.Idx → Elt F .f32

/-- The slot's points-to at a share. -/
abbrev slotPt {sh : Shape} {e : EltTy} (M : Memref sig .tc .vmem sh e) (c : Dev nD) (q : PosShare TreeShare)
    (f : Buf (Elt F) (M.view.loc (c : Thread nD τ))) : sProp 𝕄 := M.view.loc (c : Thread nD τ) ↦[M.view.set]{q} f

/-- The slot at contents not chosen. -/
def slotAny {sh : Shape} {e : EltTy} (M : Memref sig .tc .vmem sh e) (c : Dev nD) : sProp 𝕄 :=
  iprop(∃ f, slotPt M c fullShare f)

/-- The slot at a share, holding the block X. -/
def slotAt {sh : Shape} {e : EltTy} (M : Memref sig .tc .vmem sh e) (c : Dev nD) (q : PosShare TreeShare)
    (X : sh.Idx → Elt F e) : sProp 𝕄 :=
  iprop(∃ f, ⌜M.view.read (Elt F) f = X⌝ ∗ slotPt M c q f)

theorem storable_ite (p : Prop) [Decidable p] (P R : sProp 𝕄) [BI.Storable (upEmb : UEmb _ 𝕄) P] [BI.Storable (upEmb : UEmb _ 𝕄) R] :
    BI.Storable (upEmb : UEmb _ 𝕄) (if p then P else R) := by
  by_cases h : p
  · rw [if_pos h]; infer_instance
  · rw [if_neg h]; infer_instance
instance slotAny_storable {sh : Shape} {e : EltTy} (M : Memref sig .tc .vmem sh e) (c : Dev nD) :
    BI.Storable (upEmb : UEmb _ 𝕄) (slotAny (F := F) M c) := by unfold slotAny; infer_instance
instance slotAt_storable {sh : Shape} {e : EltTy} (M : Memref sig .tc .vmem sh e) (c : Dev nD) (q : PosShare TreeShare)
    (X : sh.Idx → Elt F e) : BI.Storable (upEmb : UEmb _ 𝕄) (slotAt M c q X) := by unfold slotAt; infer_instance

/-! ## Amounts -/

abbrev Nq : ℕ := (qSlot 0).view.dmaCredit
abbrev Ns : ℕ := (sSlot 0).view.dmaCredit
theorem Nq_pos : 0 < Nq := View.dmaCredit_pos _ (by decide)
theorem Ns_pos : 0 < Ns := View.dmaCredit_pos _ (by decide)

/-- The step before step j in the cycle of eight: the slot a landing in slot j was sent from. -/
def back (j : Fin 8) : Fin 8 := j + 7

/-! ## The schedule

  `Q c` is the query block of device c; `A c s`, `S c s` the partial sums and the row sums device c sends at step s. -/

section Sched

variable (Q : Dev nD → QT F) (A : Dev nD → ℕ → QT F) (S : Dev nD → ℕ → ST F)

/-- Paid to device c's barrier cell by the device after it: that device's slots 1..7 of the three travelling buffers, and
    that round 0 of its receive cells and of its closing cell is reached. -/
def slotsGift (n : Dev nD) (j : Fin 8) : sProp 𝕄 := iprop(slotAny (qSlot j) n ∗ slotAny (aSlot j) n ∗ slotAny (sSlot j) n)
def reachedRecv (n : Dev nD) : sProp 𝕄 :=
  iprop(bigSep (Finset.univ : Finset (Fin 8)) fun j => iprop(reached ER (dCell n 1 j) 0 ∗ reached ER (dCell n 3 j) 0 ∗ reached ER (dCell n 5 j) 0))
def barPayN (n : Dev nD) : sProp 𝕄 :=
  iprop((bigSep (Finset.univ.erase (0 : Fin 8)) fun j => slotsGift n j) ∗ reachedRecv n ∗ reached ER (extCell n) 0)
/-- Paid by the device before it. -/
def barPayP (p : Dev nD) : sProp 𝕄 := reached ER (extCell p) 0

/-- What a query landing hands over. -/
def qrecvPay (c : Dev nD) (j : Fin 8) : sProp 𝕄 := slotAt (qSlot j) c fullShare (Q (own c j.val))
/-- What a query's departure gives back: half a share of the slot. -/
def qsendPay (c : Dev nD) (j : Fin 8) : sProp 𝕄 := slotAt (qSlot j) c fullShare.left (Q (own c j.val))
def arecvPay (c : Dev nD) (j : Fin 8) : sProp 𝕄 :=
  iprop(slotAt (aSlot j) c fullShare (A (prv c) (back j).val) ∗ if j = 0 then iprop(emp) else slotAny (aSlot 0) (own c j.val))
def srecvPay (c : Dev nD) (j : Fin 8) : sProp 𝕄 :=
  iprop(slotAt (sSlot j) c fullShare (S (prv c) (back j).val) ∗ if j = 0 then iprop(emp) else slotAny (sSlot 0) (own c j.val))
def asendPay (c : Dev nD) (j : Fin 8) : sProp 𝕄 := if j = 0 then iprop(emp) else slotAny (aSlot j) c
def ssendPay (c : Dev nD) (j : Fin 8) : sProp 𝕄 := if j = 0 then iprop(emp) else slotAny (sSlot j) c

/-- The duties of a cell in round 0. -/
def kduties : Kind → Finset Bool
  | .bar | .ext => Finset.univ
  | .dma k j => if (k = 0 ∧ j = 7) ∨ (k = 1 ∧ j = 0) then ∅ else {false}
  | .other => ∅

def kpay (c : Dev nD) (d : Bool) : Kind → sProp 𝕄
  | .bar => if d then barPayN (nxt c) else barPayP (prv c)
  | .ext => iprop(emp)
  | .other => iprop(emp)
  | .dma k j => if k = 0 then qsendPay Q c j else if k = 1 then qrecvPay Q c j else if k = 2 then asendPay c j
      else if k = 3 then arecvPay A c j else if k = 4 then ssendPay c j else srecvPay S c j

def kamt : Kind → ℕ
  | .bar | .ext | .other => 1
  | .dma k _ => if k.val < 4 then Nq else Ns

def Rd : Rounds.Schedule (GSem nD τ sig) Bool 𝕄 where
  duties g r := if r = 0 ∧ g.1.2 = .tc then kduties (kind g.2) else ∅
  amount g _ _ := kamt (kind g.2)
  payload g _ d := kpay Q A S g.1.1 d (kind g.2)
  amount_pos g _ _ _ := by
    show 0 < kamt _
    cases kind g.2 with
    | dma k j => show 0 < if k.val < 4 then Nq else Ns
                 split
                 · exact Nq_pos
                 · exact Ns_pos
    | bar => exact Nat.one_pos
    | ext => exact Nat.one_pos
    | other => exact Nat.one_pos

instance qsendPay_storable (c : Dev nD) (j : Fin 8) : BI.Storable (upEmb : UEmb _ 𝕄) (qsendPay Q c j) := by unfold qsendPay; infer_instance
instance qrecvPay_storable (c : Dev nD) (j : Fin 8) : BI.Storable (upEmb : UEmb _ 𝕄) (qrecvPay Q c j) := by unfold qrecvPay; infer_instance
instance asendPay_storable (c : Dev nD) (j : Fin 8) : BI.Storable (upEmb : UEmb _ 𝕄) (asendPay (F := F) c j) := by
  unfold asendPay; exact storable_ite _ _ _
instance ssendPay_storable (c : Dev nD) (j : Fin 8) : BI.Storable (upEmb : UEmb _ 𝕄) (ssendPay (F := F) c j) := by
  unfold ssendPay; exact storable_ite _ _ _
instance arecvPay_storable (c : Dev nD) (j : Fin 8) : BI.Storable (upEmb : UEmb _ 𝕄) (arecvPay A c j) := by
  unfold arecvPay; haveI := storable_ite (F := F) (j = 0) iprop(emp) (slotAny (aSlot 0) (own c j.val)); infer_instance
instance srecvPay_storable (c : Dev nD) (j : Fin 8) : BI.Storable (upEmb : UEmb _ 𝕄) (srecvPay S c j) := by
  unfold srecvPay; haveI := storable_ite (F := F) (j = 0) iprop(emp) (slotAny (sSlot 0) (own c j.val)); infer_instance
instance barPayN_storable (n : Dev nD) : BI.Storable (upEmb : UEmb _ 𝕄) (barPayN (F := F) n) := by
  unfold barPayN reachedRecv slotsGift; infer_instance
instance barPayP_storable (n : Dev nD) : BI.Storable (upEmb : UEmb _ 𝕄) (barPayP (F := F) n) := by
  unfold barPayP; infer_instance

theorem kpay_storable (c : Dev nD) (d : Bool) (k : Kind) : BI.Storable (upEmb : UEmb _ 𝕄) (kpay Q A S c d k) := by
  cases k with
  | bar => exact storable_ite _ _ _
  | ext => unfold kpay; infer_instance
  | other => unfold kpay; infer_instance
  | dma k j =>
    unfold kpay
    refine @storable_ite F _ _ _ _ _ _ inferInstance (@storable_ite F _ _ _ _ _ _ inferInstance (@storable_ite F _ _ _ _ _ _ inferInstance
      (@storable_ite F _ _ _ _ _ _ inferInstance (@storable_ite F _ _ _ _ _ _ inferInstance inferInstance))))

instance Rd_payload_storable (g : GSem nD τ sig) (r : ℕ) (d : Bool) :
    BI.Storable (upEmb : UEmb _ 𝕄) ((Rd Q A S).payload g r d) := kpay_storable Q A S _ _ _

variable (c : Dev nD)

theorem duties_bar : (Rd Q A S).duties (barCell c) 0 = Finset.univ := by dsimp only [Rd]; exact if_pos ⟨rfl, rfl⟩
theorem duties_ext : (Rd Q A S).duties (extCell c) 0 = Finset.univ := by dsimp only [Rd]; exact if_pos ⟨rfl, rfl⟩
theorem duties_dS (k : Fin 6) (j : Fin 8) (h : ¬((k = 0 ∧ j = 7) ∨ (k = 1 ∧ j = 0))) :
    (Rd Q A S).duties (dCell c k j) 0 = {false} := by
  dsimp only [Rd]; rw [if_pos ⟨rfl, rfl⟩, kind_dS]; dsimp only [kduties]; rw [if_neg h]
theorem duties_dead (k : Fin 6) (j : Fin 8) (h : (k = 0 ∧ j = 7) ∨ (k = 1 ∧ j = 0)) (r : ℕ) :
    (Rd Q A S).duties (dCell c k j) r = ∅ := by
  dsimp only [Rd]; rw [kind_dS]; dsimp only [kduties]; rw [if_pos h]; split <;> rfl
theorem duties_later (g : GSem nD τ sig) : ∀ r, 1 ≤ r → (Rd Q A S).duties g r = ∅ := fun r hr => by
  dsimp only [Rd]; rw [if_neg (fun h => by omega)]

theorem amount_bar (d : Bool) : (Rd Q A S).amount (barCell c) 0 d = 1 := rfl
theorem amount_ext (d : Bool) : (Rd Q A S).amount (extCell c) 0 d = 1 := rfl
theorem amount_q (k : Fin 6) (hk : k.val < 4) (j : Fin 8) (d : Bool) : (Rd Q A S).amount (dCell c k j) 0 d = Nq := by
  dsimp only [Rd]; rw [kind_dS]; exact if_pos hk
theorem amount_s (k : Fin 6) (hk : ¬k.val < 4) (j : Fin 8) (d : Bool) : (Rd Q A S).amount (dCell c k j) 0 d = Ns := by
  dsimp only [Rd]; rw [kind_dS]; exact if_neg hk

theorem expect_bar : (Rd Q A S).expect (barCell c) 0 = 2 := by
  unfold Schedule.expect Schedule.amountOf; rw [duties_bar]; rfl
theorem expect_ext : (Rd Q A S).expect (extCell c) 0 = 2 := by
  unfold Schedule.expect Schedule.amountOf; rw [duties_ext]; rfl
theorem expect_q (k : Fin 6) (hk : k.val < 4) (j : Fin 8) (h : ¬((k = 0 ∧ j = 7) ∨ (k = 1 ∧ j = 0))) :
    (Rd Q A S).expect (dCell c k j) 0 = Nq := by
  unfold Schedule.expect Schedule.amountOf; rw [duties_dS Q A S c k j h, Finset.sum_singleton, amount_q Q A S c k hk]
theorem expect_s (k : Fin 6) (hk : ¬k.val < 4) (j : Fin 8) (h : ¬((k = 0 ∧ j = 7) ∨ (k = 1 ∧ j = 0))) :
    (Rd Q A S).expect (dCell c k j) 0 = Ns := by
  unfold Schedule.expect Schedule.amountOf; rw [duties_dS Q A S c k j h, Finset.sum_singleton, amount_s Q A S c k hk]

theorem pay_dS (k : Fin 6) (j : Fin 8) (d : Bool) : (Rd Q A S).payload (dCell c k j) 0 d = kpay Q A S c d (.dma k j) := by
  dsimp only [Rd]; rw [kind_dS]

theorem rest_bar : bigSep ((Rd Q A S).duties (barCell c) 0 \ ∅) (fun u => (Rd Q A S).payload (barCell c) 0 u)
    = (iprop(barPayN (nxt c) ∗ barPayP (prv c)) : sProp 𝕄) := by
  rw [Finset.sdiff_empty, duties_bar, show (Finset.univ : Finset Bool) = insert true {false} from by decide,
    bigSep_insert (by decide), bigSep_singleton]
  rfl
theorem rest_dS (k : Fin 6) (j : Fin 8) (h : ¬((k = 0 ∧ j = 7) ∨ (k = 1 ∧ j = 0))) :
    bigSep ((Rd Q A S).duties (dCell c k j) 0 \ ∅) (fun u => (Rd Q A S).payload (dCell c k j) 0 u) = kpay Q A S c false (.dma k j) := by
  rw [Finset.sdiff_empty, duties_dS Q A S c k j h, bigSep_singleton, pay_dS]

theorem close (κ : ℕ) (g : GSem nD τ sig) :
    iprop(cellInv ER (Rd Q A S) κ g ∗ atPos ER g (0 + 1) ∅ 0) ⊢ (|={Set.univ}=> semVal g 0 : sProp 𝕄) :=
  Rounds.cell_close ER (Rd Q A S) (Set.mem_univ κ) id (duties_later Q A S g)
theorem close_dead (κ : ℕ) (k : Fin 6) (j : Fin 8) (h : (k = 0 ∧ j = 7) ∨ (k = 1 ∧ j = 0)) :
    iprop(cellInv ER (Rd Q A S) κ (dCell c k j) ∗ atPos ER (dCell c k j) 0 ∅ 0) ⊢ (|={Set.univ}=> semVal (dCell c k j) 0 : sProp 𝕄) :=
  Rounds.cell_close ER (Rd Q A S) (Set.mem_univ κ) id (fun r _ => duties_dead Q A S c k j h r)

end Sched

/-! ## Levels, and what a device owes -/

def klev : Kind → ℕ
  | .bar => 1
  | .ext => 100
  | .other => 0
  | .dma k j => if k = 1 then 10 + 2 * j.val else if k = 3 ∨ k = 5 then (if j = 0 then 27 else 11 + 2 * j.val) else 0

def L (g : GSem nD τ sig) : Finset Unit := if g.1.2 = .tc then {()} else ∅
def lv (g : GSem nD τ sig) (_ : Unit) : ℕ := klev (kind g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to a TensorCore cell of level above b. -/
def Above (b : ℕ) (O : CellTallies nD τ sig Unit) : Prop := ∀ g u, 0 < O g u → g.1.2 = .tc ∧ b < lv g u

theorem above_zero (b : ℕ) : Above b 0 := fun _ _ h => absurd h (Nat.lt_irrefl 0)
theorem above_add {b : ℕ} {O O' : CellTallies nD τ sig Unit} (h : Above b O) (h' : Above b O') : Above b (O + O') := fun g u hg => by
  have hg' : 0 < O g u + O' g u := hg
  rcases Nat.eq_zero_or_pos (O g u) with h0 | h0
  · rw [h0, Nat.zero_add] at hg'; exact h' g u hg'
  · exact h g u h0
theorem above_sum {b : ℕ} {ι : Type} (s : Finset ι) (f : ι → CellTallies nD τ sig Unit) (h : ∀ i ∈ s, Above b (f i)) :
    Above b (∑ i ∈ s, f i) := by
  classical
  induction s using Finset.induction_on with
  | empty => exact above_zero b
  | insert a s ha ih =>
    rw [Finset.sum_insert ha]
    exact above_add (h a (Finset.mem_insert_self _ _)) (ih fun i hi => h i (Finset.mem_insert_of_mem hi))
theorem above_tally {b : ℕ} (c : Dev nD) (s : SemLoc sig) (n : ℕ) (h : b < klev (kind s)) : Above b (tallyAt (cell c s) () n) := fun g u hg => by
  rw [tallyAt_apply] at hg
  by_cases hh : g = cell c s ∧ u = ()
  · rw [hh.1]; exact ⟨rfl, h⟩
  · rw [if_neg hh] at hg; exact absurd hg (Nat.lt_irrefl 0)

theorem mayWait_of_above {b : ℕ} {c : Dev nD} {s : SemLoc sig} {O : CellTallies nD τ sig Unit} (hs : klev (kind s) ≤ b) (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

/-- Slot numbers from step numbers. -/
abbrev sl (j : ℕ) : Fin 8 := Fin.ofNat 8 j

def Oq (n : Dev nD) (t : ℕ) : CellTallies nD τ sig Unit := ∑ j ∈ Finset.Ico t 7, tallyAt (dCell n 1 (sl (j + 1))) () Nq
def Oa (n : Dev nD) (t : ℕ) : CellTallies nD τ sig Unit := ∑ j ∈ Finset.Ico t 8, tallyAt (dCell n 3 (sl (j + 1))) () Nq
def Os (n : Dev nD) (t : ℕ) : CellTallies nD τ sig Unit := ∑ j ∈ Finset.Ico t 8, tallyAt (dCell n 5 (sl (j + 1))) () Ns
def Ox (c : Dev nD) : CellTallies nD τ sig Unit := tallyAt (extCell (nxt c)) () 1 + tallyAt (extCell (prv c)) () 1

/-- What device c owes at the top of trip t; what it owes at launch. -/
def Ot (c : Dev nD) (t : ℕ) : CellTallies nD τ sig Unit := Ox c + Oa (nxt c) t + Os (nxt c) t + Oq (nxt c) t
def O₀ (c : Dev nD) : CellTallies nD τ sig Unit := Ot c 0 + tallyAt (barCell (nxt c)) () 1 + tallyAt (barCell (prv c)) () 1

theorem Oq_peel (n : Dev nD) {t : ℕ} (h : t < 7) : Oq n t = Oq n (t + 1) + tallyAt (dCell n 1 (sl (t + 1))) () Nq := by
  unfold Oq; rw [Finset.sum_eq_sum_Ico_succ_bot h, add_comm]
theorem Oa_peel (n : Dev nD) {t : ℕ} (h : t < 8) : Oa n t = Oa n (t + 1) + tallyAt (dCell n 3 (sl (t + 1))) () Nq := by
  unfold Oa; rw [Finset.sum_eq_sum_Ico_succ_bot h, add_comm]
theorem Os_peel (n : Dev nD) {t : ℕ} (h : t < 8) : Os n t = Os n (t + 1) + tallyAt (dCell n 5 (sl (t + 1))) () Ns := by
  unfold Os; rw [Finset.sum_eq_sum_Ico_succ_bot h, add_comm]
theorem Oq_end (n : Dev nD) {t : ℕ} (h : 7 ≤ t) : Oq n t = 0 := by unfold Oq; rw [Finset.Ico_eq_empty_of_le h, Finset.sum_empty]
theorem Oa_end (n : Dev nD) {t : ℕ} (h : 8 ≤ t) : Oa n t = 0 := by unfold Oa; rw [Finset.Ico_eq_empty_of_le h, Finset.sum_empty]
theorem Os_end (n : Dev nD) {t : ℕ} (h : 8 ≤ t) : Os n t = 0 := by unfold Os; rw [Finset.Ico_eq_empty_of_le h, Finset.sum_empty]

theorem klev_q (j : Fin 8) : klev (kind (.dma (dS 1 j))) = 10 + 2 * j.val := by rw [kind_dS]; rfl
theorem klev_a (j : Fin 8) : klev (kind (.dma (dS 3 j))) = if j = 0 then 27 else 11 + 2 * j.val := by rw [kind_dS]; rfl
theorem klev_s (j : Fin 8) : klev (kind (.dma (dS 5 j))) = if j = 0 then 27 else 11 + 2 * j.val := by rw [kind_dS]; rfl
theorem sl_val {j : ℕ} (h : j < 8) : (sl j).val = j := Nat.mod_eq_of_lt h

theorem above_Ox {b : ℕ} (c : Dev nD) (h : b < 100) : Above b (Ox c) :=
  above_add (above_tally _ _ _ h) (above_tally _ _ _ h)
theorem above_Oq {b : ℕ} (n : Dev nD) (t : ℕ) (h : b < 12 + 2 * t) : Above b (Oq n t) :=
  above_sum _ _ fun j hj => above_tally _ _ _ (by
    have := Finset.mem_Ico.mp hj; rw [klev_q, sl_val (by omega)]; omega)
theorem lev_as {b t j : ℕ} (h : b < 13 + 2 * t) (hb : b < 27) (hj : t ≤ j) (hj' : j < 8) :
    b < if sl (j + 1) = 0 then 27 else 11 + 2 * (sl (j + 1)).val := by
  split
  · exact hb
  · rename_i hne
    have : j + 1 < 8 := by
      rcases Nat.lt_or_ge (j + 1) 8 with h | h
      · exact h
      · exact absurd (by have : j = 7 := by omega
                         rw [this]; rfl) hne
    rw [sl_val this]; omega
theorem above_Oa {b : ℕ} (n : Dev nD) (t : ℕ) (h : b < 13 + 2 * t) (hb : b < 27) : Above b (Oa n t) :=
  above_sum _ _ fun j hj => above_tally _ _ _ (by
    have := Finset.mem_Ico.mp hj; rw [klev_a]; exact lev_as h hb this.1 this.2)
theorem above_Os {b : ℕ} (n : Dev nD) (t : ℕ) (h : b < 13 + 2 * t) (hb : b < 27) : Above b (Os n t) :=
  above_sum _ _ fun j hj => above_tally _ _ _ (by
    have := Finset.mem_Ico.mp hj; rw [klev_s]; exact lev_as h hb this.1 this.2)

end Cert.KernelIdeal.Ring

end
-- ==== Proof.Segs.lean ====
/-
  One trip of the ring loop, cut at its communication: the waits at the top, the query's hop, the eight heads, the waits
  before the merge, the merge, and the two hops of the sums.
-/
module

public import proofs.«01_k».proof.Proof.Ring

@[expose] public section

noncomputable section

namespace Cert.KernelIdeal.Ring

open Cert.KernelIdeal Cert.KernelIdeal.Gen
open Idealize.ShloMosaic Idealize.SL.Sem

variable {F : FTy → Type} [FloatOps F] [Named F]

section
variable (arg0 : Memref sig .tc .smem S11 .i32) (harg0 : arg0.IsWhole) (arg1 : Memref sig .tc .vmem S8x256x128 .bf16) (harg1 : arg1.IsWhole) (arg2 : Memref sig .tc .hbm S8x4096x128 .bf16) (harg2 : arg2.IsWhole) (arg3 : Memref sig .tc .hbm S8x4096x128 .bf16) (harg3 : arg3.IsWhole) (arg4 : Memref sig .tc .vmem S8x256x128 .f32) (harg4 : arg4.IsWhole) (arg5 : Memref sig .tc .vmem S8x8x256x128 .bf16) (harg5 : arg5.IsWhole) (arg6 : Memref sig .tc .vmem S8x8x256x128 .bf16) (harg6 : arg6.IsWhole) (arg7 : Memref sig .tc .vmem S8x256x8 .f32) (harg7 : arg7.IsWhole) (arg8 : Memref sig .tc .vmem S8x256x128 .bf16) (harg8 : arg8.IsWhole) (arg9 : Memref sig .tc .vmem S256x8 .f32) (harg9 : arg9.IsWhole) (arg10 : Memref sig .tc .vmem S2x4096x128 .bf16) (harg10 : arg10.IsWhole) (arg11 : Memref sig .tc .vmem S2x4096x128 .bf16) (harg11 : arg11.IsWhole) (arg12 : DmaSems sig S8) (arg13 : DmaSems sig S8) (arg14 : DmaSems sig S8) (arg15 : DmaSems sig S8) (arg16 : DmaSems sig S8) (arg17 : DmaSems sig S8) (arg18 : DmaSems sig S2) (arg19 : DmaSems sig S2) (v183_r0 : Sems sig S_)

/-- The waits at the top of a trip: the query's departure of the trip before and its arrival. -/
def segW (k0_t1 : Fin k0_t1_loop.trips) : Prog (TpuEff nD τ sig (Elt F) Λ₀ .tc) (PUnit) := do
  if k0_h1 : k0_cond1 k0_t1 = 1#1 then do
    let v813 : DmaSems sig S1 := arg12.slice (Rect.unit (s := S8) (k0_off1 k0_t1) S1.size (k0_off1_inb k0_t1 k0_h1))
    let v814 : DmaSems sig S_ := v813.squeeze S_ squeezes_S1_S_
    let v815 : Memref sig .tc .vmem S1x8x256x128 .bf16 := arg5.slice (Rect.unit (s := S8x8x256x128) (k0_off2 k0_t1) S1x8x256x128.size (k0_off2_inb k0_t1 k0_h1)) (fun _ => rfl)
    let v816 : Memref sig .tc .vmem S8x256x128 .bf16 := v815.squeeze S8x256x128 squeezes_S1x8x256x128_S8x256x128
    let v817 : Memref sig .tc .vmem S1x8x256x128 .bf16 := arg5.slice (Rect.unit (s := S8x8x256x128) (k0_off3 k0_t1) S1x8x256x128.size (k0_off3_inb k0_t1 k0_h1)) (fun _ => rfl)
    let v818 : Memref sig .tc .vmem S8x256x128 .bf16 := v817.squeeze S8x256x128 squeezes_S1x8x256x128_S8x256x128
    Prog.lift (.waitDma2 v814.sem v818 v816 ((harg5.wordExact_slice rfl _ (k0_off3_wordsbf16 k0_t1 k0_h1)).reshape _ _) ((harg5.wordExact_slice rfl _ (k0_off2_wordsbf16 k0_t1 k0_h1)).reshape _ _))
    let v821 : DmaSems sig S1 := arg13.slice (Rect.unit (s := S8) (k0_off4 k0_t1) S1.size (k0_off4_inb k0_t1 k0_h1))
    let v822 : DmaSems sig S_ := v821.squeeze S_ squeezes_S1_S_
    let v823 : Memref sig .tc .vmem S1x8x256x128 .bf16 := arg5.slice (Rect.unit (s := S8x8x256x128) (k0_off3 k0_t1) S1x8x256x128.size (k0_off3_inb k0_t1 k0_h1)) (fun _ => rfl)
    let v824 : Memref sig .tc .vmem S8x256x128 .bf16 := v823.squeeze S8x256x128 squeezes_S1x8x256x128_S8x256x128
    let v825 : Memref sig .tc .vmem S1x8x256x128 .bf16 := arg5.slice (Rect.unit (s := S8x8x256x128) (k0_off3 k0_t1) S1x8x256x128.size (k0_off3_inb k0_t1 k0_h1)) (fun _ => rfl)
    let v826 : Memref sig .tc .vmem S8x256x128 .bf16 := v825.squeeze S8x256x128 squeezes_S1x8x256x128_S8x256x128
    Prog.lift (.waitDma2 v822.sem v826 v824 ((harg5.wordExact_slice rfl _ (k0_off3_wordsbf16 k0_t1 k0_h1)).reshape _ _) ((harg5.wordExact_slice rfl _ (k0_off3_wordsbf16 k0_t1 k0_h1)).reshape _ _))
    pure ⟨⟩
  else do
    pure ⟨⟩

/-- The query's hop. -/
def segHop (v0 : Elt F .i32) (k0_hw2 : k0_chk2 v0) (k0_t1 : Fin k0_t1_loop.trips) : Prog (TpuEff nD τ sig (Elt F) Λ₀ .tc) (PUnit) := do
  if k0_h2 : k0_cond2 k0_t1 = 1#1 then do
    let v814 : DmaSems sig S1 := arg12.slice (Rect.unit (s := S8) (k0_off5 k0_t1) S1.size (k0_off5_inb k0_t1 k0_h2))
    let v815 : DmaSems sig S_ := v814.squeeze S_ squeezes_S1_S_
    let v816 : DmaSems sig S1 := arg13.slice (Rect.unit (s := S8) (k0_off6 k0_t1) S1.size (k0_off6_inb k0_t1 k0_h2))
    let v817 : DmaSems sig S_ := v816.squeeze S_ squeezes_S1_S_
    let v818 : Memref sig .tc .vmem S1x8x256x128 .bf16 := arg5.slice (Rect.unit (s := S8x8x256x128) (k0_off7 k0_t1) S1x8x256x128.size (k0_off7_inb k0_t1 k0_h2)) (fun _ => rfl)
    let v819 : Memref sig .tc .vmem S8x256x128 .bf16 := v818.squeeze S8x256x128 squeezes_S1x8x256x128_S8x256x128
    let v820 : Memref sig .tc .vmem S1x8x256x128 .bf16 := arg5.slice (Rect.unit (s := S8x8x256x128) (k0_off8 k0_t1) S1x8x256x128.size (k0_off8_inb k0_t1 k0_h2)) (fun _ => rfl)
    let v821 : Memref sig .tc .vmem S8x256x128 .bf16 := v820.squeeze S8x256x128 squeezes_S1x8x256x128_S8x256x128
    Prog.lift (.enqueueDma v821 (.remote (Dev.tc (⟨k0_dev3 v0, k0_dev3_lt v0 k0_hw2 k0_t1 k0_h2⟩ : Dev nD)) v819 (.dma v815.sem)) (.dma v817.sem) ((harg5.wordExact_slice rfl _ (k0_off8_wordsbf16 k0_t1 k0_h2)).reshape _ _) ((harg5.wordExact_slice rfl _ (k0_off7_wordsbf16 k0_t1 k0_h2)).reshape _ _) ⟨⟨rfl, Or.inl rfl⟩, trivial⟩)
    pure ⟨⟩
  else do
    pure ⟨⟩

/-- The eight heads: the first blocks' copies, then per head the scores, the row sums and the weighted values. -/
def segHeads (k0_t1 : Fin k0_t1_loop.trips) (arg20 : BitVec 32) (v45 : IVec S256x1 32) (v73 : IVec S1x4096 32) : Prog (TpuEff nD τ sig (Elt F) Λ₀ .tc) (PUnit) := do
  let v200 : DmaSems sig S1 := arg18.slice (Rect.unit (s := S2) ![0] S1.size inb_S2_S1_0)
  let v201 : DmaSems sig S_ := v200.squeeze S_ squeezes_S1_S_
  let v202 : Memref sig .tc .vmem S1x4096x128 .bf16 := arg10.slice (Rect.unit (s := S2x4096x128) ![0, 0, 0] S1x4096x128.size inb_S2x4096x128_S1x4096x128_0_0_0) (fun _ => rfl)
  let v203 : Memref sig .tc .vmem S4096x128 .bf16 := v202.squeeze S4096x128 squeezes_S1x4096x128_S4096x128
  let v204 : Memref sig .tc .hbm S1x4096x128 .bf16 := arg2.slice (Rect.unit (s := S8x4096x128) ![0, 0, 0] S1x4096x128.size inb_S8x4096x128_S1x4096x128_0_0_0) (fun _ => rfl)
  let v205 : Memref sig .tc .hbm S4096x128 .bf16 := v204.squeeze S4096x128 squeezes_S1x4096x128_S4096x128
  Prog.lift (.enqueueDma v205 (.here v203) (.dma v201.sem) ((harg2.wordExact_slice rfl _ wordsbf16_S8x4096x128_S1x4096x128_0_0_0).reshape _ _) ((harg10.wordExact_slice rfl _ wordsbf16_S2x4096x128_S1x4096x128_0_0_0).reshape _ _) ⟨Or.inl rfl, trivial⟩)
  let v206 : DmaSems sig S1 := arg19.slice (Rect.unit (s := S2) ![0] S1.size inb_S2_S1_0)
  let v207 : DmaSems sig S_ := v206.squeeze S_ squeezes_S1_S_
  let v208 : Memref sig .tc .vmem S1x4096x128 .bf16 := arg11.slice (Rect.unit (s := S2x4096x128) ![0, 0, 0] S1x4096x128.size inb_S2x4096x128_S1x4096x128_0_0_0) (fun _ => rfl)
  let v209 : Memref sig .tc .vmem S4096x128 .bf16 := v208.squeeze S4096x128 squeezes_S1x4096x128_S4096x128
  let v210 : Memref sig .tc .hbm S1x4096x128 .bf16 := arg3.slice (Rect.unit (s := S8x4096x128) ![0, 0, 0] S1x4096x128.size inb_S8x4096x128_S1x4096x128_0_0_0) (fun _ => rfl)
  let v211 : Memref sig .tc .hbm S4096x128 .bf16 := v210.squeeze S4096x128 squeezes_S1x4096x128_S4096x128
  Prog.lift (.enqueueDma v211 (.here v209) (.dma v207.sem) ((harg3.wordExact_slice rfl _ wordsbf16_S8x4096x128_S1x4096x128_0_0_0).reshape _ _) ((harg11.wordExact_slice rfl _ wordsbf16_S2x4096x128_S1x4096x128_0_0_0).reshape _ _) ⟨Or.inl rfl, trivial⟩)
  let v248 : FVec F S256x4096 .f32 ← k0_part3 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v45 v73 k0_t1
  let v281 : FVec F S256x4096 .f32 ← k0_part4 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v248
  k0_part5 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v281
  let v339 : FVec F S256x128 .bf16 ← k0_part6 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v248
  k0_part7 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v339
  k0_part8 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v248
  let ⟨v423, v424⟩ : Σ' (v423 : FVec F S256x4096 .f32), FVec F S256 .f32 ← k0_part9 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v248
  k0_part10 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v423 v424
  let v480 : FVec F S256x128 .bf16 ← k0_part11 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v248
  k0_part12 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 arg20 v480
  k0_part13 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 v248
  let ⟨v564, v566⟩ : Σ' (v564 : FVec F S256x4096 .f32), FVec F S256x1 .f32 ← k0_part14 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v248
  let ⟨v592, v594, cst_523⟩ : Σ' (v592 : FVec F S256x128 .bf16) (v594 : FVec F S4096x128 .bf16), FVec F S256x4096 .f32 ← k0_part15 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v564 v566
  let v602 : Vec F S256x1 .f32 ← Prog.lift (.load arg9 (Rect.unit (s := S256x8) ![0, 7] S256x1.size inb_S256x8_S256x1_0_7).toLoadRect (View.loadsAt_vmem h_S256x1))
  Prog.lift (.store arg9 (Rect.unit (s := S256x8) ![0, 7] S256x1.size inb_S256x8_S256x1_0_7) (k0_pay32 v248 v592 v594 cst_523) Finset.univ (View.stores_vmem_bits_univ h_S256x1 rfl) (.inl rfl))
  let v606 : Vec F S1x4096x128 .bf16 ← Prog.lift (.load arg11 (Rect.unit (s := S2x4096x128) ![1, 0, 0] S1x4096x128.size inb_S2x4096x128_S1x4096x128_1_0_0).toLoadRect (View.loadsAt_vmem h_S1x4096x128))
  let v610 : Vec F S1x256x128 .bf16 ← Prog.lift (.load arg8 (Rect.unit (s := S8x256x128) ![7, 0, 0] S1x256x128.size inb_S8x256x128_S1x256x128_7_0_0).toLoadRect (View.loadsAt_vmem h_S1x256x128))
  Prog.lift (.store arg8 (Rect.unit (s := S8x256x128) ![7, 0, 0] S1x256x128.size inb_S8x256x128_S1x256x128_7_0_0) (k0_pay33 v248 v592 v594 cst_523 v606) Finset.univ (View.stores_vmem h_S1x256x128 (harg8.storeExact_slice rfl _ packedbf16_S8x256x128_S1x256x128_7_0_0) (fun _ => rfl)) (.inl rfl))
  pure ⟨⟩

/-- The waits before the merge. -/
def segJoin (v0 : Elt F .i32) (k0_t1 : Fin k0_t1_loop.trips) (arg20 : BitVec 32) : Prog (TpuEff nD τ sig (Elt F) Λ₀ .tc) (PUnit) := do
  if k0_h3 : k0_cond3 k0_t1 = 1#1 then do
    k0_part1 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_t1 arg20 k0_h3
    pure ⟨⟩
  else do
    pure ⟨⟩

/-- The merge of the heads' sums into the travelling ones. -/
def segMerge (v0 : Elt F .i32) (k0_t1 : Fin k0_t1_loop.trips) (arg20 : BitVec 32) : Prog (TpuEff nD τ sig (Elt F) Λ₀ .tc) (PUnit) := do
  let v617 : Vec F S1x256x1 .f32 ← Prog.lift (.load arg7 (Rect.unit (s := S8x256x8) (k0_off24 k0_t1) S1x256x1.size (k0_off24_inb k0_t1)).toLoadRect (View.loadsAt_vmem h_S1x256x1))
  let v619 : Vec F S256x1 .f32 ← Prog.lift (.load arg9 (Rect.unit (s := S256x8) ![0, 0] S256x1.size inb_S256x8_S256x1_0_0).toLoadRect (View.loadsAt_vmem h_S256x1))
  let v622 : Vec F S1x256x1 .f32 ← Prog.lift (.load arg7 (Rect.unit (s := S8x256x8) (k0_off24 k0_t1) S1x256x1.size (k0_off24_inb k0_t1)).toLoadRect (View.loadsAt_vmem h_S1x256x1))
  Prog.lift (.store arg7 (Rect.unit (s := S8x256x8) (k0_off24 k0_t1) S1x256x1.size (k0_off24_inb k0_t1)) (k0_pay34 v617 v619) Finset.univ (View.stores_vmem_bits_univ h_S1x256x1 rfl) (.inl rfl))
  let v626 : Vec F S1x1x256x128 .bf16 ← Prog.lift (.load arg6 (Rect.unit (s := S8x8x256x128) (k0_off10 k0_t1) S1x1x256x128.size (k0_off10_inb k0_t1)).toLoadRect (View.loadsAt_vmem h_S1x1x256x128))
  let v628 : FVec F S256x128 .f32 := k0_pay35 v626
  let v662 : FVec F S256x1 .f32 ← k0_part17 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v628
  let v694 : FVec F S256x128 .f32 ← k0_part18 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v662
  let ⟨v728, v729⟩ : Σ' (v728 : FVec F S256x1 .f32), Vec F S256x1 .f32 ← k0_part19 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v694
  let ⟨v760, v763⟩ : Σ' (v760 : FVec F S256x128 .f32), FVec F S256x128 .f32 ← k0_part20 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 arg20 v728 v729
  k0_part21 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_t1 arg20 v760 v763

/-- The two hops of the sums. -/
def segSend (v0 : Elt F .i32) (k0_hw2 : k0_chk2 v0) (k0_t1 : Fin k0_t1_loop.trips) : Prog (TpuEff nD τ sig (Elt F) Λ₀ .tc) (PUnit) := do
  let v798 : Memref sig .tc .vmem S1x8x256x128 .bf16 := arg6.slice (Rect.unit (s := S8x8x256x128) (k0_off34 k0_t1) S1x8x256x128.size (k0_off34_inb k0_t1)) (fun _ => rfl)
  let v799 : Memref sig .tc .vmem S8x256x128 .bf16 := v798.squeeze S8x256x128 squeezes_S1x8x256x128_S8x256x128
  let v800 : Memref sig .tc .vmem S1x8x256x128 .bf16 := arg6.slice (Rect.unit (s := S8x8x256x128) (k0_off35 k0_t1) S1x8x256x128.size (k0_off35_inb k0_t1)) (fun _ => rfl)
  let v801 : Memref sig .tc .vmem S8x256x128 .bf16 := v800.squeeze S8x256x128 squeezes_S1x8x256x128_S8x256x128
  let v794 : DmaSems sig S1 := arg14.slice (Rect.unit (s := S8) (k0_off32 k0_t1) S1.size (k0_off32_inb k0_t1))
  let v795 : DmaSems sig S_ := v794.squeeze S_ squeezes_S1_S_
  let v796 : DmaSems sig S1 := arg15.slice (Rect.unit (s := S8) (k0_off33 k0_t1) S1.size (k0_off33_inb k0_t1))
  let v797 : DmaSems sig S_ := v796.squeeze S_ squeezes_S1_S_
  Prog.lift (.enqueueDma v801 (.remote (Dev.tc (⟨k0_dev4 v0, k0_dev4_lt v0 k0_hw2⟩ : Dev nD)) v799 (.dma v795.sem)) (.dma v797.sem) ((harg6.wordExact_slice rfl _ (k0_off35_wordsbf16 k0_t1)).reshape _ _) ((harg6.wordExact_slice rfl _ (k0_off34_wordsbf16 k0_t1)).reshape _ _) ⟨⟨rfl, Or.inl rfl⟩, trivial⟩)
  let v804 : DmaSems sig S1 := arg16.slice (Rect.unit (s := S8) (k0_off32 k0_t1) S1.size (k0_off32_inb k0_t1))
  let v805 : DmaSems sig S_ := v804.squeeze S_ squeezes_S1_S_
  let v806 : DmaSems sig S1 := arg17.slice (Rect.unit (s := S8) (k0_off33 k0_t1) S1.size (k0_off33_inb k0_t1))
  let v807 : DmaSems sig S_ := v806.squeeze S_ squeezes_S1_S_
  let v808 : Memref sig .tc .vmem S1x256x8 .f32 := arg7.slice (Rect.unit (s := S8x256x8) (k0_off36 k0_t1) S1x256x8.size (k0_off36_inb k0_t1)) (fun _ => rfl)
  let v809 : Memref sig .tc .vmem S256x8 .f32 := v808.squeeze S256x8 squeezes_S1x256x8_S256x8
  let v810 : Memref sig .tc .vmem S1x256x8 .f32 := arg7.slice (Rect.unit (s := S8x256x8) (k0_off37 k0_t1) S1x256x8.size (k0_off37_inb k0_t1)) (fun _ => rfl)
  let v811 : Memref sig .tc .vmem S256x8 .f32 := v810.squeeze S256x8 squeezes_S1x256x8_S256x8
  Prog.lift (.enqueueDma v811 (.remote (Dev.tc (⟨k0_dev5 v0, k0_dev5_lt v0 k0_hw2⟩ : Dev nD)) v809 (.dma v805.sem)) (.dma v807.sem) ((View.wordExact_bits rfl).reshape _ _) ((View.wordExact_bits rfl).reshape _ _) ⟨⟨rfl, Or.inl rfl⟩, trivial⟩)
  pure ⟨⟩

theorem trip_eq (v0 : Elt F .i32) (k0_hw2 : k0_chk2 v0) (v2 : Elt F .i32) (v45 : IVec S256x1 32) (v70 : IVec S1x4096 32)
    (k0_t1 : Fin k0_t1_loop.trips) :
    k0_t1_body arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_hw2 v2 v45 v70 k0_t1 ()
      = (segW arg5 harg5 arg12 arg13 k0_t1 >>= fun _ =>
        segHop arg5 harg5 arg12 arg13 v0 k0_hw2 k0_t1 >>= fun _ =>
        segHeads arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 k0_t1 (Scf.iv 0#32 1#32 k0_t1) v45 (k0_pay62 v2 v70) >>= fun _ =>
        segJoin arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_t1 (Scf.iv 0#32 1#32 k0_t1) >>= fun _ =>
        segMerge arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_t1 (Scf.iv 0#32 1#32 k0_t1) >>= fun _ =>
        segSend arg6 harg6 arg7 arg14 arg15 arg16 arg17 v0 k0_hw2 k0_t1) := by
  unfold k0_t1_body segW segHop segHeads segJoin segMerge segSend
  rw [k0_part2_eq_skeleton, k0_part16_eq_skeleton]
  unfold k0_part2_skel k0_part16_skel
  by_cases h1 : k0_cond1 k0_t1 = 1#1 <;> by_cases h2 : k0_cond2 k0_t1 = 1#1 <;> by_cases h3 : k0_cond3 k0_t1 = 1#1 <;>
    simp only [h1, h2, h3, dif_pos, dif_neg, bind_assoc, pure_bind, not_false_eq_true, dite_true, dite_false]

end

end Cert.KernelIdeal.Ring

end
-- ==== Proof.Slots.lean ====
/-
  The slots of the kernel's scratch buffers: that a block the body loads or stores through a whole buffer lies in the slot
  held of it.
-/
module

public import proofs.«01_k».proof.Proof.Segs

@[expose] public section

noncomputable section

namespace Cert.KernelIdeal.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

theorem trips_eq : k0_t1_loop.trips = 8 := by decide

/-- The trip as a slot number. -/
abbrev tj (k0_t1 : Fin k0_t1_loop.trips) : Fin 8 := ⟨k0_t1.val, trips_eq ▸ k0_t1.isLt⟩

/-- A whole buffer's points-to. -/
abbrev wPt (c : Dev nD) (b : Ref sig .tc) (q : PosShare TreeShare) (f : b.ty.Contents (Elt F)) : sProp 𝕄 :=
  (Memref.whole b).view.loc (c : Thread nD τ) ↦{q} f

/-- One of the two slots of a double buffer. -/
abbrev kvSlot (b : Memref sig .tc .vmem S2x4096x128 .bf16) (i : Fin 2) : Memref sig .tc .vmem S4096x128 .bf16 :=
  (b.slice (Rect.unit (s := S2x4096x128) ![i.val, 0, 0] S1x4096x128.size (by revert i; decide)) (fun _ => rfl)).squeeze
    S4096x128 squeezes_S1x4096x128_S4096x128

/-- Of two unit rectangles of a memref, the smaller's elements lie in the larger's slice, squeezed. -/
theorem access_subset_slot {κ : Idealize.ShloMosaic.Kind} {sp : Space} {s s' : Shape} {e : EltTy} (M : Memref sig κ sp s e)
    (o o' z z' : Fin s.rank → ℕ) (h : ∀ a, o a + z a ≤ s.size a) (h' : ∀ a, o' a + z' a ≤ s.size a)
    (hs : ∀ a, (Rect.unit o' z' h').stride a = 1) (sq : (Rect.unit o' z' h').shape.Squeezes s')
    (hoo : ∀ a, o' a ≤ o a ∧ o a + z a ≤ o' a + z' a) :
    (M.access (Rect.unit o z h)).set ⊆ ((M.slice (Rect.unit o' z' h') hs).squeeze s' sq).view.set := by
  rw [Memref.set_view_squeeze]
  show (M.view.slice (Rect.unit o z h)).set ⊆ (M.view.slice (Rect.unit o' z' h')).set
  rw [View.set_slice, View.set_slice]
  refine Finset.map_subset_map.mpr fun i hi => ?_
  rw [Rect.mem_set_unit] at hi ⊢
  intro a
  have := hi a; have := hoo a
  omega

/-- A head's block lies in its slot: of the queries, -/
theorem q_incl (j : Fin 8) (off : Fin 4 → ℕ) (h : ℕ) (hoff : off = ![j.val, h, 0, 0]) (hb : h < 8)
    (hin : ∀ a, off a + S1x1x256x128.size a ≤ S8x8x256x128.size a) :
    ((Memref.whole cc0_scratch0).access (Rect.unit (s := S8x8x256x128) off S1x1x256x128.size hin)).set ⊆ (qSlot j).view.set := by
  refine access_subset_slot (Memref.whole cc0_scratch0) off _ _ _ hin (inbQ j) (fun _ => rfl) _ fun a => ?_
  subst hoff
  fin_cases a
  all_goals (constructor <;> simp [S1x8x256x128, S1x1x256x128] <;> omega)

/-- of the partial sums, -/
theorem a_incl (j : Fin 8) (off : Fin 4 → ℕ) (h : ℕ) (hoff : off = ![j.val, h, 0, 0]) (hb : h < 8)
    (hin : ∀ a, off a + S1x1x256x128.size a ≤ S8x8x256x128.size a) :
    ((Memref.whole cc0_scratch1).access (Rect.unit (s := S8x8x256x128) off S1x1x256x128.size hin)).set ⊆ (aSlot j).view.set := by
  refine access_subset_slot (Memref.whole cc0_scratch1) off _ _ _ hin (inbQ j) (fun _ => rfl) _ fun a => ?_
  subst hoff
  fin_cases a
  all_goals (constructor <;> simp [S1x8x256x128, S1x1x256x128] <;> omega)

/-- and of the row sums. -/
theorem s_incl (j : Fin 8) (off : Fin 3 → ℕ) (h : ℕ) (hoff : off = ![j.val, 0, h]) (hb : h < 8)
    (hin : ∀ a, off a + S1x256x1.size a ≤ S8x256x8.size a) :
    ((Memref.whole cc0_scratch2).access (Rect.unit (s := S8x256x8) off S1x256x1.size hin)).set ⊆ (sSlot j).view.set := by
  refine access_subset_slot (Memref.whole cc0_scratch2) off _ _ _ hin (inbS j) (fun _ => rfl) _ fun a => ?_
  subst hoff
  fin_cases a
  all_goals (constructor <;> simp [S1x256x8, S1x256x1] <;> omega)

/-- The same of the elements a full store writes. -/
theorem a_incl_on (j : Fin 8) (off : Fin 4 → ℕ) (h : ℕ) (hoff : off = ![j.val, h, 0, 0]) (hb : h < 8)
    (hin : ∀ a, off a + S1x1x256x128.size a ≤ S8x8x256x128.size a) :
    ((Memref.whole cc0_scratch1).access (Rect.unit (s := S8x8x256x128) off S1x1x256x128.size hin)).setOn Finset.univ
      ⊆ (aSlot j).view.set := by
  rw [View.setOn_univ]; exact a_incl j off h hoff hb hin

theorem s_incl_on (j : Fin 8) (off : Fin 3 → ℕ) (h : ℕ) (hoff : off = ![j.val, 0, h]) (hb : h < 8)
    (hin : ∀ a, off a + S1x256x1.size a ≤ S8x256x8.size a) :
    ((Memref.whole cc0_scratch2).access (Rect.unit (s := S8x256x8) off S1x256x1.size hin)).setOn Finset.univ
      ⊆ (sSlot j).view.set := by
  rw [View.setOn_univ]; exact s_incl j off h hoff hb hin

end Cert.KernelIdeal.Ring

end
-- ==== Proof.Values.lean ====
/-
  What the body computes, as functions of blocks: the scores' exponentials of one head, their row sums, their product with
  the values; a tile of all eight heads; and the merge of a tile into the partial sums. With it, how the buffers' blocks read
  and write, element by element.
-/
module

public import proofs.«01_k».proof.Proof.Slots
public import Idealize.ShloMosaic.Lib.WritesUnit
public import Idealize.ShloMosaic.Lib.ValueLayout
public import Idealize.ShloMosaic.Lib.Pipeline.Value

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL.Sem

variable {F : FTy → Type} [FloatOps F] [Named F]

/-! ## One head -/

/-- The exponentials of a head's scores, the mask's bias added. -/
def headE (b : FVec F S256x4096 .f32) (x : FVec F S256x128 .bf16) (k : FVec F S4096x128 .bf16) : FVec F S256x4096 .f32 :=
  exp2 (addf (mulf (matmul dot_S256x128_S4096x128_S256x4096_1_1_0_0_n_n none x k (constant S256x4096 .f32 0x00000000#32))
    (broadcast S256x4096 (Named.named κ "scale2" 0x3E0293EE#32))) b)

/-- Their row sums. -/
def headL (b : FVec F S256x4096 .f32) (x : FVec F S256x128 .bf16) (k : FVec F S4096x128 .bf16) : FVec F S256 .f32 :=
  multiReduction .add [1] S256 (headE b x k) 0x00000000#32 reduces_S256x4096_S256 (.inl rfl) rfl

/-- Their product with the head's values. -/
def headP (b : FVec F S256x4096 .f32) (x : FVec F S256x128 .bf16) (k v : FVec F S4096x128 .bf16) : FVec F S256x128 .bf16 :=
  truncf .bf16 (matmul dot_S256x4096_S4096x128_S256x128_1_0_0_1_n_n none (truncf .bf16 (headE b x k) bitsLt_bf16_f32) v
    (constant S256x128 .f32 0x00000000#32)) bitsLt_bf16_f32

/-- A head's rows of the queries, and of the keys or values. -/
def qRow (X : QT F) (h : Fin 8) : FVec F S256x128 .bf16 := fun i => X (ix3 h (i 0) (i 1))
def kRow (K : FVec F S8x4096x128 .bf16) (h : Fin 8) : FVec F S4096x128 .bf16 := fun i => K (ix3 h (i 0) (i 1))

/-- The tile of all heads: the products, and the row sums. -/
def PT (b : FVec F S256x4096 .f32) (X : QT F) (K V : FVec F S8x4096x128 .bf16) : QT F := fun i =>
  headP b (qRow X (i 0)) (kRow K (i 0)) (kRow V (i 0)) (ix2 (i 1) (i 2))
def LT (b : FVec F S256x4096 .f32) (X : QT F) (K : FVec F S8x4096x128 .bf16) : ST F := fun i =>
  headL b (qRow X (i 1)) (kRow K (i 1)) (ix1 (i 0))

/-- The merge of a tile into the sums that travel. -/
def mA (X P : QT F) : QT F := fun i =>
  FloatOps.truncf .bf16 bitsLt_bf16_f32 (FloatOps.addf (FloatOps.extf .f32 bitsLt_bf16_f32 (X i)) (FloatOps.extf .f32 bitsLt_bf16_f32 (P i)))
def mS (X R : ST F) : ST F := fun i => FloatOps.addf (X i) (R i)

/-! ## Blocks, element by element -/

/-- A unit rectangle's element: the offset added on every axis. -/
theorem unit_emb_eq {s : Shape} {off off' sz : Fin s.rank → ℕ} (hin : ∀ a, off a + sz a ≤ s.size a) (hoff : off = off')
    (x : (Rect.unit off sz hin).shape.Idx) (y : s.Idx) (h : ∀ a, (y a).val = off' a + (x a).val) :
    (Rect.unit off sz hin).emb x = y := by
  subst hoff
  refine funext fun a => Fin.ext ?_
  rw [Rect.emb_apply, h a]
  show off a + 1 * (x a).val = _
  rw [Nat.one_mul]

section Four

variable {Val : EltTy → Type} {κ : Idealize.ShloMosaic.Kind} {sp : Space} {e : EltTy} (v : View sig κ sp S8x8x256x128 e) (f : v.ty.Contents Val)
  {off : Fin 4 → ℕ} (j h : Fin 8) (hoff : off = ![j.val, h.val, 0, 0]) (hin : ∀ a, off a + S1x1x256x128.size a ≤ S8x8x256x128.size a)

include hoff

/-- A head's block of a slot, read: -/
theorem read4 (r : Fin 256) (d : Fin 128) :
    v.readAt Val (Rect.unit (s := S8x8x256x128) off S1x1x256x128.size hin).toLoadRect f (ix4 (0 : Fin 1) (0 : Fin 1) r d : S1x1x256x128.Idx)
      = v.read Val f (ix4 j h r d) :=
  congrArg (v.read Val f) (unit_emb_eq hin hoff _ _ fun a => by
    fin_cases a
    · rfl
    · rfl
    · exact (Nat.zero_add _).symm
    · exact (Nat.zero_add _).symm)

/-- and written: the slot's other heads keep what they held. -/
theorem write4 (w : S1x1x256x128.Idx → Val e) (h' : Fin 8) (r : Fin 256) (d : Fin 128) :
    v.read Val (View.write Val (v.slice (Rect.unit (s := S8x8x256x128) off S1x1x256x128.size hin)) f w Finset.univ) (ix4 j h' r d)
      = if h' = h then w (ix4 (0 : Fin 1) (0 : Fin 1) r d) else v.read Val f (ix4 j h' r d) := by
  by_cases hh : h' = h
  · subst hh
    rw [if_pos rfl]
    exact View.read_writes_cons_unit_of_mem v f hin w [] _ (ix4 (0 : Fin 1) (0 : Fin 1) r d : S1x1x256x128.Idx) hoff fun a => by
      fin_cases a
      · rfl
      · rfl
      · exact (Nat.zero_add _).symm
      · exact (Nat.zero_add _).symm
  · rw [if_neg hh]
    refine View.read_writes_cons_unit_of_not_mem v f hin w [] _ hoff 1 ?_
    have : h'.val ≠ h.val := fun h => hh (Fin.ext h)
    show h'.val < h.val ∨ h.val + 1 ≤ h'.val
    omega

end Four

section Cols

variable {Val : EltTy → Type} {κ : Idealize.ShloMosaic.Kind} {sp : Space} {e : EltTy} (v : View sig κ sp S8x256x8 e) (f : v.ty.Contents Val)
  {off : Fin 3 → ℕ} (j h : Fin 8) (hoff : off = ![j.val, 0, h.val]) (hin : ∀ a, off a + S1x256x1.size a ≤ S8x256x8.size a)

include hoff

/-- A head's column of a slot, read: -/
theorem readC (r : Fin 256) :
    v.readAt Val (Rect.unit (s := S8x256x8) off S1x256x1.size hin).toLoadRect f (ix3 (0 : Fin 1) r (0 : Fin 1) : S1x256x1.Idx)
      = v.read Val f (ix3 j r h) :=
  congrArg (v.read Val f) (unit_emb_eq hin hoff _ _ fun a => by
    fin_cases a
    · rfl
    · exact (Nat.zero_add _).symm
    · rfl)

/-- and written. -/
theorem writeC (w : S1x256x1.Idx → Val e) (h' : Fin 8) (r : Fin 256) :
    v.read Val (View.write Val (v.slice (Rect.unit (s := S8x256x8) off S1x256x1.size hin)) f w Finset.univ) (ix3 j r h')
      = if h' = h then w (ix3 (0 : Fin 1) r (0 : Fin 1)) else v.read Val f (ix3 j r h') := by
  by_cases hh : h' = h
  · subst hh
    rw [if_pos rfl]
    exact View.read_writes_cons_unit_of_mem v f hin w [] _ (ix3 (0 : Fin 1) r (0 : Fin 1) : S1x256x1.Idx) hoff fun a => by
      fin_cases a
      · rfl
      · exact (Nat.zero_add _).symm
      · rfl
  · rw [if_neg hh]
    refine View.read_writes_cons_unit_of_not_mem v f hin w [] _ hoff 2 ?_
    have : h'.val ≠ h.val := fun h => hh (Fin.ext h)
    show h'.val < h.val ∨ h.val + 1 ≤ h'.val
    omega

end Cols

/-- A slot of the partial sums (or of the queries) reads the buffer at its number. -/
theorem aSlot_read (j : Fin 8) (f : (cc0_scratch1 : Ref sig .tc).ty.Contents (Elt F)) (h : Fin 8) (r : Fin 256) (d : Fin 128) :
    (aSlot j).view.read (Elt F) f (ix3 h r d) = (Memref.whole cc0_scratch1).view.read (Elt F) f (ix4 j h r d) := by
  rw [Memref.read_squeeze_slice _ _ _ _ (show S1x8x256x128.ShapeCasts S8x256x128 by decide)]
  refine (shapeCast_apply _ _ _ (ix4 (0 : Fin 1) h r d : S1x8x256x128.Idx) ?_).trans ?_
  · rw [Shape.rowMajor_val_four, Shape.rowMajor_val_three]
    show ((0 * 8 + h.val) * 256 + r.val) * 128 + d.val = (h.val * 256 + r.val) * 128 + d.val
    omega
  · exact congrArg ((Memref.whole cc0_scratch1).view.read (Elt F) f) (unit_emb_eq (inbQ j) rfl _ _ fun a => by
      fin_cases a
      · rfl
      · exact (Nat.zero_add _).symm
      · exact (Nat.zero_add _).symm
      · exact (Nat.zero_add _).symm)

theorem qSlot_read (j : Fin 8) (f : (cc0_scratch0 : Ref sig .tc).ty.Contents (Elt F)) (h : Fin 8) (r : Fin 256) (d : Fin 128) :
    (qSlot j).view.read (Elt F) f (ix3 h r d) = (Memref.whole cc0_scratch0).view.read (Elt F) f (ix4 j h r d) :=
  aSlot_read j f h r d

theorem sSlot_read (j : Fin 8) (f : (cc0_scratch2 : Ref sig .tc).ty.Contents (Elt F)) (r : Fin 256) (h : Fin 8) :
    (sSlot j).view.read (Elt F) f (ix2 r h) = (Memref.whole cc0_scratch2).view.read (Elt F) f (ix3 j r h) := by
  rw [Memref.read_squeeze_slice _ _ _ _ (show S1x256x8.ShapeCasts S256x8 by decide)]
  refine (shapeCast_1ab_ab_apply _ _ r h).trans ?_
  exact congrArg ((Memref.whole cc0_scratch2).view.read (Elt F) f) (unit_emb_eq (inbS j) rfl _ _ fun a => by
    fin_cases a
    · rfl
    · exact (Nat.zero_add _).symm
    · exact (Nat.zero_add _).symm)

/-- A shape cast that drops two leading unit axes. -/
theorem cast11 {α : Type} (x : S1x1x256x128.Idx → α) (hc : S1x1x256x128.ShapeCasts S256x128) (r : Fin 256) (d : Fin 128) :
    shapeCast S256x128 x hc (ix2 r d) = x (ix4 (0 : Fin 1) (0 : Fin 1) r d) :=
  shapeCast_apply x hc _ _ (by
    rw [Shape.rowMajor_val_four, Shape.rowMajor_val_two]
    show ((0 * 1 + 0) * 256 + r.val) * 128 + d.val = r.val * 128 + d.val
    omega)

/-- A shape cast that adds them. -/
theorem cast11' {α : Type} (x : S256x128.Idx → α) (hc : S256x128.ShapeCasts S1x1x256x128) (r : Fin 256) (d : Fin 128) :
    shapeCast S1x1x256x128 x hc (ix4 (0 : Fin 1) (0 : Fin 1) r d) = x (ix2 r d) :=
  shapeCast_apply x hc _ _ (by
    rw [Shape.rowMajor_val_four, Shape.rowMajor_val_two]
    show r.val * 128 + d.val = ((0 * 1 + 0) * 256 + r.val) * 128 + d.val
    omega)

end Cert.KernelIdeal.Ring

end
-- ==== Proof.Heads.lean ====
/-
  The tile of one step: all eight heads, the keys and the values of each fetched while the head before it is computed.
-/
module

public import proofs.«01_k».proof.Proof.Values
public import Idealize.ShloMosaic.Lib.Writes

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## What the steps read -/

/-- A block of the keys or values landed in a slot of a double buffer reads back as the head it was fetched from. -/
theorem kv_read (b : Memref sig .tc .vmem S2x4096x128 .bf16) (i : Fin 2) {o : Fin 3 → ℕ} (ho : o = ![i.val, 0, 0])
    (hin : ∀ a, o a + S1x4096x128.size a ≤ S2x4096x128.size a) (g : (kvSlot b i).view.ty.Contents (Elt F))
    (l : List (View.Piece (Elt F) S4096x128 .bf16)) (D : FVec F S4096x128 .bf16) (hc : S1x4096x128.ShapeCasts S4096x128) :
    shapeCast S4096x128 (View.readAt (Elt F) b.view (Rect.unit (s := S2x4096x128) o S1x4096x128.size hin).toLoadRect
      ((kvSlot b i).view.writes (Elt F) g (⟨Rect.whole S4096x128, D⟩ :: l))) hc = D := by
  subst ho
  exact View.read_writes_whole (kvSlot b i).view ((kvSlot b i).view.writes (Elt F) g l) D

/-- A head's keys, copied. -/
theorem kdma_read {M : Memref sig .tc .hbm S8x4096x128 .bf16} (h : Fin 8) (hin : ∀ a, (![h.val, 0, 0] : Fin 3 → ℕ) a + S1x4096x128.size a ≤ S8x4096x128.size a)
    (hs : ∀ a, (Rect.unit (s := S8x4096x128) ![h.val, 0, 0] S1x4096x128.size hin).stride a = 1) (f : M.view.ty.Contents (Elt F)) :
    (ReadAs.same.apply (View.read (Elt F) ((M.slice (Rect.unit (s := S8x4096x128) ![h.val, 0, 0] S1x4096x128.size hin) hs).squeeze
      S4096x128 squeezes_S1x4096x128_S4096x128).view f) : FVec F S4096x128 .bf16) = kRow (M.view.read (Elt F) f) h := by
  refine (Memref.read_squeeze_slice _ _ _ _ (show S1x4096x128.ShapeCasts S4096x128 by decide) f).trans (funext fun i => ?_)
  rw [eq_ix2 i]
  refine (shapeCast_1ab_ab_apply _ _ _ _).trans ?_
  exact congrArg (M.view.read (Elt F) f) (unit_emb_eq hin rfl _ _ fun a => by
    fin_cases a
    · rfl
    · exact (Nat.zero_add _).symm
    · exact (Nat.zero_add _).symm)

/-- A head's queries. -/
theorem q_read (j h : Fin 8) {off : Fin 4 → ℕ} (hoff : off = ![j.val, h.val, 0, 0]) (hin : ∀ a, off a + S1x1x256x128.size a ≤ S8x8x256x128.size a)
    (f : (cc0_scratch0 : Ref sig .tc).ty.Contents (Elt F)) (hc : S1x1x256x128.ShapeCasts S256x128) :
    shapeCast S256x128 (View.readAt (Elt F) (Memref.whole cc0_scratch0).view (Rect.unit (s := S8x8x256x128) off S1x1x256x128.size hin).toLoadRect f) hc
      = qRow ((qSlot j).view.read (Elt F) f) h := by
  refine funext fun i => ?_
  rw [eq_ix2 i]
  exact (cast11 _ _ _ _).trans ((read4 (Memref.whole cc0_scratch0).view f j h hoff hin _ _).trans (qSlot_read j f h _ _).symm)

/-- A word of the table. -/
theorem meta_read (a0 : Memref sig .tc .smem S11 .i32) (f : a0.view.ty.Contents (Elt F)) (n : Fin 11) {off : Fin 1 → ℕ} (hoff : off = ![n.val])
    (hin : ∀ a, off a + S1.size a ≤ S11.size a) (h1 : 0 < (Rect.unit (s := S11) off S1.size hin).shape.numel) :
    View.readAt (Elt F) a0.view (Rect.unit (s := S11) off S1.size hin).toLoadRect f (Shape.Idx.first h1) = a0.view.read (Elt F) f (ix1 n) :=
  congrArg (a0.view.read (Elt F) f) (unit_emb_eq hin hoff _ _ fun a => by
    fin_cases a
    rfl)

/-! ## The pieces the steps write -/

theorem pPiece (b : FVec F S256x4096 .f32) (X : QT F) (K V : FVec F S8x4096x128 .bf16) (h : Fin 8) {o : Fin 3 → ℕ} (ho : o = ![h.val, 0, 0])
    (hin : ∀ a, o a + S1x256x128.size a ≤ S8x256x128.size a) (q : FVec F S256x128 .bf16) (k v : FVec F S4096x128 .bf16)
    (hq : q = qRow X h) (hk : k = kRow K h) (hv : v = kRow V h) (hc : S256x128.ShapeCasts S1x256x128)
    (x : (Rect.unit (s := S8x256x128) o S1x256x128.size hin).shape.Idx) :
    shapeCast S1x256x128 (headP b q k v) hc x = PT b X K V ((Rect.unit (s := S8x256x128) o S1x256x128.size hin).emb x) := by
  subst hq hk hv ho
  have hx : (Rect.unit (s := S8x256x128) ![h.val, 0, 0] S1x256x128.size hin).emb x = ix3 h (x 1 : Fin 256) (x 2 : Fin 128) :=
    unit_emb_eq hin rfl _ _ fun a => by
      fin_cases a
      · have := (x 0).isLt
        have h0 : (x 0).val = 0 := Nat.lt_one_iff.mp this
        show h.val = h.val + (x 0).val
        rw [h0]; rfl
      · exact (Nat.zero_add _).symm
      · exact (Nat.zero_add _).symm
  rw [hx]
  have e : x = ix3 (x 0 : Fin 1) (x 1 : Fin 256) (x 2 : Fin 128) := eq_ix3 (n0 := 1) (n1 := 256) (n2 := 128) x
  exact (congrArg (shapeCast S1x256x128 _ hc) e).trans (shapeCast_ab_1ab_apply _ hc _ _ _)

theorem lPiece (b : FVec F S256x4096 .f32) (X : QT F) (K : FVec F S8x4096x128 .bf16) (h : Fin 8) {o : Fin 2 → ℕ} (ho : o = ![0, h.val])
    (hin : ∀ a, o a + S256x1.size a ≤ S256x8.size a) (q : FVec F S256x128 .bf16) (k : FVec F S4096x128 .bf16)
    (hq : q = qRow X h) (hk : k = kRow K h) (hc : S256.ShapeCasts S256x1) (hc' : S256x1.ShapeCasts S256x1)
    (x : (Rect.unit (s := S256x8) o S256x1.size hin).shape.Idx) :
    shapeCast S256x1 (shapeCast S256x1 (headL b q k) hc) hc' x = LT b X K ((Rect.unit (s := S256x8) o S256x1.size hin).emb x) := by
  subst hq hk ho
  have h1 : (x 1).val = 0 := Nat.lt_one_iff.mp (x 1).isLt
  have hx : (Rect.unit (s := S256x8) ![0, h.val] S256x1.size hin).emb x = ix2 (x 0 : Fin 256) h :=
    unit_emb_eq hin rfl _ _ fun a => by
      fin_cases a
      · exact (Nat.zero_add _).symm
      · show h.val = h.val + (x 1).val
        rw [h1]; rfl
  rw [hx, shapeCast_self]
  refine shapeCast_apply _ hc _ (ix1 (x 0 : Fin 256)) ?_
  rw [Shape.rowMajor_val_one, Shape.rowMajor_val_two]
  show (x 0).val = (x 0).val * 1 + (x 1).val
  omega

/-- A head's two results from its queries, keys and values as the steps load them. -/
def pOf (b : FVec F S256x4096 .f32) (q : Vec F S1x1x256x128 .bf16) (k v : Vec F S1x4096x128 .bf16) : FVec F S1x256x128 .bf16 :=
  shapeCast S1x256x128 (headP b (shapeCast S256x128 q shapeCasts_S1x1x256x128_S256x128) (shapeCast S4096x128 k shapeCasts_S1x4096x128_S4096x128)
    (shapeCast S4096x128 v shapeCasts_S1x4096x128_S4096x128)) shapeCasts_S256x128_S1x256x128
def lOf (b : FVec F S256x4096 .f32) (q : Vec F S1x1x256x128 .bf16) (k : Vec F S1x4096x128 .bf16) : FVec F S256x1 .f32 :=
  shapeCast S256x1 (shapeCast S256x1 (headL b (shapeCast S256x128 q shapeCasts_S1x1x256x128_S256x128)
    (shapeCast S4096x128 k shapeCasts_S1x4096x128_S4096x128)) shapeCasts_S256_S256x1) shapeCasts_S256x1_S256x1

section
variable (b : FVec F S256x4096 .f32) (q : Vec F S1x1x256x128 .bf16) (k v : Vec F S1x4096x128 .bf16)
theorem pay_p0 : k0_pay6 (k0_pay3 b q k) v = pOf b q k v := rfl
theorem pay_l0 : k0_pay5 (k0_pay3 b q k) = lOf b q k := rfl
theorem pay_p1 : k0_pay10 (k0_pay9 b q k v) = pOf b q k v := rfl
theorem pay_l1 : k0_pay8 b q k = lOf b q k := rfl
theorem pay_p2 : k0_pay13 b q k v = pOf b q k v := rfl
theorem pay_l2 : k0_pay12 b q k = lOf b q k := rfl
theorem pay_p3 : k0_pay17 (k0_pay14 b q k) v = pOf b q k v := rfl
theorem pay_l3 : k0_pay16 (k0_pay15 b q k) = lOf b q k := rfl
theorem pay_p4 : k0_pay21 (k0_pay20 b q k v) = pOf b q k v := rfl
theorem pay_l4 : k0_pay19 b q k = lOf b q k := rfl
theorem pay_p5 : k0_pay24 b q k v = pOf b q k v := rfl
theorem pay_l5 : k0_pay23 b q k = lOf b q k := rfl
theorem pay_p6 : k0_pay28 (k0_pay25 b q k) v = pOf b q k v := rfl
theorem pay_l6 : k0_pay27 (k0_pay26 b q k) = lOf b q k := rfl
theorem pay_p7 : k0_pay33 b (k0_pay29 q) (k0_pay30 k) (constant S256x4096 .f32 0x00000000#32) v = pOf b q k v := rfl
theorem pay_l7 : k0_pay32 b (k0_pay29 q) (k0_pay30 k) (constant S256x4096 .f32 0x00000000#32) = lOf b q k := rfl
end

theorem pAt (b : FVec F S256x4096 .f32) (X : QT F) (K V : FVec F S8x4096x128 .bf16) (h : Fin 8) {o : Fin 3 → ℕ} (ho : o = ![h.val, 0, 0])
    (hin : ∀ a, o a + S1x256x128.size a ≤ S8x256x128.size a) {w : FVec F S1x256x128 .bf16}
    {q : Vec F S1x1x256x128 .bf16} {k v : Vec F S1x4096x128 .bf16} (hw : w = pOf b q k v)
    (hq : shapeCast S256x128 q shapeCasts_S1x1x256x128_S256x128 = qRow X h)
    (hk : shapeCast S4096x128 k shapeCasts_S1x4096x128_S4096x128 = kRow K h) (hv : shapeCast S4096x128 v shapeCasts_S1x4096x128_S4096x128 = kRow V h)
    (x : (Rect.unit (s := S8x256x128) o S1x256x128.size hin).shape.Idx) :
    w x = PT b X K V ((Rect.unit (s := S8x256x128) o S1x256x128.size hin).emb x) :=
  (congrFun hw x).trans (pPiece b X K V h ho hin _ _ _ hq hk hv _ x)

theorem lAt (b : FVec F S256x4096 .f32) (X : QT F) (K : FVec F S8x4096x128 .bf16) (h : Fin 8) {o : Fin 2 → ℕ} (ho : o = ![0, h.val])
    (hin : ∀ a, o a + S256x1.size a ≤ S256x8.size a) {w : FVec F S256x1 .f32}
    {q : Vec F S1x1x256x128 .bf16} {k : Vec F S1x4096x128 .bf16} (hw : w = lOf b q k)
    (hq : shapeCast S256x128 q shapeCasts_S1x1x256x128_S256x128 = qRow X h)
    (hk : shapeCast S4096x128 k shapeCasts_S1x4096x128_S4096x128 = kRow K h)
    (x : (Rect.unit (s := S256x8) o S256x1.size hin).shape.Idx) :
    w x = LT b X K ((Rect.unit (s := S256x8) o S256x1.size hin).emb x) :=
  (congrFun hw x).trans (lPiece b X K h ho hin _ _ hq hk _ _ x)

/-- The entry of the table a step reads. -/
def tw (k0_t1 : Fin k0_t1_loop.trips) : Fin 11 := Fin.castLE (by decide) (tj k0_t1)

/-- The table, read through its staged copy. -/
def metaAt (a0 : Memref sig .tc .smem S11 .i32) (c : Dev nD) (M : S11.Idx → Elt F .i32) : sProp 𝕄 :=
  iprop(∃ f, ⌜a0.view.read (Elt F) f = M⌝ ∗ (a0.view.loc (c : Thread nD τ) ↦[a0.view.set]{fullShare} f))

/-- The double buffers at contents not chosen, their semaphores at zero. -/
def kvFree (c : Dev nD) : sProp 𝕄 :=
  iprop(slotAny (kvSlot (Memref.whole cc0_scratch5) 0) c ∗ slotAny (kvSlot (Memref.whole cc0_scratch5) 1) c
    ∗ slotAny (kvSlot (Memref.whole cc0_scratch6) 0) c ∗ slotAny (kvSlot (Memref.whole cc0_scratch6) 1) c
    ∗ semVal ((c : Thread nD τ), .dma (⟨51, by decide⟩ : DmaSem sig)) 0 ∗ semVal ((c : Thread nD τ), .dma (⟨52, by decide⟩ : DmaSem sig)) 0 ∗ semVal ((c : Thread nD τ), .dma (⟨53, by decide⟩ : DmaSem sig)) 0 ∗ semVal ((c : Thread nD τ), .dma (⟨54, by decide⟩ : DmaSem sig)) 0)

set_option maxHeartbeats 4000000 in
set_option maxRecDepth 65536 in
/-- The segment runs: the tile's buffers hold the tile of the slot's queries with this device's keys and values. -/
theorem heads_run (c : Dev nD) (a0 : Memref sig .tc .smem S11 .i32) (h0 : a0.IsWhole) (a1 : Memref sig .tc .vmem S8x256x128 .bf16) (h1 : a1.IsWhole)
    (a4 : Memref sig .tc .vmem S8x256x128 .f32) (h4 : a4.IsWhole) (k0_t1 : Fin k0_t1_loop.trips) (arg20 : BitVec 32) (v45 : IVec S256x1 32) (v73 : IVec S1x4096 32)
    (O : CellTallies nD τ sig Unit) (W : Waits sig Unit) (M : S11.Idx → Elt F .i32) (X : QT F)
    (fK : (main_v8 : Ref sig .tc).ty.Contents (Elt F)) (fV : (main_v11 : Ref sig .tc).ty.Contents (Elt F)) (Kt : PUnit → sProp 𝕄)
    (hW51 : levAts L lv ⊢ (MayWait (c : Thread nD τ) (.dma (⟨51, by decide⟩ : DmaSem sig)) () O : sProp 𝕄))
    (hW52 : levAts L lv ⊢ (MayWait (c : Thread nD τ) (.dma (⟨52, by decide⟩ : DmaSem sig)) () O : sProp 𝕄))
    (hW53 : levAts L lv ⊢ (MayWait (c : Thread nD τ) (.dma (⟨53, by decide⟩ : DmaSem sig)) () O : sProp 𝕄))
    (hW54 : levAts L lv ⊢ (MayWait (c : Thread nD τ) (.dma (⟨54, by decide⟩ : DmaSem sig)) () O : sProp 𝕄)) :
    iprop(metaAt a0 c M ∗ slotAt (qSlot (tj k0_t1)) c fullShare.right X ∗ wPt c main_v8 fullShare fK ∗ wPt c main_v11 fullShare fV
      ∗ (∃ f, wPt c cc0_scratch3 fullShare f) ∗ (∃ f, wPt c cc0_scratch4 fullShare f) ∗ kvFree c ∗ levAts L lv ∗ owes (c : Thread nD τ) O W
      ∗ (metaAt a0 c M -∗ slotAt (qSlot (tj k0_t1)) c fullShare.right X -∗ wPt c main_v8 fullShare fK -∗ wPt c main_v11 fullShare fV
        -∗ wPt c cc0_scratch3 fullShare (PT (k0_pay2 v45 v73 (M (ix1 (tw k0_t1)))) X fK fV)
        -∗ wPt c cc0_scratch4 fullShare (LT (k0_pay2 v45 v73 (M (ix1 (tw k0_t1)))) X fK)
        -∗ kvFree c -∗ (∃ W, owes (c : Thread nD τ) O W) -∗ Kt ⟨⟩))
      ⊢ wp frame (wpE (defs₀ (F := F)) 𝒱₀ c none) Set.univ (segHeads a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 k0_t1 arg20 v45 v73) Kt := by
  unfold metaAt kvFree slotAt slotAny
  iintro ⟨⟨%fm, %hm, Hm⟩, ⟨%fq, %hq, Hq⟩, HK, HV, ⟨%fp, Hp⟩, ⟨%fl, Hl⟩, ⟨⟨%fk0, Hk0⟩, ⟨%fk1, Hk1⟩, ⟨%fv0, Hv0⟩, ⟨%fv1, Hv1⟩, Hs1, Hs2, Hs3, Hs4⟩, #Hlev, HO, Hk⟩
  have hI10 := q_incl (tj k0_t1) (k0_off10 k0_t1) 0 (k0_off10_eq k0_t1) (by decide) (k0_off10_inb k0_t1)
  have hI11 := q_incl (tj k0_t1) (k0_off11 k0_t1) 1 (k0_off11_eq k0_t1) (by decide) (k0_off11_inb k0_t1)
  have hI12 := q_incl (tj k0_t1) (k0_off12 k0_t1) 2 (k0_off12_eq k0_t1) (by decide) (k0_off12_inb k0_t1)
  have hI13 := q_incl (tj k0_t1) (k0_off13 k0_t1) 3 (k0_off13_eq k0_t1) (by decide) (k0_off13_inb k0_t1)
  have hI14 := q_incl (tj k0_t1) (k0_off14 k0_t1) 4 (k0_off14_eq k0_t1) (by decide) (k0_off14_inb k0_t1)
  have hI15 := q_incl (tj k0_t1) (k0_off15 k0_t1) 5 (k0_off15_eq k0_t1) (by decide) (k0_off15_inb k0_t1)
  have hI16 := q_incl (tj k0_t1) (k0_off16 k0_t1) 6 (k0_off16_eq k0_t1) (by decide) (k0_off16_inb k0_t1)
  have hI17 := q_incl (tj k0_t1) (k0_off17 k0_t1) 7 (k0_off17_eq k0_t1) (by decide) (k0_off17_inb k0_t1)
  have hw := meta_read a0 fm (tw k0_t1) (k0_off9_eq k0_t1) (k0_off9_inb k0_t1) (Nat.zero_lt_one)
  rw [hm] at hw
  subst hq
  unfold segHeads
  sl_exec!
  rw [wp_ret]
  imodintro
  iapply Hk $$ [Hm] [Hq] HK HV [Hp] [Hl] [Hk0 Hk1 Hv0 Hv1 Hs1 Hs2 Hs3 Hs4] [HO]
  · iexists fm; isplitr
    · ipureintro; exact hm
    · iexact Hm
  · iexists fq; isplitr
    · ipureintro; rfl
    · iexact Hq
  · iclear Hlev
    rw [← hw]
    refine Entails.of_eq (congrArg (fun f => wPt c cc0_scratch3 fullShare f) (funext fun y => ?_))
    exact View.read_writes_apply_of_pieces (Memref.whole cc0_scratch3).view _
      (PT (k0_pay2 v45 v73 _) _ fK fV) _
        (List.forall_mem_cons.mpr ⟨fun x => pAt (k0_pay2 v45 v73 _) _ fK fV 7 rfl (by decide) (pay_p7 _ _ _ _)
          (q_read (tj k0_t1) 7 (k0_off17_eq k0_t1) (k0_off17_inb k0_t1) fq _)
          ((kv_read _ 1 rfl (by decide) _ _ _ _).trans (kdma_read (M := Memref.whole main_v8) 7 (by decide) (fun _ => rfl) fK))
          ((kv_read _ 1 rfl (by decide) _ _ _ _).trans (kdma_read (M := Memref.whole main_v11) 7 (by decide) (fun _ => rfl) fV)) x,
        (List.forall_mem_cons.mpr ⟨fun x => pAt (k0_pay2 v45 v73 _) _ fK fV 6 rfl (by decide) (pay_p6 _ _ _ _)
          (q_read (tj k0_t1) 6 (k0_off16_eq k0_t1) (k0_off16_inb k0_t1) fq _)
          ((kv_read _ 0 rfl (by decide) _ _ _ _).trans (kdma_read (M := Memref.whole main_v8) 6 (by decide) (fun _ => rfl) fK))
          ((kv_read _ 0 rfl (by decide) _ _ _ _).trans (kdma_read (M := Memref.whole main_v11) 6 (by decide) (fun _ => rfl) fV)) x,
        (List.forall_mem_cons.mpr ⟨fun x => pAt (k0_pay2 v45 v73 _) _ fK fV 5 rfl (by decide) (pay_p5 _ _ _ _)
          (q_read (tj k0_t1) 5 (k0_off15_eq k0_t1) (k0_off15_inb k0_t1) fq _)
          ((kv_read _ 1 rfl (by decide) _ _ _ _).trans (kdma_read (M := Memref.whole main_v8) 5 (by decide) (fun _ => rfl) fK))
          ((kv_read _ 1 rfl (by decide) _ _ _ _).trans (kdma_read (M := Memref.whole main_v11) 5 (by decide) (fun _ => rfl) fV)) x,
        (List.forall_mem_cons.mpr ⟨fun x => pAt (k0_pay2 v45 v73 _) _ fK fV 4 rfl (by decide) (pay_p4 _ _ _ _)
          (q_read (tj k0_t1) 4 (k0_off14_eq k0_t1) (k0_off14_inb k0_t1) fq _)
          ((kv_read _ 0 rfl (by decide) _ _ _ _).trans (kdma_read (M := Memref.whole main_v8) 4 (by decide) (fun _ => rfl) fK))
          ((kv_read _ 0 rfl (by decide) _ _ _ _).trans (kdma_read (M := Memref.whole main_v11) 4 (by decide) (fun _ => rfl) fV)) x,
        (List.forall_mem_cons.mpr ⟨fun x => pAt (k0_pay2 v45 v73 _) _ fK fV 3 rfl (by decide) (pay_p3 _ _ _ _)
          (q_read (tj k0_t1) 3 (k0_off13_eq k0_t1) (k0_off13_inb k0_t1) fq _)
          ((kv_read _ 1 rfl (by decide) _ _ _ _).trans (kdma_read (M := Memref.whole main_v8) 3 (by decide) (fun _ => rfl) fK))
          ((kv_read _ 1 rfl (by decide) _ _ _ _).trans (kdma_read (M := Memref.whole main_v11) 3 (by decide) (fun _ => rfl) fV)) x,
        (List.forall_mem_cons.mpr ⟨fun x => pAt (k0_pay2 v45 v73 _) _ fK fV 2 rfl (by decide) (pay_p2 _ _ _ _)
          (q_read (tj k0_t1) 2 (k0_off12_eq k0_t1) (k0_off12_inb k0_t1) fq _)
          ((kv_read _ 0 rfl (by decide) _ _ _ _).trans (kdma_read (M := Memref.whole main_v8) 2 (by decide) (fun _ => rfl) fK))
          ((kv_read _ 0 rfl (by decide) _ _ _ _).trans (kdma_read (M := Memref.whole main_v11) 2 (by decide) (fun _ => rfl) fV)) x,
        (List.forall_mem_cons.mpr ⟨fun x => pAt (k0_pay2 v45 v73 _) _ fK fV 1 rfl (by decide) (pay_p1 _ _ _ _)
          (q_read (tj k0_t1) 1 (k0_off11_eq k0_t1) (k0_off11_inb k0_t1) fq _)
          ((kv_read _ 1 rfl (by decide) _ _ _ _).trans (kdma_read (M := Memref.whole main_v8) 1 (by decide) (fun _ => rfl) fK))
          ((kv_read _ 1 rfl (by decide) _ _ _ _).trans (kdma_read (M := Memref.whole main_v11) 1 (by decide) (fun _ => rfl) fV)) x,
        (List.forall_mem_cons.mpr ⟨fun x => pAt (k0_pay2 v45 v73 _) _ fK fV 0 rfl (by decide) (pay_p0 _ _ _ _)
          (q_read (tj k0_t1) 0 (k0_off10_eq k0_t1) (k0_off10_inb k0_t1) fq _)
          ((kv_read _ 0 rfl (by decide) _ _ _ _).trans (kdma_read (M := Memref.whole main_v8) 0 (by decide) (fun _ => rfl) fK))
          ((kv_read _ 0 rfl (by decide) _ _ _ _).trans (kdma_read (M := Memref.whole main_v11) 0 (by decide) (fun _ => rfl) fV)) x, List.forall_mem_nil _⟩)⟩)⟩)⟩)⟩)⟩)⟩)⟩) y
      (View.cover_of_tiled (s := S8x256x128) _ (![1, 256, 128] : Fin 3 → ℕ) rfl y)
  · iclear Hlev
    rw [← hw]
    refine Entails.of_eq (congrArg (fun f => wPt c cc0_scratch4 fullShare f) (funext fun y => ?_))
    exact View.read_writes_apply_of_pieces (Memref.whole cc0_scratch4).view _
      (LT (k0_pay2 v45 v73 _) _ fK) _
        (List.forall_mem_cons.mpr ⟨fun x => lAt (k0_pay2 v45 v73 _) _ fK 7 rfl (by decide) (pay_l7 _ _ _)
          (q_read (tj k0_t1) 7 (k0_off17_eq k0_t1) (k0_off17_inb k0_t1) fq _)
          ((kv_read _ 1 rfl (by decide) _ _ _ _).trans (kdma_read (M := Memref.whole main_v8) 7 (by decide) (fun _ => rfl) fK)) x,
        (List.forall_mem_cons.mpr ⟨fun x => lAt (k0_pay2 v45 v73 _) _ fK 6 rfl (by decide) (pay_l6 _ _ _)
          (q_read (tj k0_t1) 6 (k0_off16_eq k0_t1) (k0_off16_inb k0_t1) fq _)
          ((kv_read _ 0 rfl (by decide) _ _ _ _).trans (kdma_read (M := Memref.whole main_v8) 6 (by decide) (fun _ => rfl) fK)) x,
        (List.forall_mem_cons.mpr ⟨fun x => lAt (k0_pay2 v45 v73 _) _ fK 5 rfl (by decide) (pay_l5 _ _ _)
          (q_read (tj k0_t1) 5 (k0_off15_eq k0_t1) (k0_off15_inb k0_t1) fq _)
          ((kv_read _ 1 rfl (by decide) _ _ _ _).trans (kdma_read (M := Memref.whole main_v8) 5 (by decide) (fun _ => rfl) fK)) x,
        (List.forall_mem_cons.mpr ⟨fun x => lAt (k0_pay2 v45 v73 _) _ fK 4 rfl (by decide) (pay_l4 _ _ _)
          (q_read (tj k0_t1) 4 (k0_off14_eq k0_t1) (k0_off14_inb k0_t1) fq _)
          ((kv_read _ 0 rfl (by decide) _ _ _ _).trans (kdma_read (M := Memref.whole main_v8) 4 (by decide) (fun _ => rfl) fK)) x,
        (List.forall_mem_cons.mpr ⟨fun x => lAt (k0_pay2 v45 v73 _) _ fK 3 rfl (by decide) (pay_l3 _ _ _)
          (q_read (tj k0_t1) 3 (k0_off13_eq k0_t1) (k0_off13_inb k0_t1) fq _)
          ((kv_read _ 1 rfl (by decide) _ _ _ _).trans (kdma_read (M := Memref.whole main_v8) 3 (by decide) (fun _ => rfl) fK)) x,
        (List.forall_mem_cons.mpr ⟨fun x => lAt (k0_pay2 v45 v73 _) _ fK 2 rfl (by decide) (pay_l2 _ _ _)
          (q_read (tj k0_t1) 2 (k0_off12_eq k0_t1) (k0_off12_inb k0_t1) fq _)
          ((kv_read _ 0 rfl (by decide) _ _ _ _).trans (kdma_read (M := Memref.whole main_v8) 2 (by decide) (fun _ => rfl) fK)) x,
        (List.forall_mem_cons.mpr ⟨fun x => lAt (k0_pay2 v45 v73 _) _ fK 1 rfl (by decide) (pay_l1 _ _ _)
          (q_read (tj k0_t1) 1 (k0_off11_eq k0_t1) (k0_off11_inb k0_t1) fq _)
          ((kv_read _ 1 rfl (by decide) _ _ _ _).trans (kdma_read (M := Memref.whole main_v8) 1 (by decide) (fun _ => rfl) fK)) x,
        (List.forall_mem_cons.mpr ⟨fun x => lAt (k0_pay2 v45 v73 _) _ fK 0 rfl (by decide) (pay_l0 _ _ _)
          (q_read (tj k0_t1) 0 (k0_off10_eq k0_t1) (k0_off10_inb k0_t1) fq _)
          ((kv_read _ 0 rfl (by decide) _ _ _ _).trans (kdma_read (M := Memref.whole main_v8) 0 (by decide) (fun _ => rfl) fK)) x, List.forall_mem_nil _⟩)⟩)⟩)⟩)⟩)⟩)⟩)⟩) y
      (View.cover_of_tiled (s := S256x8) _ (![256, 1] : Fin 2 → ℕ) rfl y)
  · isplitl [Hk0]; · iexists _; iexact Hk0
    isplitl [Hk1]; · iexists _; iexact Hk1
    isplitl [Hv0]; · iexists _; iexact Hv0
    isplitl [Hv1]; · iexists _; iexact Hv1
    isplitl [Hs1]; · iexact Hs1
    isplitl [Hs2]; · iexact Hs2
    isplitl [Hs3]; · iexact Hs3
    iexact Hs4
  · iexists _; iexact HO

end Cert.KernelIdeal.Ring

end
-- ==== Proof.Merge.lean ====
/-
  The merge of a tile into a slot of the partial sums and of the row sums.
-/
module

public import proofs.«01_k».proof.Proof.Values

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## One head merged -/

/-- A head's block of the partial sums, merged with the tile's. -/
def mBlk (x : S1x1x256x128.Idx → Elt F .bf16) (p : S1x256x128.Idx → Elt F .bf16) : S1x1x256x128.Idx → Elt F .bf16 :=
  shapeCast S1x1x256x128 (truncf .bf16 (addf (extf .f32 (shapeCast S256x128 x shapeCasts_S1x1x256x128_S256x128) bitsLt_bf16_f32)
    (extf .f32 (shapeCast S256x128 p shapeCasts_S1x256x128_S256x128) bitsLt_bf16_f32)) bitsLt_bf16_f32) shapeCasts_S256x128_S1x1x256x128

/-- A head's column of the row sums, merged. -/
def mCol (x : S1x256x1.Idx → Elt F .f32) (p : S256x1.Idx → Elt F .f32) : S1x256x1.Idx → Elt F .f32 :=
  shapeCast S1x256x1 (addf (shapeCast S256x1 x shapeCasts_S1x256x1_S256x1) p) shapeCasts_S256x1_S1x256x1

/-- The buffer after one head's block is merged. -/
def aStep (off : Fin 4 → ℕ) (hin : ∀ a, off a + S1x1x256x128.size a ≤ S8x8x256x128.size a) (off' : Fin 3 → ℕ)
    (hin' : ∀ a, off' a + S1x256x128.size a ≤ S8x256x128.size a) (P : (cc0_scratch3 : Ref sig .tc).ty.Contents (Elt F))
    (f : (cc0_scratch1 : Ref sig .tc).ty.Contents (Elt F)) : (cc0_scratch1 : Ref sig .tc).ty.Contents (Elt F) :=
  View.write (Elt F) ((Memref.whole cc0_scratch1).access (Rect.unit (s := S8x8x256x128) off S1x1x256x128.size hin)) f
    (mBlk (View.readAt (Elt F) (Memref.whole cc0_scratch1).view (Rect.unit (s := S8x8x256x128) off S1x1x256x128.size hin).toLoadRect f)
      (View.readAt (Elt F) (Memref.whole cc0_scratch3).view (Rect.unit (s := S8x256x128) off' S1x256x128.size hin').toLoadRect P)) Finset.univ

def sStep (off : Fin 3 → ℕ) (hin : ∀ a, off a + S1x256x1.size a ≤ S8x256x8.size a) (off' : Fin 2 → ℕ)
    (hin' : ∀ a, off' a + S256x1.size a ≤ S256x8.size a) (R : (cc0_scratch4 : Ref sig .tc).ty.Contents (Elt F))
    (f : (cc0_scratch2 : Ref sig .tc).ty.Contents (Elt F)) : (cc0_scratch2 : Ref sig .tc).ty.Contents (Elt F) :=
  View.write (Elt F) ((Memref.whole cc0_scratch2).access (Rect.unit (s := S8x256x8) off S1x256x1.size hin)) f
    (mCol (View.readAt (Elt F) (Memref.whole cc0_scratch2).view (Rect.unit (s := S8x256x8) off S1x256x1.size hin).toLoadRect f)
      (View.readAt (Elt F) (Memref.whole cc0_scratch4).view (Rect.unit (s := S256x8) off' S256x1.size hin').toLoadRect R)) Finset.univ

/-- An index's head. -/
def hdA (i : S8x256x128.Idx) : Fin 8 := i 0
def hdS (i : S256x8.Idx) : Fin 8 := i 1

/-- A block in which one head is merged. -/
def updA (h : Fin 8) (P X : QT F) : QT F := fun i => if hdA i = h then mA X P i else X i
def updS (h : Fin 8) (R X : ST F) : ST F := fun i => if hdS i = h then mS X R i else X i

theorem aStep_read (j h : Fin 8) {off : Fin 4 → ℕ} {off' : Fin 3 → ℕ} (hoff : off = ![j.val, h.val, 0, 0]) (hoff' : off' = ![h.val, 0, 0])
    (hin : ∀ a, off a + S1x1x256x128.size a ≤ S8x8x256x128.size a) (hin' : ∀ a, off' a + S1x256x128.size a ≤ S8x256x128.size a) (P X : QT F)
    (f : (cc0_scratch1 : Ref sig .tc).ty.Contents (Elt F)) (hX : (aSlot j).view.read (Elt F) f = X) :
    (aSlot j).view.read (Elt F) (aStep off hin off' hin' P f) = updA h P X := by
  subst hX
  suffices H : ∀ (h' : Fin 8) (r : Fin 256) (d : Fin 128), (aSlot j).view.read (Elt F) (aStep off hin off' hin' P f) (ix3 h' r d)
      = if h' = h then mA ((aSlot j).view.read (Elt F) f) P (ix3 h' r d) else (aSlot j).view.read (Elt F) f (ix3 h' r d) from
    funext fun i => by rw [eq_ix3 i]; exact H (i 0) (i 1) (i 2)
  intro h' r d
  rw [aSlot_read, aSlot_read]
  refine (write4 (Memref.whole cc0_scratch1).view f j h hoff hin _ h' r d).trans ?_
  by_cases hh : h' = h
  · subst hh
    rw [if_pos rfl, if_pos rfl]
    refine (cast11' _ _ r d).trans ?_
    unfold mA
    rw [aSlot_read]
    refine congrArg (FloatOps.truncf .bf16 bitsLt_bf16_f32) (congrArg₂ FloatOps.addf ?_ ?_)
    · exact congrArg (FloatOps.extf .f32 bitsLt_bf16_f32) ((cast11 _ _ r d).trans (read4 (Memref.whole cc0_scratch1).view f j h' hoff hin r d))
    · refine congrArg (FloatOps.extf .f32 bitsLt_bf16_f32) ((shapeCast_1ab_ab_apply _ _ r d).trans ?_)
      exact congrArg P (unit_emb_eq (s := S8x256x128) hin' hoff' _ _ fun a => by
        fin_cases a
        · rfl
        · exact (Nat.zero_add _).symm
        · exact (Nat.zero_add _).symm)
  · rw [if_neg hh, if_neg hh]

theorem sStep_read (j h : Fin 8) {off : Fin 3 → ℕ} {off' : Fin 2 → ℕ} (hoff : off = ![j.val, 0, h.val]) (hoff' : off' = ![0, h.val])
    (hin : ∀ a, off a + S1x256x1.size a ≤ S8x256x8.size a) (hin' : ∀ a, off' a + S256x1.size a ≤ S256x8.size a) (R X : ST F)
    (f : (cc0_scratch2 : Ref sig .tc).ty.Contents (Elt F)) (hX : (sSlot j).view.read (Elt F) f = X) :
    (sSlot j).view.read (Elt F) (sStep off hin off' hin' R f) = updS h R X := by
  subst hX
  suffices H : ∀ (r : Fin 256) (h' : Fin 8), (sSlot j).view.read (Elt F) (sStep off hin off' hin' R f) (ix2 r h')
      = if h' = h then mS ((sSlot j).view.read (Elt F) f) R (ix2 r h') else (sSlot j).view.read (Elt F) f (ix2 r h') from
    funext fun i => by rw [eq_ix2 i]; exact H (i 0) (i 1)
  intro r h'
  rw [sSlot_read, sSlot_read]
  refine (writeC (Memref.whole cc0_scratch2).view f j h hoff hin _ h' r).trans ?_
  by_cases hh : h' = h
  · subst hh
    rw [if_pos rfl, if_pos rfl]
    refine (shapeCast_ab_1ab_apply _ _ (0 : Fin 1) r (0 : Fin 1)).trans ?_
    unfold mS
    rw [sSlot_read]
    refine congrArg₂ FloatOps.addf ?_ ?_
    · exact (shapeCast_1ab_ab_apply _ _ r (0 : Fin 1)).trans (readC (Memref.whole cc0_scratch2).view f j h' hoff hin r)
    · exact congrArg R (unit_emb_eq (s := S256x8) hin' hoff' _ _ fun a => by
        fin_cases a
        · exact (Nat.zero_add _).symm
        · rfl)
  · rw [if_neg hh, if_neg hh]

/-- All eight heads merged, one after another. -/
def aAll (t : Fin k0_t1_loop.trips) (P : QT F) (f : (cc0_scratch1 : Ref sig .tc).ty.Contents (Elt F)) : (cc0_scratch1 : Ref sig .tc).ty.Contents (Elt F) :=
  aStep (k0_off17 t) (k0_off17_inb t) ![7, 0, 0] inb_S8x256x128_S1x256x128_7_0_0 P
    (aStep (k0_off16 t) (k0_off16_inb t) ![6, 0, 0] inb_S8x256x128_S1x256x128_6_0_0 P
    (aStep (k0_off15 t) (k0_off15_inb t) ![5, 0, 0] inb_S8x256x128_S1x256x128_5_0_0 P
    (aStep (k0_off14 t) (k0_off14_inb t) ![4, 0, 0] inb_S8x256x128_S1x256x128_4_0_0 P
    (aStep (k0_off13 t) (k0_off13_inb t) ![3, 0, 0] inb_S8x256x128_S1x256x128_3_0_0 P
    (aStep (k0_off12 t) (k0_off12_inb t) ![2, 0, 0] inb_S8x256x128_S1x256x128_2_0_0 P
    (aStep (k0_off11 t) (k0_off11_inb t) ![1, 0, 0] inb_S8x256x128_S1x256x128_1_0_0 P
    (aStep (k0_off10 t) (k0_off10_inb t) ![0, 0, 0] inb_S8x256x128_S1x256x128_0_0_0 P
    f)))))))

def sAll (t : Fin k0_t1_loop.trips) (R : ST F) (f : (cc0_scratch2 : Ref sig .tc).ty.Contents (Elt F)) : (cc0_scratch2 : Ref sig .tc).ty.Contents (Elt F) :=
  sStep (k0_off31 t) (k0_off31_inb t) ![0, 7] inb_S256x8_S256x1_0_7 R
    (sStep (k0_off30 t) (k0_off30_inb t) ![0, 6] inb_S256x8_S256x1_0_6 R
    (sStep (k0_off29 t) (k0_off29_inb t) ![0, 5] inb_S256x8_S256x1_0_5 R
    (sStep (k0_off28 t) (k0_off28_inb t) ![0, 4] inb_S256x8_S256x1_0_4 R
    (sStep (k0_off27 t) (k0_off27_inb t) ![0, 3] inb_S256x8_S256x1_0_3 R
    (sStep (k0_off26 t) (k0_off26_inb t) ![0, 2] inb_S256x8_S256x1_0_2 R
    (sStep (k0_off25 t) (k0_off25_inb t) ![0, 1] inb_S256x8_S256x1_0_1 R
    (sStep (k0_off24 t) (k0_off24_inb t) ![0, 0] inb_S256x8_S256x1_0_0 R
    f)))))))

theorem aAll_read (t : Fin k0_t1_loop.trips) (P : QT F) (f : (cc0_scratch1 : Ref sig .tc).ty.Contents (Elt F)) :
    (aSlot (tj t)).view.read (Elt F) (aAll t P f) = mA ((aSlot (tj t)).view.read (Elt F) f) P := by
  refine (aStep_read (tj t) 7 (k0_off17_eq t) rfl _ _ P _ _
    (aStep_read (tj t) 6 (k0_off16_eq t) rfl _ _ P _ _
    (aStep_read (tj t) 5 (k0_off15_eq t) rfl _ _ P _ _
    (aStep_read (tj t) 4 (k0_off14_eq t) rfl _ _ P _ _
    (aStep_read (tj t) 3 (k0_off13_eq t) rfl _ _ P _ _
    (aStep_read (tj t) 2 (k0_off12_eq t) rfl _ _ P _ _
    (aStep_read (tj t) 1 (k0_off11_eq t) rfl _ _ P _ _
    (aStep_read (tj t) 0 (k0_off10_eq t) rfl _ _ P _ _
    rfl)))))))).trans ?_
  generalize (aSlot (tj t)).view.read (Elt F) f = X
  refine funext fun i => ?_
  have key : ∀ h : Fin 8, h = 0 ∨ h = 1 ∨ h = 2 ∨ h = 3 ∨ h = 4 ∨ h = 5 ∨ h = 6 ∨ h = 7 := by decide
  rcases key (hdA i) with h | h | h | h | h | h | h | h <;> simp [updA, mA, h]

theorem sAll_read (t : Fin k0_t1_loop.trips) (R : ST F) (f : (cc0_scratch2 : Ref sig .tc).ty.Contents (Elt F)) :
    (sSlot (tj t)).view.read (Elt F) (sAll t R f) = mS ((sSlot (tj t)).view.read (Elt F) f) R := by
  refine (sStep_read (tj t) 7 (k0_off31_eq t) rfl _ _ R _ _
    (sStep_read (tj t) 6 (k0_off30_eq t) rfl _ _ R _ _
    (sStep_read (tj t) 5 (k0_off29_eq t) rfl _ _ R _ _
    (sStep_read (tj t) 4 (k0_off28_eq t) rfl _ _ R _ _
    (sStep_read (tj t) 3 (k0_off27_eq t) rfl _ _ R _ _
    (sStep_read (tj t) 2 (k0_off26_eq t) rfl _ _ R _ _
    (sStep_read (tj t) 1 (k0_off25_eq t) rfl _ _ R _ _
    (sStep_read (tj t) 0 (k0_off24_eq t) rfl _ _ R _ _
    rfl)))))))).trans ?_
  generalize (sSlot (tj t)).view.read (Elt F) f = X
  refine funext fun i => ?_
  have key : ∀ h : Fin 8, h = 0 ∨ h = 1 ∨ h = 2 ∨ h = 3 ∨ h = 4 ∨ h = 5 ∨ h = 6 ∨ h = 7 := by decide
  rcases key (hdS i) with h | h | h | h | h | h | h | h <;> simp [updS, mS, h]

set_option maxHeartbeats 4000000 in
set_option maxRecDepth 65536 in
/-- The segment runs: the two slots hold the merge of what they held with the tile. -/
theorem merge_run (c : Dev nD) (a0 : Memref sig .tc .smem S11 .i32) (h0 : a0.IsWhole) (a1 : Memref sig .tc .vmem S8x256x128 .bf16) (h1 : a1.IsWhole)
    (a4 : Memref sig .tc .vmem S8x256x128 .f32) (h4 : a4.IsWhole) (k0_t1 : Fin k0_t1_loop.trips) (arg20 : BitVec 32) (v0 : Elt F .i32)
    (X : QT F) (Y : ST F) (P : QT F) (R : ST F) (Kt : PUnit → sProp 𝕄) :
    iprop(slotAt (aSlot (tj k0_t1)) c fullShare X ∗ slotAt (sSlot (tj k0_t1)) c fullShare Y ∗ wPt c cc0_scratch3 fullShare P ∗ wPt c cc0_scratch4 fullShare R
      ∗ (slotAt (aSlot (tj k0_t1)) c fullShare (mA X P) -∗ slotAt (sSlot (tj k0_t1)) c fullShare (mS Y R) -∗ wPt c cc0_scratch3 fullShare P
        -∗ wPt c cc0_scratch4 fullShare R -∗ Kt ⟨⟩))
      ⊢ wp frame (wpE (defs₀ (F := F)) 𝒱₀ c none) Set.univ (segMerge a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 k0_t1 arg20) Kt := by
  unfold slotAt
  iintro ⟨⟨%fa, %ha, Ha⟩, ⟨%fs, %hs, Hs⟩, Hp, Hl, HK⟩
  have hA10 := a_incl (tj k0_t1) (k0_off10 k0_t1) 0 (k0_off10_eq k0_t1) (by decide) (k0_off10_inb k0_t1)
  have hA11 := a_incl (tj k0_t1) (k0_off11 k0_t1) 1 (k0_off11_eq k0_t1) (by decide) (k0_off11_inb k0_t1)
  have hA12 := a_incl (tj k0_t1) (k0_off12 k0_t1) 2 (k0_off12_eq k0_t1) (by decide) (k0_off12_inb k0_t1)
  have hA13 := a_incl (tj k0_t1) (k0_off13 k0_t1) 3 (k0_off13_eq k0_t1) (by decide) (k0_off13_inb k0_t1)
  have hA14 := a_incl (tj k0_t1) (k0_off14 k0_t1) 4 (k0_off14_eq k0_t1) (by decide) (k0_off14_inb k0_t1)
  have hA15 := a_incl (tj k0_t1) (k0_off15 k0_t1) 5 (k0_off15_eq k0_t1) (by decide) (k0_off15_inb k0_t1)
  have hA16 := a_incl (tj k0_t1) (k0_off16 k0_t1) 6 (k0_off16_eq k0_t1) (by decide) (k0_off16_inb k0_t1)
  have hA17 := a_incl (tj k0_t1) (k0_off17 k0_t1) 7 (k0_off17_eq k0_t1) (by decide) (k0_off17_inb k0_t1)
  have hS24 := s_incl (tj k0_t1) (k0_off24 k0_t1) 0 (k0_off24_eq k0_t1) (by decide) (k0_off24_inb k0_t1)
  have hS25 := s_incl (tj k0_t1) (k0_off25 k0_t1) 1 (k0_off25_eq k0_t1) (by decide) (k0_off25_inb k0_t1)
  have hS26 := s_incl (tj k0_t1) (k0_off26 k0_t1) 2 (k0_off26_eq k0_t1) (by decide) (k0_off26_inb k0_t1)
  have hS27 := s_incl (tj k0_t1) (k0_off27 k0_t1) 3 (k0_off27_eq k0_t1) (by decide) (k0_off27_inb k0_t1)
  have hS28 := s_incl (tj k0_t1) (k0_off28 k0_t1) 4 (k0_off28_eq k0_t1) (by decide) (k0_off28_inb k0_t1)
  have hS29 := s_incl (tj k0_t1) (k0_off29 k0_t1) 5 (k0_off29_eq k0_t1) (by decide) (k0_off29_inb k0_t1)
  have hS30 := s_incl (tj k0_t1) (k0_off30 k0_t1) 6 (k0_off30_eq k0_t1) (by decide) (k0_off30_inb k0_t1)
  have hS31 := s_incl (tj k0_t1) (k0_off31 k0_t1) 7 (k0_off31_eq k0_t1) (by decide) (k0_off31_inb k0_t1)
  have hB10 := a_incl_on (tj k0_t1) (k0_off10 k0_t1) 0 (k0_off10_eq k0_t1) (by decide) (k0_off10_inb k0_t1)
  have hB11 := a_incl_on (tj k0_t1) (k0_off11 k0_t1) 1 (k0_off11_eq k0_t1) (by decide) (k0_off11_inb k0_t1)
  have hB12 := a_incl_on (tj k0_t1) (k0_off12 k0_t1) 2 (k0_off12_eq k0_t1) (by decide) (k0_off12_inb k0_t1)
  have hB13 := a_incl_on (tj k0_t1) (k0_off13 k0_t1) 3 (k0_off13_eq k0_t1) (by decide) (k0_off13_inb k0_t1)
  have hB14 := a_incl_on (tj k0_t1) (k0_off14 k0_t1) 4 (k0_off14_eq k0_t1) (by decide) (k0_off14_inb k0_t1)
  have hB15 := a_incl_on (tj k0_t1) (k0_off15 k0_t1) 5 (k0_off15_eq k0_t1) (by decide) (k0_off15_inb k0_t1)
  have hB16 := a_incl_on (tj k0_t1) (k0_off16 k0_t1) 6 (k0_off16_eq k0_t1) (by decide) (k0_off16_inb k0_t1)
  have hB17 := a_incl_on (tj k0_t1) (k0_off17 k0_t1) 7 (k0_off17_eq k0_t1) (by decide) (k0_off17_inb k0_t1)
  have hT24 := s_incl_on (tj k0_t1) (k0_off24 k0_t1) 0 (k0_off24_eq k0_t1) (by decide) (k0_off24_inb k0_t1)
  have hT25 := s_incl_on (tj k0_t1) (k0_off25 k0_t1) 1 (k0_off25_eq k0_t1) (by decide) (k0_off25_inb k0_t1)
  have hT26 := s_incl_on (tj k0_t1) (k0_off26 k0_t1) 2 (k0_off26_eq k0_t1) (by decide) (k0_off26_inb k0_t1)
  have hT27 := s_incl_on (tj k0_t1) (k0_off27 k0_t1) 3 (k0_off27_eq k0_t1) (by decide) (k0_off27_inb k0_t1)
  have hT28 := s_incl_on (tj k0_t1) (k0_off28 k0_t1) 4 (k0_off28_eq k0_t1) (by decide) (k0_off28_inb k0_t1)
  have hT29 := s_incl_on (tj k0_t1) (k0_off29 k0_t1) 5 (k0_off29_eq k0_t1) (by decide) (k0_off29_inb k0_t1)
  have hT30 := s_incl_on (tj k0_t1) (k0_off30 k0_t1) 6 (k0_off30_eq k0_t1) (by decide) (k0_off30_inb k0_t1)
  have hT31 := s_incl_on (tj k0_t1) (k0_off31 k0_t1) 7 (k0_off31_eq k0_t1) (by decide) (k0_off31_inb k0_t1)
  unfold segMerge
  sl_exec
  rw [wp_ret]
  imodintro
  iapply HK $$ [Ha] [Hs] Hp Hl
  · iexists aAll k0_t1 P fa
    isplitr
    · ipureintro
      exact (aAll_read k0_t1 P fa).trans (by rw [ha])
    · iexact Ha
  · iexists sAll k0_t1 R fs
    isplitr
    · ipureintro
      exact (sAll_read k0_t1 R fs).trans (by rw [hs])
    · iexact Hs

end Cert.KernelIdeal.Ring

end
-- ==== Proof.Comm.lean ====
/-
  One wait and one hop of the ring, at any of its cells.
-/
module

public import proofs.«01_k».proof.Proof.Values

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (Q : Dev nD → QT F) (A : Dev nD → ℕ → QT F) (S : Dev nD → ℕ → ST F)

/-- The cells that are used: all but the query's departure from slot 7 and its arrival in slot 0. -/
def Live (k : Fin 6) (j : Fin 8) : Prop := ¬((k = 0 ∧ j = 7) ∨ (k = 1 ∧ j = 0))

instance (k : Fin 6) (j : Fin 8) : Decidable (Live k j) := by unfold Live; infer_instance

/-- What a cell of the ring expects. -/
abbrev amt (k : Fin 6) : ℕ := if k.val < 4 then Nq else Ns

theorem amount_dS (c : Dev nD) (k : Fin 6) (j : Fin 8) (d : Bool) : (Rd Q A S).amount (dCell c k j) 0 d = amt k := by
  dsimp only [Rd]; rw [kind_dS]; rfl
theorem expect_dS (c : Dev nD) (k : Fin 6) (j : Fin 8) (h : Live k j) : (Rd Q A S).expect (dCell c k j) 0 = amt k := by
  unfold Schedule.expect Schedule.amountOf; rw [duties_dS Q A S c k j h, Finset.sum_singleton, amount_dS]

/-- What is owed, whatever has been waited on. -/
def owesE (c : Dev nD) (O : CellTallies nD τ sig Unit) : sProp 𝕄 := iprop(∃ W, owes (c : Thread nD τ) O W)

/-- A semaphore of an array, by its offset. -/
theorem sem_of (arr : DmaSems sig S8) (k : Fin 6)
    (H : ∀ (j : Fin 8) (hin : ∀ a, (![j.val] : Fin 1 → ℕ) a + S1.size a ≤ S8.size a),
      ((arr.slice (Rect.unit (s := S8) ![j.val] S1.size hin)).squeeze S_ squeezes_S1_S_).sem = dS k j)
    (j : Fin 8) {off : Fin 1 → ℕ} (hoff : off = ![j.val]) (hin : ∀ a, off a + S1.size a ≤ S8.size a) :
    ((arr.slice (Rect.unit (s := S8) off S1.size hin)).squeeze S_ squeezes_S1_S_).sem = dS k j := by
  subst hoff; exact H j hin

theorem sem7 (j : Fin 8) (hin : ∀ a, (![j.val] : Fin 1 → ℕ) a + S1.size a ≤ S8.size a) :
    ((cc0_scratch7.slice (Rect.unit (s := S8) ![j.val] S1.size hin)).squeeze S_ squeezes_S1_S_).sem = dS 0 j := by
  revert j; decide
theorem sem8 (j : Fin 8) (hin : ∀ a, (![j.val] : Fin 1 → ℕ) a + S1.size a ≤ S8.size a) :
    ((cc0_scratch8.slice (Rect.unit (s := S8) ![j.val] S1.size hin)).squeeze S_ squeezes_S1_S_).sem = dS 1 j := by
  revert j; decide
theorem sem9 (j : Fin 8) (hin : ∀ a, (![j.val] : Fin 1 → ℕ) a + S1.size a ≤ S8.size a) :
    ((cc0_scratch9.slice (Rect.unit (s := S8) ![j.val] S1.size hin)).squeeze S_ squeezes_S1_S_).sem = dS 2 j := by
  revert j; decide
theorem sem10 (j : Fin 8) (hin : ∀ a, (![j.val] : Fin 1 → ℕ) a + S1.size a ≤ S8.size a) :
    ((cc0_scratch10.slice (Rect.unit (s := S8) ![j.val] S1.size hin)).squeeze S_ squeezes_S1_S_).sem = dS 3 j := by
  revert j; decide
theorem sem11 (j : Fin 8) (hin : ∀ a, (![j.val] : Fin 1 → ℕ) a + S1.size a ≤ S8.size a) :
    ((cc0_scratch11.slice (Rect.unit (s := S8) ![j.val] S1.size hin)).squeeze S_ squeezes_S1_S_).sem = dS 4 j := by
  revert j; decide
theorem sem12 (j : Fin 8) (hin : ∀ a, (![j.val] : Fin 1 → ℕ) a + S1.size a ≤ S8.size a) :
    ((cc0_scratch12.slice (Rect.unit (s := S8) ![j.val] S1.size hin)).squeeze S_ squeezes_S1_S_).sem = dS 5 j := by
  revert j; decide

/-- A slot by its offset. -/
theorem q_slot (j : Fin 8) {off : Fin 4 → ℕ} (hoff : off = ![j.val, 0, 0, 0]) (hin : ∀ a, off a + S1x8x256x128.size a ≤ S8x8x256x128.size a)
    (hs : ∀ a, (Rect.unit (s := S8x8x256x128) off S1x8x256x128.size hin).stride a = 1) :
    ((Memref.whole cc0_scratch0).slice (Rect.unit (s := S8x8x256x128) off S1x8x256x128.size hin) hs).squeeze
      S8x256x128 squeezes_S1x8x256x128_S8x256x128 = qSlot j := by subst hoff; rfl
theorem a_slot (j : Fin 8) {off : Fin 4 → ℕ} (hoff : off = ![j.val, 0, 0, 0]) (hin : ∀ a, off a + S1x8x256x128.size a ≤ S8x8x256x128.size a)
    (hs : ∀ a, (Rect.unit (s := S8x8x256x128) off S1x8x256x128.size hin).stride a = 1) :
    ((Memref.whole cc0_scratch1).slice (Rect.unit (s := S8x8x256x128) off S1x8x256x128.size hin) hs).squeeze
      S8x256x128 squeezes_S1x8x256x128_S8x256x128 = aSlot j := by subst hoff; rfl
theorem s_slot (j : Fin 8) {off : Fin 3 → ℕ} (hoff : off = ![j.val, 0, 0]) (hin : ∀ a, off a + S1x256x8.size a ≤ S8x256x8.size a)
    (hs : ∀ a, (Rect.unit (s := S8x256x8) off S1x256x8.size hin).stride a = 1) :
    ((Memref.whole cc0_scratch2).slice (Rect.unit (s := S8x256x8) off S1x256x8.size hin) hs).squeeze
      S256x8 squeezes_S1x256x8_S256x8 = sSlot j := by subst hoff; rfl

/-- A wait on a cell of the ring, closed at once. -/
theorem wait_run (c : Dev nD) (κ : ℕ) (k : Fin 6) (j : Fin 8) (hl : Live k j) {sh : Shape} {e : EltTy} (sem : DmaSem sig) (hsem : sem = dS k j)
    (src dst : Memref sig .tc .vmem sh e) {h1 : src.view.WordExact} {h2 : dst.view.WordExact} (hN : dst.view.dmaCredit = amt k)
    (O : CellTallies nD τ sig Unit) (hW : (levAts L lv : sProp 𝕄) ⊢ MayWait (c : Thread nD τ) (.dma (dS k j)) () O) (Kt : PUnit → sProp 𝕄) :
    iprop(cellInv ER (Rd Q A S) κ (dCell c k j) ∗ levAts L lv ∗ cred (tallyAt (dCell c k j) () (amt k)) ∗ owesE c O
      ∗ atPos ER (dCell c k j) 0 ∅ 0 ∗ (owesE c O -∗ semVal (dCell c k j) 0 -∗ kpay Q A S c false (.dma k j) -∗ Kt ⟨⟩))
      ⊢ wp frame (wpE (defs₀ (F := F)) 𝒱₀ c none) Set.univ (Prog.lift (.waitDma2 sem src dst h1 h2)) Kt := by
  subst hsem
  unfold owesE
  iintro ⟨#HI, #Hlev, Hc, ⟨%W, HO⟩, Hat, Hk⟩
  iapply (Rounds.wp_wait_rest_token 𝒱₀ ER (Rd Q A S) (c : Thread nD τ) none (κ := κ)
      (wpE_waitDma2_eq (src := src) (dst := dst) 𝒱₀ (c : Thread nD τ) none Set.univ) (Set.mem_univ _) () (O := O) (W := W) (R := 0) (m := 0) (T := ∅)
      ((Nat.zero_add _).trans (hN.trans (expect_dS Q A S c k j hl).symm))) $$ [Hc HO Hat]
  · isplitr; · iexact HI
    isplitl [Hc]; · rw [hN]; iexact Hc
    isplitl [HO]; · iexact HO
    isplitr; · iapply hW; iexact Hlev
    iexact Hat
  iintro ⟨HO, Hat, -, Hpay⟩
  rw [wp_ret]
  imod (close Q A S κ (dCell c k j)) $$ [Hat] with Hs
  · isplitr; · iexact HI
    iexact Hat
  imodintro
  ihave Hp := (Entails.of_eq (rest_dS Q A S c k j hl)) $$ Hpay
  iapply Hk $$ [HO] Hs Hp
  iexists _; iexact HO

/-- A hop of the ring whose source comes back to its sender. -/
theorem send_run (c n : Dev nD) (κ₁ κ₂ : ℕ) (kS kR : Fin 6) (jS jR : Fin 8) (hlS : Live kS jS) (hlR : Live kR jR) (hk : amt kS = amt kR)
    {sh : Shape} {e : EltTy} (Ms Md src dst : Memref sig .tc .vmem sh e) (hs : src = Ms) (hd : dst = Md) (n' : Dev nD) (hn : n' = n)
    (sS sR : DmaSem sig) (hsS : sS = dS kS jS) (hsR : sR = dS kR jR) {h1 : src.view.WordExact} {h2 : dst.view.WordExact}
    {hsc : dst.view.ref.isScScratch = false}
    {h3 : DmaTarget.Typed .vmem (.dma sR) (.remote (τ := τ) (nD := nD) (Dev.tc n') dst (.dma sS) hsc)} (hN : Md.view.dmaCredit = amt kR)
    (q : PosShare TreeShare) (X : sh.Idx → Elt F e) (Fr : sProp 𝕄) (O₁ O : CellTallies nD τ sig Unit)
    (hO : O₁ = O + tallyAt (dCell n kR jR) () (amt kR))
    (hp1 : slotAt Ms c q X ⊢ kpay Q A S c false (.dma kS jS))
    (hp2 : iprop(slotAt Md n fullShare X ∗ Fr) ⊢ kpay Q A S n false (.dma kR jR)) (Kt : PUnit → sProp 𝕄) :
    iprop(cellInv ER (Rd Q A S) κ₁ (dCell c kS jS) ∗ cellInv ER (Rd Q A S) κ₂ (dCell n kR jR) ∗ slotAt Ms c q X ∗ slotAny Md n ∗ Fr ∗ owesE c O₁
      ∗ dutyTok ER (dCell c kS jS) 0 false ∗ reached ER (dCell c kS jS) 0 ∗ dutyTok ER (dCell n kR jR) 0 false ∗ reached ER (dCell n kR jR) 0
      ∗ (owesE c O -∗ cred (tallyAt (dCell c kS jS) () (amt kS)) -∗ Kt ⟨⟩))
      ⊢ wp frame (wpE (defs₀ (F := F)) 𝒱₀ c none) Set.univ
          (Prog.lift (.enqueueDma src (.remote (Dev.tc n') dst (.dma sS) hsc) (.dma sR) h1 h2 h3)) Kt := by
  subst hs hd hn hsS hsR
  unfold owesE slotAny
  rw [show slotAt src c q X = iprop(∃ f, ⌜src.view.read (Elt F) f = X⌝ ∗ slotPt src c q f) from rfl]
  iintro ⟨#HI1, #HI2, ⟨%fs, %hfs, Hs⟩, ⟨%fd, Hd⟩, HF, ⟨%W, HO⟩, Ht1, #Hr1, Ht2, #Hr2, Hk⟩
  iapply (Rounds.wp_send_pointsTo_with 𝒱₀ ER (Rd Q A S) (c : Thread nD τ) none (c' := (n' : Thread nD τ)) (src := src) (dst := dst)
      (sS := .dma (dS kS jS)) (sem := .dma (dS kR jR)) (q := q) (fs := fs) (κ₁ := κ₁) (κ₂ := κ₂)
      (r₁ := 0) (r₂ := 0) (d₁ := false) (d₂ := false) (fd := fd) (F := Fr)
      (by rw [duties_dS Q A S c kS jS hlS]; exact Finset.mem_singleton_self _) (by rw [duties_dS Q A S n' kR jR hlR]; exact Finset.mem_singleton_self _)
      () () (amt kR) hN ((amount_dS Q A S c kS jS false).trans hk) (amount_dS Q A S n' kR jR false) O hO (W := W)
      (by rw [pay_dS]
          unfold slotAt at hp1
          iintro H; iapply hp1; iexists fs; isplitr
          · ipureintro; exact hfs
          · iexact H)
      (by rw [pay_dS]
          unfold slotAt at hp2
          iintro ⟨H, HF⟩; iapply hp2; isplitl [H]
          · iexists _; isplitr
            · ipureintro; exact (View.read_write_univ (v := dst.view) fd _).trans hfs
            · iexact H
          · iexact HF)) $$ [Hs Hd HF HO Ht1 Ht2]
  · isplitr; · iexact HI1
    isplitr; · iexact HI2
    isplitl [Hs]; · iexact Hs
    isplitl [Hd HF]
    · isplitl [Hd]; · iexact Hd
      iexact HF
    isplitl [HO]; · iexact HO
    isplitl [Ht1]; · iexact Ht1
    isplitr; · iexact Hr1
    isplitl [Ht2]; · iexact Ht2
    iexact Hr2
  iintro ⟨Hc, HO⟩
  rw [wp_ret]
  imodintro
  rw [hk]
  iapply Hk $$ [HO] Hc
  iexists W; iexact HO

/-- A hop of the ring whose source goes along with the block. -/
theorem send_run_landing (c n : Dev nD) (κ₁ κ₂ : ℕ) (kS kR : Fin 6) (jS jR : Fin 8) (hlS : Live kS jS) (hlR : Live kR jR) (hk : amt kS = amt kR)
    {sh : Shape} {e : EltTy} (Ms Md src dst : Memref sig .tc .vmem sh e) (hs : src = Ms) (hd : dst = Md) (n' : Dev nD) (hn : n' = n)
    (sS sR : DmaSem sig) (hsS : sS = dS kS jS) (hsR : sR = dS kR jR) {h1 : src.view.WordExact} {h2 : dst.view.WordExact}
    {hsc : dst.view.ref.isScScratch = false}
    {h3 : DmaTarget.Typed .vmem (.dma sR) (.remote (τ := τ) (nD := nD) (Dev.tc n') dst (.dma sS) hsc)} (hN : Md.view.dmaCredit = amt kR)
    (X : sh.Idx → Elt F e) (O₁ O : CellTallies nD τ sig Unit)
    (hO : O₁ = O + tallyAt (dCell n kR jR) () (amt kR))
    (hp1 : (emp : sProp 𝕄) ⊢ kpay Q A S c false (.dma kS jS))
    (hp2 : iprop(slotAt Md n fullShare X ∗ slotAny Ms c) ⊢ kpay Q A S n false (.dma kR jR)) (Kt : PUnit → sProp 𝕄) :
    iprop(cellInv ER (Rd Q A S) κ₁ (dCell c kS jS) ∗ cellInv ER (Rd Q A S) κ₂ (dCell n kR jR) ∗ slotAt Ms c fullShare X ∗ slotAny Md n ∗ owesE c O₁
      ∗ dutyTok ER (dCell c kS jS) 0 false ∗ reached ER (dCell c kS jS) 0 ∗ dutyTok ER (dCell n kR jR) 0 false ∗ reached ER (dCell n kR jR) 0
      ∗ (owesE c O -∗ cred (tallyAt (dCell c kS jS) () (amt kS)) -∗ Kt ⟨⟩))
      ⊢ wp frame (wpE (defs₀ (F := F)) 𝒱₀ c none) Set.univ
          (Prog.lift (.enqueueDma src (.remote (Dev.tc n') dst (.dma sS) hsc) (.dma sR) h1 h2 h3)) Kt := by
  subst hs hd hn hsS hsR
  unfold owesE
  rw [show slotAt src c fullShare X = iprop(∃ f, ⌜src.view.read (Elt F) f = X⌝ ∗ slotPt src c fullShare f) from rfl,
    show slotAny dst n' = iprop(∃ f, slotPt dst n' fullShare f) from rfl]
  iintro ⟨#HI1, #HI2, ⟨%fs, %hfs, Hs⟩, ⟨%fd, Hd⟩, ⟨%W, HO⟩, Ht1, #Hr1, Ht2, #Hr2, Hk⟩
  iapply (Rounds.wp_send_landing_pointsTo 𝒱₀ ER (Rd Q A S) (c : Thread nD τ) none (c' := (n' : Thread nD τ)) (src := src) (dst := dst)
      (sS := .dma (dS kS jS)) (sem := .dma (dS kR jR)) (q := fullShare) (fs := fs) (κ₁ := κ₁) (κ₂ := κ₂)
      (r₁ := 0) (r₂ := 0) (d₁ := false) (d₂ := false) (fd := fd)
      (by rw [duties_dS Q A S c kS jS hlS]; exact Finset.mem_singleton_self _) (by rw [duties_dS Q A S n' kR jR hlR]; exact Finset.mem_singleton_self _)
      () () (amt kR) hN ((amount_dS Q A S c kS jS false).trans hk) (amount_dS Q A S n' kR jR false) O hO (W := W)
      (by rw [pay_dS]; exact hp1)
      (by rw [pay_dS]
          unfold slotAt slotAny at hp2
          iintro ⟨H, Hs⟩; iapply hp2; isplitl [H]
          · iexists _; isplitr
            · ipureintro; exact (View.read_write_univ (v := dst.view) fd _).trans hfs
            · iexact H
          · iexists fs; iexact Hs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  rw [hk]
  iapply Hk $$ [HO] Hc
  iexists W; iexact HO

end

end Cert.KernelIdeal.Ring

end
-- ==== Proof.Trip.lean ====
/-
  The communication of one trip: what a device holds before and after each of its waits and hops.
-/
module

public import proofs.«01_k».proof.Proof.Comm

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Offsets and conditions of a trip -/

theorem cond1_iff : ∀ t : Fin k0_t1_loop.trips, k0_cond1 t = 1#1 ↔ 0 < t.val := by decide +kernel
theorem cond2_iff : ∀ t : Fin k0_t1_loop.trips, k0_cond2 t = 1#1 ↔ t.val < 7 := by decide +kernel
theorem cond3_iff : ∀ t : Fin k0_t1_loop.trips, k0_cond3 t = 1#1 ↔ 0 < t.val := by decide +kernel
theorem off1_sl : ∀ t : Fin k0_t1_loop.trips, 0 < t.val → k0_off1 t = ![(sl (t.val - 1)).val] := by decide +kernel
theorem off18_sl : ∀ t : Fin k0_t1_loop.trips, 0 < t.val → k0_off18 t = ![(sl (t.val - 1)).val] := by decide +kernel
theorem off4_sl : ∀ t : Fin k0_t1_loop.trips, k0_off4 t = ![(sl t.val).val] := by decide +kernel
theorem off23_sl : ∀ t : Fin k0_t1_loop.trips, k0_off23 t = ![(sl t.val).val] := by decide +kernel
theorem off5_sl : ∀ t : Fin k0_t1_loop.trips, k0_off5 t = ![(sl t.val).val] := by decide +kernel
theorem off32_sl : ∀ t : Fin k0_t1_loop.trips, k0_off32 t = ![(sl t.val).val] := by decide +kernel
theorem off6_sl : ∀ t : Fin k0_t1_loop.trips, t.val < 7 → k0_off6 t = ![(sl (t.val + 1)).val] := by decide +kernel
theorem off33_sl : ∀ t : Fin k0_t1_loop.trips, k0_off33 t = ![(sl (t.val + 1)).val] := by decide +kernel
theorem off7_sl : ∀ t : Fin k0_t1_loop.trips, t.val < 7 → k0_off7 t = ![(sl (t.val + 1)).val, 0, 0, 0] := by decide +kernel
theorem off8_sl : ∀ t : Fin k0_t1_loop.trips, k0_off8 t = ![(sl t.val).val, 0, 0, 0] := by decide +kernel
theorem off34_sl : ∀ t : Fin k0_t1_loop.trips, k0_off34 t = ![(sl (t.val + 1)).val, 0, 0, 0] := by decide +kernel
theorem off35_sl : ∀ t : Fin k0_t1_loop.trips, k0_off35 t = ![(sl t.val).val, 0, 0, 0] := by decide +kernel
theorem off36_sl : ∀ t : Fin k0_t1_loop.trips, k0_off36 t = ![(sl (t.val + 1)).val, 0, 0] := by decide +kernel
theorem off37_sl : ∀ t : Fin k0_t1_loop.trips, k0_off37 t = ![(sl t.val).val, 0, 0] := by decide +kernel

theorem crd_q (M : Memref sig .tc .vmem S8x256x128 .bf16) : M.view.dmaCredit = Nq := rfl
theorem crd_s (M : Memref sig .tc .vmem S256x8 .f32) : M.view.dmaCredit = Ns := rfl

theorem live0 {t : ℕ} (h : t < 7) : Live 0 (sl t) := by interval_cases t <;> decide
theorem live1 {t : ℕ} (h : t < 7) : Live 1 (sl (t + 1)) := by interval_cases t <;> decide
theorem live2 (j : Fin 8) : Live 2 j := by revert j; decide
theorem live3 (j : Fin 8) : Live 3 j := by revert j; decide
theorem live4 (j : Fin 8) : Live 4 j := by revert j; decide
theorem live5 (j : Fin 8) : Live 5 j := by revert j; decide
theorem sl_succ_ne {t : ℕ} (h : t < 7) : sl (t + 1) ≠ 0 := by interval_cases t <;> decide
theorem sl_ne {t : ℕ} (h0 : 0 < t) (h : t < 8) : sl t ≠ 0 := by interval_cases t <;> decide
theorem back_succ {t : ℕ} (h : t < 8) : (back (sl (t + 1))).val = t := by interval_cases t <;> decide

/-! ## Levels -/

theorem above_O {b : ℕ} (c n : Dev nD) (t t' u : ℕ) (h : b < 13 + 2 * t) (h' : b < 13 + 2 * t') (hb : b < 27) (hu : b < 12 + 2 * u) :
    Above b (Ox c + Oa n t + Os n t' + Oq n u) :=
  above_add (above_add (above_add (above_Ox c (by omega)) (above_Oa n t h hb)) (above_Os n t' h' hb)) (above_Oq n u hu)

theorem may_send (c : Dev nD) (k : Fin 6) (hk : k = 0 ∨ k = 2 ∨ k = 4) (j : Fin 8) (t t' u : ℕ) :
    (levAts L lv : sProp 𝕄) ⊢ MayWait (c : Thread nD τ) (.dma (dS k j)) () (Ox c + Oa (nxt c) t + Os (nxt c) t' + Oq (nxt c) u) :=
  mayWait_of_above (b := 0) (by rw [kind_dS]; rcases hk with rfl | rfl | rfl <;> exact Nat.le_refl 0)
    (above_O c _ t t' u (by omega) (by omega) (by omega) (by omega))

theorem may_other (c : Dev nD) (s : SemLoc sig) (hk : kind s = .other) (t t' u : ℕ) :
    (levAts L lv : sProp 𝕄) ⊢ MayWait (c : Thread nD τ) s () (Ox c + Oa (nxt c) t + Os (nxt c) t' + Oq (nxt c) u) :=
  mayWait_of_above (b := 0) (by rw [hk]; exact Nat.le_refl 0)
    (above_O c _ t t' u (by omega) (by omega) (by omega) (by omega))

theorem may_q (c : Dev nD) {t : ℕ} (ht : t < 7) :
    (levAts L lv : sProp 𝕄) ⊢ MayWait (c : Thread nD τ) (.dma (dS 1 (sl (t + 1)))) ()
      (Ox c + Oa (nxt c) (t + 1) + Os (nxt c) (t + 1) + Oq (nxt c) (t + 1)) :=
  mayWait_of_above (b := 10 + 2 * (t + 1)) (by rw [klev_q, sl_val (by omega)])
    (above_O c _ _ _ _ (by omega) (by omega) (by omega) (by omega))

theorem may_as (c : Dev nD) (k : Fin 6) (hk : k = 3 ∨ k = 5) {t : ℕ} (ht : t < 7) :
    (levAts L lv : sProp 𝕄) ⊢ MayWait (c : Thread nD τ) (.dma (dS k (sl (t + 1)))) ()
      (Ox c + Oa (nxt c) (t + 1) + Os (nxt c) (t + 1) + Oq (nxt c) (t + 2)) :=
  mayWait_of_above (b := 11 + 2 * (t + 1)) (by
      rcases hk with rfl | rfl
      · rw [klev_a, if_neg (sl_succ_ne ht), sl_val (by omega)]
      · rw [klev_s, if_neg (sl_succ_ne ht), sl_val (by omega)])
    (above_O c _ _ _ _ (by omega) (by omega) (by omega) (by omega))

theorem may_last (c : Dev nD) (k : Fin 6) (j : Fin 8) :
    (levAts L lv : sProp 𝕄) ⊢ MayWait (c : Thread nD τ) (.dma (dS k j)) () (Ot c 8) := by
  unfold Ot
  rw [Oa_end _ (Nat.le_refl 8), Os_end _ (Nat.le_refl 8), Oq_end _ (by omega : 7 ≤ 8), add_zero, add_zero, add_zero]
  refine mayWait_of_above (b := 27) ?_ (above_Ox c (by omega))
  rw [kind_dS]; revert k j; decide

section
variable (Q : Dev nD → QT F) (A : Dev nD → ℕ → QT F) (S : Dev nD → ℕ → ST F) (K : GSem nD τ sig → ℕ) (c : Dev nD)

/-! ## What persists -/

theorem bs_elim {I : Type} [DecidableEq I] {s : Finset I} {i : I} (h : i ∈ s) {Φ : I → sProp 𝕄} : (bigSep s Φ : sProp 𝕄) ⊢ Φ i :=
  bigSep_elim h

/-- The cells of this device and of the next as the protocol runs them, and the rounds they have reached. -/
def Env : sProp 𝕄 :=
  iprop((bigSep (Finset.univ : Finset (Fin 6 × Fin 8)) fun p => cellInv ER (Rd Q A S) (K (dCell c p.1 p.2)) (dCell c p.1 p.2))
    ∗ (bigSep (Finset.univ : Finset (Fin 6 × Fin 8)) fun p => cellInv ER (Rd Q A S) (K (dCell (nxt c) p.1 p.2)) (dCell (nxt c) p.1 p.2))
    ∗ (bigSep (Finset.univ : Finset (Fin 6 × Fin 8)) fun p => reached ER (dCell c p.1 p.2) 0)
    ∗ reachedRecv (nxt c) ∗ levAts L lv)

instance Env_persistent : BI.Persistent (Env Q A S K c : sProp 𝕄) := by unfold Env reachedRecv; infer_instance

theorem env_inv (k : Fin 6) (j : Fin 8) : (Env Q A S K c : sProp 𝕄) ⊢ cellInv ER (Rd Q A S) (K (dCell c k j)) (dCell c k j) := by
  unfold Env
  iintro ⟨#H, -⟩
  iapply (bs_elim (Finset.mem_univ (k, j)) (Φ := fun p : Fin 6 × Fin 8 => cellInv ER (Rd Q A S) (K (dCell c p.1 p.2)) (dCell c p.1 p.2)))
  iexact H
theorem env_inv_nxt (k : Fin 6) (j : Fin 8) :
    (Env Q A S K c : sProp 𝕄) ⊢ cellInv ER (Rd Q A S) (K (dCell (nxt c) k j)) (dCell (nxt c) k j) := by
  unfold Env
  iintro ⟨-, #H, -⟩
  iapply (bs_elim (Finset.mem_univ (k, j)) (Φ := fun p : Fin 6 × Fin 8 => cellInv ER (Rd Q A S) (K (dCell (nxt c) p.1 p.2)) (dCell (nxt c) p.1 p.2)))
  iexact H
theorem env_reached (k : Fin 6) (j : Fin 8) : (Env Q A S K c : sProp 𝕄) ⊢ reached ER (dCell c k j) 0 := by
  unfold Env
  iintro ⟨-, -, #H, -⟩
  iapply (bs_elim (Finset.mem_univ (k, j)) (Φ := fun p : Fin 6 × Fin 8 => (reached ER (dCell c p.1 p.2) 0 : sProp 𝕄)))
  iexact H
theorem env_recv (j : Fin 8) : (Env Q A S K c : sProp 𝕄)
    ⊢ iprop(reached ER (dCell (nxt c) 1 j) 0 ∗ reached ER (dCell (nxt c) 3 j) 0 ∗ reached ER (dCell (nxt c) 5 j) 0) := by
  unfold Env reachedRecv
  iintro ⟨-, -, -, #H, -⟩
  iapply (bs_elim (Finset.mem_univ j) (Φ := fun j : Fin 8 => (iprop(reached ER (dCell (nxt c) 1 j) 0 ∗ reached ER (dCell (nxt c) 3 j) 0 ∗ reached ER (dCell (nxt c) 5 j) 0) : sProp 𝕄)))
  iexact H
theorem env_recv1 (j : Fin 8) : (Env Q A S K c : sProp 𝕄) ⊢ reached ER (dCell (nxt c) 1 j) 0 := by
  iintro #H; ihave Hr := (env_recv Q A S K c j) $$ H; icases Hr with ⟨#H1, -, -⟩; iexact H1
theorem env_recv3 (j : Fin 8) : (Env Q A S K c : sProp 𝕄) ⊢ reached ER (dCell (nxt c) 3 j) 0 := by
  iintro #H; ihave Hr := (env_recv Q A S K c j) $$ H; icases Hr with ⟨-, #H1, -⟩; iexact H1
theorem env_recv5 (j : Fin 8) : (Env Q A S K c : sProp 𝕄) ⊢ reached ER (dCell (nxt c) 5 j) 0 := by
  iintro #H; ihave Hr := (env_recv Q A S K c j) $$ H; icases Hr with ⟨-, -, #H1⟩; iexact H1
theorem env_lev : (Env Q A S K c : sProp 𝕄) ⊢ levAts L lv := by
  unfold Env
  iintro ⟨-, -, -, -, #H⟩
  iexact H

/-! ## What moves -/

abbrev tok (c : Dev nD) (k : Fin 6) (j : Fin 8) : sProp 𝕄 := dutyTok ER (dCell c k j) 0 false
abbrev pos (c : Dev nD) (k : Fin 6) (j : Fin 8) : sProp 𝕄 := atPos ER (dCell c k j) 0 ∅ 0
abbrev crd (c : Dev nD) (k : Fin 6) (j : Fin 8) : sProp 𝕄 := cred (tallyAt (dCell c k j) () (amt k))
abbrev zer (c : Dev nD) (k : Fin 6) (j : Fin 8) : sProp 𝕄 := semVal (dCell c k j) 0

/-- The query's hop of step t to come; in flight; come and gone. -/
def FutQ (t : ℕ) : sProp 𝕄 :=
  iprop(slotAny (qSlot (sl (t + 1))) (nxt c) ∗ tok c 0 (sl t) ∗ tok (nxt c) 1 (sl (t + 1)) ∗ pos c 0 (sl t) ∗ pos c 1 (sl (t + 1)) ∗ crd c 1 (sl (t + 1)))
def MidQ (t : ℕ) : sProp 𝕄 := iprop(pos c 0 (sl t) ∗ crd c 0 (sl t) ∗ pos c 1 (sl (t + 1)) ∗ crd c 1 (sl (t + 1)))
def DoneQ (t : ℕ) : sProp 𝕄 := iprop(slotAny (qSlot (sl t)) c ∗ zer c 0 (sl t) ∗ zer c 1 (sl (t + 1)))
def FutsQ (t : ℕ) : sProp 𝕄 := bigSep (Finset.Ico t 7) (FutQ c)
def DonesQ (t : ℕ) : sProp 𝕄 := bigSep (Finset.range t) (DoneQ c)
def HopQ (t : ℕ) : sProp 𝕄 := if t < 7 then MidQ c t else slotAt (qSlot (sl t)) c fullShare.left (Q (own c t))
/-- The query at the top of trip t. -/
def CurQ : ℕ → sProp 𝕄
  | 0 => slotAt (qSlot (sl 0)) c fullShare (Q (own c 0))
  | t + 1 => iprop(slotAt (qSlot (sl t)) c fullShare.right (Q (own c t)) ∗ HopQ Q c t)

/-- The sums' hops of step t, likewise. -/
def FutA (t : ℕ) : sProp 𝕄 :=
  iprop((if t < 7 then slotAny (aSlot (sl (t + 1))) (nxt c) else iprop(emp)) ∗ (if t < 7 then slotAny (sSlot (sl (t + 1))) (nxt c) else iprop(emp))
    ∗ (tok c 2 (sl t) ∗ tok (nxt c) 3 (sl (t + 1)) ∗ tok c 4 (sl t) ∗ tok (nxt c) 5 (sl (t + 1)))
    ∗ pos c 2 (sl t) ∗ pos c 3 (sl (t + 1)) ∗ pos c 4 (sl t) ∗ pos c 5 (sl (t + 1)) ∗ crd c 3 (sl (t + 1)) ∗ crd c 5 (sl (t + 1)))
def MidA (t : ℕ) : sProp 𝕄 :=
  iprop((pos c 2 (sl t) ∗ crd c 2 (sl t)) ∗ (pos c 4 (sl t) ∗ crd c 4 (sl t)) ∗ (pos c 3 (sl (t + 1)) ∗ crd c 3 (sl (t + 1)))
    ∗ (pos c 5 (sl (t + 1)) ∗ crd c 5 (sl (t + 1))))
def DoneA (t : ℕ) : sProp 𝕄 :=
  iprop(asendPay c (sl t) ∗ ssendPay c (sl t) ∗ zer c 2 (sl t) ∗ zer c 3 (sl (t + 1)) ∗ zer c 4 (sl t) ∗ zer c 5 (sl (t + 1)))
def FutsA (t : ℕ) : sProp 𝕄 := bigSep (Finset.Ico t 8) (FutA c)
def DonesA (t : ℕ) : sProp 𝕄 := bigSep (Finset.range t) (DoneA c)
/-- The slots 0 that travel with the sums. -/
def TravA (j : Fin 8) : sProp 𝕄 := if j = 0 then iprop(emp) else slotAny (aSlot 0) (own c j.val)
def TravS (j : Fin 8) : sProp 𝕄 := if j = 0 then iprop(emp) else slotAny (sSlot 0) (own c j.val)
/-- What has been summed before device c's own step t. -/
def Ain (Z : QT F) : ℕ → QT F
  | 0 => Z
  | t + 1 => A (prv c) t
def Sin (Z : ST F) : ℕ → ST F
  | 0 => Z
  | t + 1 => S (prv c) t
/-- The sums at the top of trip t. -/
def CurA (Z : QT F) (ZS : ST F) : ℕ → sProp 𝕄
  | 0 => iprop(slotAt (aSlot (sl 0)) c fullShare Z ∗ slotAt (sSlot (sl 0)) c fullShare ZS)
  | t + 1 => MidA c t

theorem CurQ_zero : CurQ Q c 0 = slotAt (qSlot (sl 0)) c fullShare (Q (own c 0)) := rfl
theorem CurQ_succ (t : ℕ) : CurQ Q c (t + 1) = iprop(slotAt (qSlot (sl t)) c fullShare.right (Q (own c t)) ∗ HopQ Q c t) := rfl
theorem FutsQ_peel {t : ℕ} (h : t < 7) : (FutsQ c t : sProp 𝕄) = iprop(FutQ c t ∗ FutsQ c (t + 1)) := by
  unfold FutsQ
  rw [← Finset.insert_Ico_add_one_left_eq_Ico h, bigSep_insert (by simp)]; rfl
theorem FutsA_peel {t : ℕ} (h : t < 8) : (FutsA c t : sProp 𝕄) = iprop(FutA c t ∗ FutsA c (t + 1)) := by
  unfold FutsA
  rw [← Finset.insert_Ico_add_one_left_eq_Ico h, bigSep_insert (by simp)]; rfl
theorem FutsQ_end {t : ℕ} (h : 7 ≤ t) : (FutsQ c t : sProp 𝕄) = FutsQ c 7 := by
  unfold FutsQ; rw [Finset.Ico_eq_empty_of_le h, Finset.Ico_self]
theorem DonesQ_succ (t : ℕ) : (DonesQ c (t + 1) : sProp 𝕄) = iprop(DoneQ c t ∗ DonesQ c t) := by
  unfold DonesQ
  rw [Finset.range_add_one, bigSep_insert Finset.notMem_range_self]; rfl
theorem DonesA_succ (t : ℕ) : (DonesA c (t + 1) : sProp 𝕄) = iprop(DoneA c t ∗ DonesA c t) := by
  unfold DonesA
  rw [Finset.range_add_one, bigSep_insert Finset.notMem_range_self]; rfl

theorem pay0 {t : ℕ} (h : t < 8) : kpay Q A S c false (.dma 0 (sl t)) = slotAt (qSlot (sl t)) c fullShare.left (Q (own c t)) := by
  show slotAt (qSlot (sl t)) c fullShare.left (Q (own c (sl t).val)) = _
  rw [sl_val h]
theorem pay1 {t : ℕ} (h : t < 8) : kpay Q A S c false (.dma 1 (sl t)) = slotAt (qSlot (sl t)) c fullShare (Q (own c t)) := by
  show slotAt (qSlot (sl t)) c fullShare (Q (own c (sl t).val)) = _
  rw [sl_val h]

theorem slot_share {sh : Shape} {e : EltTy} (M : Memref sig .tc .vmem sh e) (X : sh.Idx → Elt F e) :
    slotAt M c fullShare X ⊢ iprop(slotAt M c fullShare.left X ∗ slotAt M c fullShare.right X) := by
  unfold slotAt
  iintro ⟨%f, %hf, H⟩
  ihave H := ((pointsTo_share (PosShare.mem_left_op_right fullShare)).1) $$ H
  icases H with ⟨H1, H2⟩
  isplitl [H1]
  · iexists f; isplitr
    · ipureintro; exact hf
    · iexact H1
  · iexists f; isplitr
    · ipureintro; exact hf
    · iexact H2

theorem slot_unshare {sh : Shape} {e : EltTy} (M : Memref sig .tc .vmem sh e) (X Y : sh.Idx → Elt F e) :
    iprop(slotAt M c fullShare.left X ∗ slotAt M c fullShare.right Y) ⊢ slotAny M c := by
  unfold slotAt slotAny
  iintro ⟨⟨%f, %hf, H1⟩, ⟨%g, %hg, H2⟩⟩
  iexists f
  iapply (Laws.pure_elim _ pointsTo_agree (fun h => ?_) : iprop(slotPt M c fullShare.left f ∗ slotPt M c fullShare.right g) ⊢ slotPt M c fullShare f)
  · rw [show (slotPt M c fullShare.right g : sProp 𝕄) = slotPt M c fullShare.right f from
      pointsTo_congr fun i hi => ((h i (Finset.mem_inter.mpr ⟨hi, hi⟩)).1).symm]
    exact (pointsTo_share (PosShare.mem_left_op_right fullShare)).2
  isplitl [H1]
  · iexact H1
  · iexact H2

/-! ## The query's waits and hop -/

theorem segW_run (t : ℕ) (k0_t1 : Fin k0_t1_loop.trips) (ht : k0_t1.val = t) (Kt : PUnit → sProp 𝕄) :
    iprop(Env Q A S K c ∗ CurQ Q c t ∗ DonesQ c (t - 1) ∗ owesE c (Ot c t)
      ∗ (slotAt (qSlot (sl t)) c fullShare (Q (own c t)) -∗ DonesQ c t -∗ owesE c (Ot c t) -∗ Kt ⟨⟩))
      ⊢ wp frame (wpE (defs₀ (F := F)) 𝒱₀ c none) Set.univ
          (segW (Memref.whole cc0_scratch0) (Memref.isWhole_whole _) cc0_scratch7 cc0_scratch8 k0_t1) Kt := by
  have hlt : k0_t1.val < 8 := trips_eq ▸ k0_t1.isLt
  unfold segW
  cases t with
  | zero =>
    rw [dif_neg (fun h => by have := (cond1_iff k0_t1).mp h; omega), CurQ_zero]
    iintro ⟨#HE, Hq, Hd, HO, Hk⟩
    rw [wp_pure]
    imodintro
    iapply Hk $$ [Hq] [Hd] HO
    · iexact Hq
    · iexact Hd
  | succ t =>
    have hpos : 0 < k0_t1.val := by omega
    have ht7 : t < 7 := by omega
    have e1 : k0_off1 k0_t1 = ![(sl t).val] := (off1_sl k0_t1 hpos).trans (by rw [ht]; rfl)
    have e4 : k0_off4 k0_t1 = ![(sl (t + 1)).val] := (off4_sl k0_t1).trans (by rw [ht])
    rw [dif_pos ((cond1_iff k0_t1).mpr hpos)]
    rw [CurQ_succ, DonesQ_succ]
    unfold HopQ DoneQ
    rw [if_pos ht7]
    unfold MidQ
    dsimp only
    iintro ⟨#HE, ⟨Hr, Hp0, Hc0, Hp1, Hc1⟩, Hd, HO, Hk⟩
    rw [wp_bind]
    iapply (wait_run Q A S c (K (dCell c 0 (sl t))) 0 (sl t) (live0 ht7) _ (sem_of _ 0 sem7 (sl t) e1 _) _ _ (crd_q _) (Ot c (t + 1))
      (may_send c 0 (Or.inl rfl) (sl t) (t + 1) (t + 1) (t + 1)) _)
    isplitr; · iapply (env_inv Q A S K c 0 (sl t)); iexact HE
    isplitr; · iapply (env_lev Q A S K c); iexact HE
    isplitl [Hc0]; · iexact Hc0
    isplitl [HO]; · iexact HO
    isplitl [Hp0]; · iexact Hp0
    iintro HO Hz0 Hpay
    ihave Hl := (Entails.of_eq (pay0 Q A S c (by omega : t < 8))) $$ Hpay
    rw [wp_bind]
    iapply (wait_run Q A S c (K (dCell c 1 (sl (t + 1)))) 1 (sl (t + 1)) (live1 ht7) _ (sem_of _ 1 sem8 (sl (t + 1)) e4 _) _ _ (crd_q _) (Ot c (t + 1))
      (may_q c ht7) _)
    isplitr; · iapply (env_inv Q A S K c 1 (sl (t + 1))); iexact HE
    isplitr; · iapply (env_lev Q A S K c); iexact HE
    isplitl [Hc1]; · iexact Hc1
    isplitl [HO]; · iexact HO
    isplitl [Hp1]; · iexact Hp1
    iintro HO Hz1 Hpay
    ihave Hq := (Entails.of_eq (pay1 Q A S c (by omega : t + 1 < 8))) $$ Hpay
    rw [wp_pure]
    imodintro
    iapply Hk $$ Hq [Hl Hr Hd Hz0 Hz1] HO
    isplitr [Hd]
    · isplitl [Hl Hr]
      · iapply (slot_unshare c (qSlot (sl t)) _ _); isplitl [Hl]; · iexact Hl
        iexact Hr
      isplitl [Hz0]; · iexact Hz0
      iexact Hz1
    · iexact Hd

theorem segHop_run (t : ℕ) (k0_t1 : Fin k0_t1_loop.trips) (ht : k0_t1.val = t) (v0 : Elt F .i32) (hw : k0_chk2 v0)
    (hdev : ∀ h, (⟨k0_dev3 v0, h⟩ : Dev nD) = nxt c) (Kt : PUnit → sProp 𝕄) :
    iprop(Env Q A S K c ∗ slotAt (qSlot (sl t)) c fullShare (Q (own c t)) ∗ FutsQ c t ∗ owesE c (Ot c t)
      ∗ (slotAt (qSlot (sl t)) c fullShare.right (Q (own c t)) -∗ HopQ Q c t -∗ FutsQ c (t + 1)
        -∗ owesE c (Ox c + Oa (nxt c) t + Os (nxt c) t + Oq (nxt c) (t + 1)) -∗ Kt ⟨⟩))
      ⊢ wp frame (wpE (defs₀ (F := F)) 𝒱₀ c none) Set.univ
          (segHop (Memref.whole cc0_scratch0) (Memref.isWhole_whole _) cc0_scratch7 cc0_scratch8 v0 hw k0_t1) Kt := by
  have hlt : k0_t1.val < 8 := trips_eq ▸ k0_t1.isLt
  unfold segHop
  by_cases h7 : t < 7
  · rw [dif_pos ((cond2_iff k0_t1).mpr (by omega))]
    have e5 : k0_off5 k0_t1 = ![(sl t).val] := (off5_sl k0_t1).trans (by rw [ht])
    have e6 : k0_off6 k0_t1 = ![(sl (t + 1)).val] := (off6_sl k0_t1 (by omega)).trans (by rw [ht])
    have e7 : k0_off7 k0_t1 = ![(sl (t + 1)).val, 0, 0, 0] := (off7_sl k0_t1 (by omega)).trans (by rw [ht])
    have e8 : k0_off8 k0_t1 = ![(sl t).val, 0, 0, 0] := (off8_sl k0_t1).trans (by rw [ht])
    unfold HopQ
    rw [if_pos h7, FutsQ_peel c h7]
    unfold FutQ MidQ
    dsimp only
    rw [wp_bind]
    iintro ⟨#HE, Hq, ⟨⟨Hd, Ht1, Ht2, Hp0, Hp1, Hc1⟩, Hf⟩, HO, Hk⟩
    ihave Hq := (slot_share c _ _) $$ Hq
    icases Hq with ⟨Hl, Hr⟩
    iapply (send_run Q A S c (nxt c) (K (dCell c 0 (sl t))) (K (dCell (nxt c) 1 (sl (t + 1)))) 0 1 (sl t) (sl (t + 1)) (live0 h7) (live1 h7) rfl
      (qSlot (sl t)) (qSlot (sl (t + 1))) _ _ (q_slot (sl t) e8 _ _) (q_slot (sl (t + 1)) e7 _ _) _ (hdev _) _ _
      (sem_of _ 0 sem7 (sl t) e5 _) (sem_of _ 1 sem8 (sl (t + 1)) e6 _) rfl fullShare.left (Q (own c t)) iprop(emp)
      (Ot c t) (Ox c + Oa (nxt c) t + Os (nxt c) t + Oq (nxt c) (t + 1)) (by unfold Ot; rw [Oq_peel _ h7]; exact (add_assoc _ _ _).symm)
      (Entails.of_eq (pay0 Q A S c (by omega : t < 8)).symm)
      (by rw [pay1 Q A S (nxt c) (by omega : t + 1 < 8), own_nxt_succ]; exact (sep_emp (PROP := sProp 𝕄)).1) _)
    isplitr; · iapply (env_inv Q A S K c 0 (sl t)); iexact HE
    isplitr; · iapply (env_inv_nxt Q A S K c 1 (sl (t + 1))); iexact HE
    isplitl [Hl]; · iexact Hl
    isplitl [Hd]; · iexact Hd
    isplitr; · iempintro
    isplitl [HO]; · iexact HO
    isplitl [Ht1]; · iexact Ht1
    isplitr; · iapply (env_reached Q A S K c 0 (sl t)); iexact HE
    isplitl [Ht2]; · iexact Ht2
    isplitr; · iapply (env_recv1 Q A S K c (sl (t + 1))); iexact HE
    iintro HO Hc0
    rw [wp_pure]
    imodintro
    iapply Hk $$ Hr [Hp0 Hp1 Hc1 Hc0] Hf HO
    isplitl [Hp0]; · iexact Hp0
    isplitl [Hc0]; · iexact Hc0
    isplitl [Hp1]; · iexact Hp1
    iexact Hc1
  · rw [dif_neg (fun h => by have := (cond2_iff k0_t1).mp h; omega)]
    unfold HopQ
    rw [if_neg h7, FutsQ_end c (by omega : 7 ≤ t), FutsQ_end c (by omega : 7 ≤ t + 1)]
    unfold Ot
    rw [Oq_end _ (by omega : 7 ≤ t), Oq_end _ (by omega : 7 ≤ t + 1), wp_pure]
    iintro ⟨#HE, Hq, Hf, HO, Hk⟩
    ihave Hq := (slot_share c _ _) $$ Hq
    icases Hq with ⟨Hl, Hr⟩
    imodintro
    iapply Hk $$ Hr Hl Hf HO

end

end Cert.KernelIdeal.Ring

end
-- ==== Proof.Sums.lean ====
/-
  The waits for the travelling sums and their hops, then a whole trip.
-/
module

public import proofs.«01_k».proof.Proof.Trip

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (Q : Dev nD → QT F) (A : Dev nD → ℕ → QT F) (S : Dev nD → ℕ → ST F) (K : GSem nD τ sig → ℕ) (c : Dev nD)

theorem CurA_zero (Z : QT F) (ZS : ST F) :
    CurA c Z ZS 0 = iprop(slotAt (aSlot (sl 0)) c fullShare Z ∗ slotAt (sSlot (sl 0)) c fullShare ZS) := rfl
theorem CurA_succ (Z : QT F) (ZS : ST F) (t : ℕ) : CurA c Z ZS (t + 1) = MidA c t := rfl
theorem pay2 (j : Fin 8) : kpay Q A S c false (.dma 2 j) = asendPay c j := rfl
theorem pay4 (j : Fin 8) : kpay Q A S c false (.dma 4 j) = ssendPay c j := rfl
theorem pay3 {t : ℕ} (h : t < 8) : kpay Q A S c false (.dma 3 (sl (t + 1)))
    = iprop(slotAt (aSlot (sl (t + 1))) c fullShare (A (prv c) t) ∗ TravA c (sl (t + 1))) := by
  show iprop(slotAt (aSlot (sl (t + 1))) c fullShare (A (prv c) (back (sl (t + 1))).val) ∗ TravA c (sl (t + 1))) = _
  rw [back_succ h]
theorem pay5 {t : ℕ} (h : t < 8) : kpay Q A S c false (.dma 5 (sl (t + 1)))
    = iprop(slotAt (sSlot (sl (t + 1))) c fullShare (S (prv c) t) ∗ TravS c (sl (t + 1))) := by
  show iprop(slotAt (sSlot (sl (t + 1))) c fullShare (S (prv c) (back (sl (t + 1))).val) ∗ TravS c (sl (t + 1))) = _
  rw [back_succ h]

/-- The slot and its amounts, whichever sum's. -/
theorem join_wait (k : Fin 6) (hk : k = 2 ∨ k = 4 ∨ k = 3 ∨ k = 5) (j : Fin 8) : Live k j := by
  rcases hk with rfl | rfl | rfl | rfl
  · exact live2 j
  · exact live4 j
  · exact live3 j
  · exact live5 j

/-! ## The waits before the merge -/

theorem segJoin_run (a0 : Memref sig .tc .smem S11 .i32) (h0 : a0.IsWhole) (a1 : Memref sig .tc .vmem S8x256x128 .bf16) (h1 : a1.IsWhole)
    (a4 : Memref sig .tc .vmem S8x256x128 .f32) (h4 : a4.IsWhole) (t : ℕ) (k0_t1 : Fin k0_t1_loop.trips) (ht : k0_t1.val = t)
    (v0 : Elt F .i32) (arg20 : BitVec 32) (Z : QT F) (ZS : ST F) (Kt : PUnit → sProp 𝕄) :
    iprop(Env Q A S K c ∗ CurA c Z ZS t ∗ DonesA c (t - 1) ∗ owesE c (Ox c + Oa (nxt c) t + Os (nxt c) t + Oq (nxt c) (t + 1))
      ∗ (slotAt (aSlot (sl t)) c fullShare (Ain A c Z t) -∗ slotAt (sSlot (sl t)) c fullShare (Sin S c ZS t) -∗ TravA c (sl t) -∗ TravS c (sl t)
        -∗ DonesA c t -∗ owesE c (Ox c + Oa (nxt c) t + Os (nxt c) t + Oq (nxt c) (t + 1)) -∗ Kt ⟨⟩))
      ⊢ wp frame (wpE (defs₀ (F := F)) 𝒱₀ c none) Set.univ
          (segJoin a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 k0_t1 arg20) Kt := by
  have hlt : k0_t1.val < 8 := trips_eq ▸ k0_t1.isLt
  unfold segJoin
  cases t with
  | zero =>
    rw [dif_neg (fun h => by have := (cond3_iff k0_t1).mp h; omega), CurA_zero, wp_pure]
    iintro ⟨#HE, ⟨Ha, Hs⟩, Hd, HO, Hk⟩
    imodintro
    iapply Hk $$ [Ha] [Hs] [] [] [Hd] HO
    · iexact Ha
    · iexact Hs
    · unfold TravA; iempintro
    · unfold TravS; iempintro
    · iexact Hd
  | succ t =>
    have hpos : 0 < k0_t1.val := by omega
    have ht7 : t < 7 := by omega
    have e18 : k0_off18 k0_t1 = ![(sl t).val] := (off18_sl k0_t1 hpos).trans (by rw [ht]; rfl)
    have e23 : k0_off23 k0_t1 = ![(sl (t + 1)).val] := (off23_sl k0_t1).trans (by rw [ht])
    rw [dif_pos ((cond3_iff k0_t1).mpr hpos), k0_part1_eq_skeleton, CurA_succ, DonesA_succ]
    unfold MidA DoneA k0_part1_skel
    dsimp only
    iintro ⟨#HE, ⟨⟨Hp2, Hc2⟩, ⟨Hp4, Hc4⟩, ⟨Hp3, Hc3⟩, Hp5, Hc5⟩, Hd, HO, Hk⟩
    rw [wp_bind, wp_bind]
    iapply (wait_run Q A S c (K (dCell c 2 (sl t))) 2 (sl t) (live2 _) _ (sem_of _ 2 sem9 (sl t) e18 _) _ _ (crd_q _)
      (Ox c + Oa (nxt c) (t + 1) + Os (nxt c) (t + 1) + Oq (nxt c) (t + 2)) (may_send c 2 (Or.inr (Or.inl rfl)) (sl t) (t + 1) (t + 1) (t + 2)) _)
    isplitr; · iapply (env_inv Q A S K c 2 (sl t)); iexact HE
    isplitr; · iapply (env_lev Q A S K c); iexact HE
    isplitl [Hc2]; · iexact Hc2
    isplitl [HO]; · iexact HO
    isplitl [Hp2]; · iexact Hp2
    iintro HO Hz2 Hpay
    ihave Hy2 := (Entails.of_eq (pay2 Q A S c (sl t))) $$ Hpay
    rw [wp_bind]
    iapply (wait_run Q A S c (K (dCell c 4 (sl t))) 4 (sl t) (live4 _) _ (sem_of _ 4 sem11 (sl t) e18 _) _ _ (crd_s _)
      (Ox c + Oa (nxt c) (t + 1) + Os (nxt c) (t + 1) + Oq (nxt c) (t + 2)) (may_send c 4 (Or.inr (Or.inr rfl)) (sl t) (t + 1) (t + 1) (t + 2)) _)
    isplitr; · iapply (env_inv Q A S K c 4 (sl t)); iexact HE
    isplitr; · iapply (env_lev Q A S K c); iexact HE
    isplitl [Hc4]; · iexact Hc4
    isplitl [HO]; · iexact HO
    isplitl [Hp4]; · iexact Hp4
    iintro HO Hz4 Hpay
    ihave Hy4 := (Entails.of_eq (pay4 Q A S c (sl t))) $$ Hpay
    rw [wp_bind]
    iapply (wait_run Q A S c (K (dCell c 3 (sl (t + 1)))) 3 (sl (t + 1)) (live3 _) _ (sem_of _ 3 sem10 (sl (t + 1)) e23 _) _ _ (crd_q _)
      (Ox c + Oa (nxt c) (t + 1) + Os (nxt c) (t + 1) + Oq (nxt c) (t + 2)) (may_as c 3 (Or.inl rfl) ht7) _)
    isplitr; · iapply (env_inv Q A S K c 3 (sl (t + 1))); iexact HE
    isplitr; · iapply (env_lev Q A S K c); iexact HE
    isplitl [Hc3]; · iexact Hc3
    isplitl [HO]; · iexact HO
    isplitl [Hp3]; · iexact Hp3
    iintro HO Hz3 Hpay
    ihave Hy3 := (Entails.of_eq (pay3 Q A S c (by omega : t < 8))) $$ Hpay
    icases Hy3 with ⟨Ha, Hta⟩
    rw [wp_bind]
    iapply (wait_run Q A S c (K (dCell c 5 (sl (t + 1)))) 5 (sl (t + 1)) (live5 _) _ (sem_of _ 5 sem12 (sl (t + 1)) e23 _) _ _ (crd_s _)
      (Ox c + Oa (nxt c) (t + 1) + Os (nxt c) (t + 1) + Oq (nxt c) (t + 2)) (may_as c 5 (Or.inr rfl) ht7) _)
    isplitr; · iapply (env_inv Q A S K c 5 (sl (t + 1))); iexact HE
    isplitr; · iapply (env_lev Q A S K c); iexact HE
    isplitl [Hc5]; · iexact Hc5
    isplitl [HO]; · iexact HO
    isplitl [Hp5]; · iexact Hp5
    iintro HO Hz5 Hpay
    ihave Hy5 := (Entails.of_eq (pay5 Q A S c (by omega : t < 8))) $$ Hpay
    icases Hy5 with ⟨Hs, Hts⟩
    rw [wp_pure]
    imodintro
    rw [wp_pure]
    imodintro
    iapply Hk $$ [Ha] [Hs] Hta Hts [Hy2 Hy4 Hz2 Hz3 Hz4 Hz5 Hd] HO
    · iexact Ha
    · iexact Hs
    · isplitr [Hd]
      · isplitl [Hy2]; · iexact Hy2
        isplitl [Hy4]; · iexact Hy4
        isplitl [Hz2]; · iexact Hz2
        isplitl [Hz3]; · iexact Hz3
        isplitl [Hz4]; · iexact Hz4
        iexact Hz5
      · iexact Hd

/-! ## The hops of the sums -/

/-- One sum's hop at step t: at step 0 slot 0 goes along; from then to step 6 the travelling slot does; at step 7 it is
    the slot landed in. -/
theorem sum_hop (n : Dev nD) (hn1 : n = nxt c) (kS kR : Fin 6) (hlS : ∀ j, Live kS j) (hlR : ∀ j, Live kR j) (hk : amt kS = amt kR)
    {sh : Shape} {e : EltTy} (slot : Fin 8 → Memref sig .tc .vmem sh e) (X : Dev nD → ℕ → sh.Idx → Elt F e)
    (hS : ∀ c j, kpay Q A S c false (.dma kS j) = if j = 0 then iprop(emp) else slotAny (slot j) c)
    (hR : ∀ c (j : Fin 8), kpay Q A S c false (.dma kR j)
      = iprop(slotAt (slot j) c fullShare (X (prv c) (back j).val) ∗ if j = 0 then iprop(emp) else slotAny (slot 0) (own c j.val)))
    (hN : ∀ j, (slot j).view.dmaCredit = amt kR) (t : ℕ) (ht : t < 8)
    (src dst : Memref sig .tc .vmem sh e) (hs : src = slot (sl t)) (hd : dst = slot (sl (t + 1))) (n' : Dev nD) (hn : n' = n)
    (sS sR : DmaSem sig) (hsS : sS = dS kS (sl t)) (hsR : sR = dS kR (sl (t + 1))) {h1 : src.view.WordExact} {h2 : dst.view.WordExact}
    {hsc : dst.view.ref.isScScratch = false}
    {h3 : DmaTarget.Typed .vmem (.dma sR) (.remote (τ := τ) (nD := nD) (Dev.tc n') dst (.dma sS) hsc)}
    (O₁ O : CellTallies nD τ sig Unit) (hO : O₁ = O + tallyAt (dCell n kR (sl (t + 1))) () (amt kR)) (Kt : PUnit → sProp 𝕄) :
    iprop(cellInv ER (Rd Q A S) (K (dCell c kS (sl t))) (dCell c kS (sl t)) ∗ cellInv ER (Rd Q A S) (K (dCell n kR (sl (t + 1)))) (dCell n kR (sl (t + 1)))
      ∗ slotAt (slot (sl t)) c fullShare (X c t) ∗ (if sl t = 0 then iprop(emp) else slotAny (slot 0) (own c (sl t).val))
      ∗ (if t < 7 then slotAny (slot (sl (t + 1))) n else iprop(emp)) ∗ owesE c O₁
      ∗ tok c kS (sl t) ∗ reached ER (dCell c kS (sl t)) 0 ∗ tok n kR (sl (t + 1)) ∗ reached ER (dCell n kR (sl (t + 1))) 0
      ∗ (owesE c O -∗ crd c kS (sl t) -∗ Kt ⟨⟩))
      ⊢ wp frame (wpE (defs₀ (F := F)) 𝒱₀ c none) Set.univ
          (Prog.lift (.enqueueDma src (.remote (Dev.tc n') dst (.dma sS) hsc) (.dma sR) h1 h2 h3)) Kt := by
  have hX : X (prv n) (back (sl (t + 1))).val = X c t := by rw [back_succ ht, hn1, prv_nxt]
  have hRn := hR n (sl (t + 1))
  rw [hX] at hRn
  rcases Nat.eq_zero_or_pos t with h0 | h0
  · subst h0
    rw [if_pos (show sl 0 = 0 from rfl), if_pos (by omega : 0 < 7)]
    iintro ⟨#HI1, #HI2, Hs, -, Hd, HO, Ht1, #Hr1, Ht2, #Hr2, Hk⟩
    iapply (send_run_landing Q A S c n (K (dCell c kS (sl 0))) (K (dCell n kR (sl 1))) kS kR (sl 0) (sl 1) (hlS _) (hlR _) hk
      (slot (sl 0)) (slot (sl 1)) _ _ hs hd _ hn _ _ hsS hsR (hN _) (X c 0) O₁ O hO
      (Entails.of_eq ((hS c (sl 0)).trans (if_pos rfl)).symm)
      (by rw [show kpay Q A S n false (.dma kR (sl 1)) = _ from hRn, if_neg (show ¬ sl (0 + 1) = 0 from sl_succ_ne (by omega))]
          have ho : own n (sl (0 + 1)).val = c := by
            rw [hn1, show (sl (0 + 1)).val = 0 + 1 from rfl, own_nxt_succ]; rfl
          rw [ho]; exact .rfl) _)
    isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    isplitr; · iexact Hr2
    iexact Hk
  · rw [if_neg (sl_ne h0 ht), sl_val ht]
    have hp1 : slotAt (slot (sl t)) c fullShare (X c t) ⊢ kpay Q A S c false (.dma kS (sl t)) := by
      rw [hS c (sl t), if_neg (sl_ne h0 ht)]
      unfold slotAt slotAny
      iintro ⟨%f, -, H⟩
      iexists f; iexact H
    by_cases h7 : t < 7
    · rw [if_pos h7]
      iintro ⟨#HI1, #HI2, Hs, Htr, Hd, HO, Ht1, #Hr1, Ht2, #Hr2, Hk⟩
      iapply (send_run Q A S c n (K (dCell c kS (sl t))) (K (dCell n kR (sl (t + 1)))) kS kR (sl t) (sl (t + 1)) (hlS _) (hlR _) hk
        (slot (sl t)) (slot (sl (t + 1))) _ _ hs hd _ hn _ _ hsS hsR (hN _) fullShare (X c t) (slotAny (slot 0) (own c t)) O₁ O hO hp1
        (by rw [hRn, if_neg (sl_succ_ne h7), sl_val (by omega : t + 1 < 8), hn1, own_nxt_succ]) _)
      isplitr; · iexact HI1
      isplitr; · iexact HI2
      isplitl [Hs]; · iexact Hs
      isplitl [Hd]; · iexact Hd
      isplitl [Htr]; · iexact Htr
      isplitl [HO]; · iexact HO
      isplitl [Ht1]; · iexact Ht1
      isplitr; · iexact Hr1
      isplitl [Ht2]; · iexact Ht2
      isplitr; · iexact Hr2
      iexact Hk
    · have h8 : t = 7 := by omega
      subst h8
      rw [if_neg h7]
      iintro ⟨#HI1, #HI2, Hs, Htr, -, HO, Ht1, #Hr1, Ht2, #Hr2, Hk⟩
      iapply (send_run Q A S c n (K (dCell c kS (sl 7))) (K (dCell n kR (sl 8))) kS kR (sl 7) (sl 8) (hlS _) (hlR _) hk
        (slot (sl 7)) (slot (sl 8)) _ _ hs hd _ hn _ _ hsS hsR (hN _) fullShare (X c 7) iprop(emp) O₁ O hO hp1
        (by rw [show kpay Q A S n false (.dma kR (sl 8)) = _ from hRn, if_pos (show sl (7 + 1) = 0 from rfl)]) _)
      isplitr; · iexact HI1
      isplitr; · iexact HI2
      isplitl [Hs]; · iexact Hs
      isplitl [Htr]
      · rw [own_seven, ← hn1]; iexact Htr
      isplitr; · iempintro
      isplitl [HO]; · iexact HO
      isplitl [Ht1]; · iexact Ht1
      isplitr; · iexact Hr1
      isplitl [Ht2]; · iexact Ht2
      isplitr; · iexact Hr2
      iexact Hk

theorem segSend_run (t : ℕ) (k0_t1 : Fin k0_t1_loop.trips) (ht : k0_t1.val = t) (v0 : Elt F .i32) (hw : k0_chk2 v0)
    (hdev4 : ∀ h, (⟨k0_dev4 v0, h⟩ : Dev nD) = nxt c) (hdev5 : ∀ h, (⟨k0_dev5 v0, h⟩ : Dev nD) = nxt c) (Kt : PUnit → sProp 𝕄) :
    iprop(Env Q A S K c ∗ slotAt (aSlot (sl t)) c fullShare (A c t) ∗ slotAt (sSlot (sl t)) c fullShare (S c t) ∗ TravA c (sl t) ∗ TravS c (sl t)
      ∗ FutsA c t ∗ owesE c (Ox c + Oa (nxt c) t + Os (nxt c) t + Oq (nxt c) (t + 1))
      ∗ (MidA c t -∗ FutsA c (t + 1) -∗ owesE c (Ot c (t + 1)) -∗ Kt ⟨⟩))
      ⊢ wp frame (wpE (defs₀ (F := F)) 𝒱₀ c none) Set.univ
          (segSend (Memref.whole cc0_scratch1) (Memref.isWhole_whole _) (Memref.whole cc0_scratch2) cc0_scratch9 cc0_scratch10 cc0_scratch11
            cc0_scratch12 v0 hw k0_t1) Kt := by
  have hlt : k0_t1.val < 8 := trips_eq ▸ k0_t1.isLt
  have h8 : t < 8 := by omega
  have e32 : k0_off32 k0_t1 = ![(sl t).val] := (off32_sl k0_t1).trans (by rw [ht])
  have e33 : k0_off33 k0_t1 = ![(sl (t + 1)).val] := (off33_sl k0_t1).trans (by rw [ht])
  have e34 : k0_off34 k0_t1 = ![(sl (t + 1)).val, 0, 0, 0] := (off34_sl k0_t1).trans (by rw [ht])
  have e35 : k0_off35 k0_t1 = ![(sl t).val, 0, 0, 0] := (off35_sl k0_t1).trans (by rw [ht])
  have e36 : k0_off36 k0_t1 = ![(sl (t + 1)).val, 0, 0] := (off36_sl k0_t1).trans (by rw [ht])
  have e37 : k0_off37 k0_t1 = ![(sl t).val, 0, 0] := (off37_sl k0_t1).trans (by rw [ht])
  unfold segSend
  dsimp only
  rw [FutsA_peel c h8]
  unfold FutA MidA TravA TravS
  iintro ⟨#HE, Ha, Hs, Hta, Hts, ⟨⟨Hda, Hds, ⟨Ht2, Ht3, Ht4, Ht5⟩, Hp2, Hp3, Hp4, Hp5, Hc3, Hc5⟩, Hf⟩, HO, Hk⟩
  rw [wp_bind]
  iapply (sum_hop Q A S K c (nxt c) rfl 2 3 live2 live3 rfl aSlot A (fun _ _ => rfl) (fun _ _ => rfl) (fun _ => rfl) t h8 _ _
    (a_slot (sl t) e35 _ _) (a_slot (sl (t + 1)) e34 _ _) _ (hdev4 _) _ _ (sem_of _ 2 sem9 (sl t) e32 _) (sem_of _ 3 sem10 (sl (t + 1)) e33 _)
    (Ox c + Oa (nxt c) t + Os (nxt c) t + Oq (nxt c) (t + 1)) (Ox c + Oa (nxt c) (t + 1) + Os (nxt c) t + Oq (nxt c) (t + 1))
    (by rw [Oa_peel _ h8]; show _ = _ + tallyAt (dCell (nxt c) 3 (sl (t + 1))) () Nq; abel) _)
  isplitr; · iapply (env_inv Q A S K c 2 (sl t)); iexact HE
  isplitr; · iapply (env_inv_nxt Q A S K c 3 (sl (t + 1))); iexact HE
  isplitl [Ha]; · iexact Ha
  isplitl [Hta]; · iexact Hta
  isplitl [Hda]; · iexact Hda
  isplitl [HO]; · iexact HO
  isplitl [Ht2]; · iexact Ht2
  isplitr; · iapply (env_reached Q A S K c 2 (sl t)); iexact HE
  isplitl [Ht3]; · iexact Ht3
  isplitr; · iapply (env_recv3 Q A S K c (sl (t + 1))); iexact HE
  iintro HO Hc2
  rw [wp_bind]
  iapply (sum_hop Q A S K c (nxt c) rfl 4 5 live4 live5 rfl sSlot S (fun _ _ => rfl) (fun _ _ => rfl) (fun _ => rfl) t h8 _ _
    (s_slot (sl t) e37 _ _) (s_slot (sl (t + 1)) e36 _ _) _ (hdev5 _) _ _ (sem_of _ 4 sem11 (sl t) e32 _) (sem_of _ 5 sem12 (sl (t + 1)) e33 _)
    (Ox c + Oa (nxt c) (t + 1) + Os (nxt c) t + Oq (nxt c) (t + 1)) (Ot c (t + 1))
    (by unfold Ot; rw [Os_peel _ h8]; show _ = _ + tallyAt (dCell (nxt c) 5 (sl (t + 1))) () Ns; abel) _)
  isplitr; · iapply (env_inv Q A S K c 4 (sl t)); iexact HE
  isplitr; · iapply (env_inv_nxt Q A S K c 5 (sl (t + 1))); iexact HE
  isplitl [Hs]; · iexact Hs
  isplitl [Hts]; · iexact Hts
  isplitl [Hds]; · iexact Hds
  isplitl [HO]; · iexact HO
  isplitl [Ht4]; · iexact Ht4
  isplitr; · iapply (env_reached Q A S K c 4 (sl t)); iexact HE
  isplitl [Ht5]; · iexact Ht5
  isplitr; · iapply (env_recv5 Q A S K c (sl (t + 1))); iexact HE
  iintro HO Hc4
  rw [wp_pure]
  imodintro
  iapply Hk $$ [Hp2 Hp3 Hp4 Hp5 Hc2 Hc3 Hc4 Hc5] Hf HO
  isplitl [Hp2 Hc2]
  · isplitl [Hp2]; · iexact Hp2
    iexact Hc2
  isplitl [Hp4 Hc4]
  · isplitl [Hp4]; · iexact Hp4
    iexact Hc4
  isplitl [Hp3 Hc3]
  · isplitl [Hp3]; · iexact Hp3
    iexact Hc3
  isplitl [Hp5]; · iexact Hp5
  iexact Hc5

end

end Cert.KernelIdeal.Ring

end
-- ==== Proof.Loop.lean ====
/-
  A whole trip of the loop, and the loop.
-/
module

public import proofs.«01_k».proof.Proof.Heads
public import proofs.«01_k».proof.Proof.Merge
public import proofs.«01_k».proof.Proof.Sums

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (Q : Dev nD → QT F) (A : Dev nD → ℕ → QT F) (S : Dev nD → ℕ → ST F) (K : GSem nD τ sig → ℕ) (c : Dev nD)
variable (a0 : Memref sig .tc .smem S11 .i32) (h0 : a0.IsWhole) (a1 : Memref sig .tc .vmem S8x256x128 .bf16) (h1 : a1.IsWhole)
  (a4 : Memref sig .tc .vmem S8x256x128 .f32) (h4 : a4.IsWhole) (M : S11.Idx → Elt F .i32)
  (fK : (main_v8 : Ref sig .tc).ty.Contents (Elt F)) (fV : (main_v11 : Ref sig .tc).ty.Contents (Elt F)) (Z : QT F) (ZS : ST F)

/-- What device c holds at the top of trip t, besides what persists. -/
def AtTrip (t : ℕ) : sProp 𝕄 :=
  iprop(metaAt a0 c M ∗ wPt c main_v8 fullShare fK ∗ wPt c main_v11 fullShare fV
    ∗ (∃ f, wPt c cc0_scratch3 fullShare f) ∗ (∃ f, wPt c cc0_scratch4 fullShare f) ∗ kvFree c
    ∗ CurQ Q c t ∗ DonesQ c (t - 1) ∗ FutsQ c t ∗ CurA c Z ZS t ∗ DonesA c (t - 1) ∗ FutsA c t ∗ owesE c (Ot c t))

theorem tj_eq (k0_t1 : Fin k0_t1_loop.trips) : tj k0_t1 = sl k0_t1.val := by
  have hlt : k0_t1.val < 8 := trips_eq ▸ k0_t1.isLt
  apply Fin.ext
  exact (sl_val hlt).symm

/-- The table's word of step t. -/
def wordAt (t : ℕ) : S11.Idx := ix1 (Fin.castLE (by decide) (sl t))

theorem tw_eq (k0_t1 : Fin k0_t1_loop.trips) : (ix1 (tw k0_t1) : S11.Idx) = wordAt k0_t1.val := by
  unfold tw wordAt; rw [tj_eq]

theorem owesE_out (O : CellTallies nD τ sig Unit) : (owesE c O : sProp 𝕄) ⊢ iprop(∃ W, owes (c : Thread nD τ) O W) := .rfl
theorem owesE_in (O : CellTallies nD τ sig Unit) : (iprop(∃ W, owes (c : Thread nD τ) O W) : sProp 𝕄) ⊢ owesE c O := .rfl

theorem trip_run (v0 : Elt F .i32) (hw : k0_chk2 v0) (v2 : Elt F .i32) (v45 : IVec S256x1 32) (v70 : IVec S1x4096 32)
    (hdev3 : ∀ h, (⟨k0_dev3 v0, h⟩ : Dev nD) = nxt c)
    (hdev4 : ∀ h, (⟨k0_dev4 v0, h⟩ : Dev nD) = nxt c) (hdev5 : ∀ h, (⟨k0_dev5 v0, h⟩ : Dev nD) = nxt c)
    (hA : ∀ t, A c t = mA (Ain A c Z t) (PT (k0_pay2 v45 (k0_pay62 v2 v70) (M (wordAt t))) (Q (own c t)) fK fV))
    (hS : ∀ t, S c t = mS (Sin S c ZS t) (LT (k0_pay2 v45 (k0_pay62 v2 v70) (M (wordAt t))) (Q (own c t)) fK))
    (k0_t1 : Fin k0_t1_loop.trips) (acc : PUnit) :
    iprop(Env Q A S K c ∗ AtTrip Q c a0 M fK fV Z ZS k0_t1.val)
      ⊢ wp frame (wpE (defs₀ (F := F)) 𝒱₀ c none) Set.univ
          (k0_t1_body a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 hw v2 v45 v70 k0_t1 acc)
          (fun _ => iprop(Env Q A S K c ∗ AtTrip Q c a0 M fK fV Z ZS (k0_t1.val + 1))) := by
  have hlt : k0_t1.val < 8 := trips_eq ▸ k0_t1.isLt
  rw [trip_eq]
  have hr := fun O W hW51 hW52 hW53 hW54 Kt => heads_run c a0 h0 a1 h1 a4 h4 k0_t1 (Scf.iv 0#32 1#32 k0_t1) v45 (k0_pay62 v2 v70) O W M (Q (own c k0_t1.val)) fK fV Kt hW51 hW52 hW53 hW54
  have hm := fun Kt => merge_run c a0 h0 a1 h1 a4 h4 k0_t1 (Scf.iv 0#32 1#32 k0_t1) v0 (Ain A c Z k0_t1.val) (Sin S c ZS k0_t1.val)
    (PT (k0_pay2 v45 (k0_pay62 v2 v70) (M (wordAt k0_t1.val))) (Q (own c k0_t1.val)) fK fV)
    (LT (k0_pay2 v45 (k0_pay62 v2 v70) (M (wordAt k0_t1.val))) (Q (own c k0_t1.val)) fK) Kt
  rw [← hA, ← hS] at hm
  rw [tw_eq] at hr
  rw [tj_eq] at hr hm
  generalize hn : k0_t1.val = n at hr hm
  unfold AtTrip
  rw [wp_bind, CurQ_succ, Nat.add_sub_cancel, CurA_succ]
  iintro ⟨#HE, HM, HK, HV, HP, HL, Hkv, Hcq, Hdq, Hfq, Hca, Hda, Hfa, HO⟩
  iapply (segW_run Q A S K c n k0_t1 hn _)
  isplitr; · iexact HE
  isplitl [Hcq]; · iexact Hcq
  isplitl [Hdq]; · iexact Hdq
  isplitl [HO]; · iexact HO
  iintro Hq Hdq HO
  rw [wp_bind]
  iapply (segHop_run Q A S K c n k0_t1 hn v0 hw hdev3 _)
  isplitr; · iexact HE
  isplitl [Hq]; · iexact Hq
  isplitl [Hfq]; · iexact Hfq
  isplitl [HO]; · iexact HO
  iintro Hq Hhq Hfq HO
  ihave HO := (owesE_out c _) $$ HO
  icases HO with ⟨%W, HO⟩
  rw [wp_bind]
  iapply (hr (Ox c + Oa (nxt c) n + Os (nxt c) n + Oq (nxt c) (n + 1)) W (may_other c _ (by decide) n n (n + 1)) (may_other c _ (by decide) n n (n + 1))
    (may_other c _ (by decide) n n (n + 1)) (may_other c _ (by decide) n n (n + 1)) _)
  isplitl [HM]; · iexact HM
  isplitl [Hq]; · iexact Hq
  isplitl [HK]; · iexact HK
  isplitl [HV]; · iexact HV
  isplitl [HP]; · iexact HP
  isplitl [HL]; · iexact HL
  isplitl [Hkv]; · iexact Hkv
  isplitr; · iapply (env_lev Q A S K c); iexact HE
  isplitl [HO]; · iexact HO
  iintro HM Hq HK HV HP HL Hkv HO
  rw [wp_bind]
  iapply (segJoin_run Q A S K c a0 h0 a1 h1 a4 h4 n k0_t1 hn v0 _ Z ZS _)
  isplitr; · iexact HE
  isplitl [Hca]; · iexact Hca
  isplitl [Hda]; · iexact Hda
  isplitl [HO]
  · iapply (owesE_in c _); iexact HO
  iintro Ha Hs Hta Hts Hda HO
  rw [wp_bind]
  iapply (hm _)
  isplitl [Ha]; · iexact Ha
  isplitl [Hs]; · iexact Hs
  isplitl [HP]; · iexact HP
  isplitl [HL]; · iexact HL
  iintro Ha Hs HP HL
  iapply (segSend_run Q A S K c n k0_t1 hn v0 hw hdev4 hdev5 _)
  isplitr; · iexact HE
  isplitl [Ha]; · iexact Ha
  isplitl [Hs]; · iexact Hs
  isplitl [Hta]; · iexact Hta
  isplitl [Hts]; · iexact Hts
  isplitl [Hfa]; · iexact Hfa
  isplitl [HO]; · iexact HO
  iintro Hma Hfa HO
  isplitr; · iexact HE
  isplitl [HM]; · iexact HM
  isplitl [HK]; · iexact HK
  isplitl [HV]; · iexact HV
  isplitl [HP]; · iexists _; iexact HP
  isplitl [HL]; · iexists _; iexact HL
  isplitl [Hkv]; · iexact Hkv
  isplitl [Hq Hhq]
  · isplitl [Hq]; · iexact Hq
    iexact Hhq
  isplitl [Hdq]; · iexact Hdq
  isplitl [Hfq]; · iexact Hfq
  isplitl [Hma]; · iexact Hma
  isplitl [Hda]; · iexact Hda
  isplitl [Hfa]; · iexact Hfa
  iexact HO

/-- The whole loop. -/
theorem loop_run (v0 : Elt F .i32) (hw : k0_chk2 v0) (v2 : Elt F .i32) (v45 : IVec S256x1 32) (v70 : IVec S1x4096 32)
    (hdev3 : ∀ h, (⟨k0_dev3 v0, h⟩ : Dev nD) = nxt c)
    (hdev4 : ∀ h, (⟨k0_dev4 v0, h⟩ : Dev nD) = nxt c) (hdev5 : ∀ h, (⟨k0_dev5 v0, h⟩ : Dev nD) = nxt c)
    (hA : ∀ t, A c t = mA (Ain A c Z t) (PT (k0_pay2 v45 (k0_pay62 v2 v70) (M (wordAt t))) (Q (own c t)) fK fV))
    (hS : ∀ t, S c t = mS (Sin S c ZS t) (LT (k0_pay2 v45 (k0_pay62 v2 v70) (M (wordAt t))) (Q (own c t)) fK))
    (Kt : PUnit → sProp 𝕄) :
    iprop(Env Q A S K c ∗ AtTrip Q c a0 M fK fV Z ZS 0 ∗ (AtTrip Q c a0 M fK fV Z ZS 8 -∗ Kt ⟨⟩))
      ⊢ wp frame (wpE (defs₀ (F := F)) 𝒱₀ c none) Set.univ
          (Scf.Loop.for k0_t1_loop k0_t1_ok ⟨⟩ (k0_t1_body a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 hw v2 v45 v70)) Kt := by
  iintro ⟨#HE, HI, HK⟩
  iapply (Scf.wp_for _ _ _ _ _ _ k0_t1_ok (⟨⟩ : PUnit) _ (fun k _ => iprop(Env Q A S K c ∗ AtTrip Q c a0 M fK fV Z ZS k))
    (fun k acc => trip_run Q A S K c a0 h0 a1 h1 a4 h4 M fK fV Z ZS v0 hw v2 v45 v70 hdev3 hdev4 hdev5 hA hS k acc))
  isplitl [HI]
  · isplitr; · iexact HE
    iexact HI
  iintro %acc ⟨-, HI⟩
  iapply HK
  iexact HI

end

end Cert.KernelIdeal.Ring

end
-- ==== Proof.Split.lean ====
/-
  A buffer of eight slots, cut into them and put together again.
-/
module

public import proofs.«01_k».proof.Proof.Loop

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable {sh : Shape} {e : EltTy} (M : Fin 8 → Memref sig .tc .vmem sh e) (c : Dev nD) (b : Ref sig .tc)

/-- Eight rectangles of thickness one on the first axis, whole on the others, partition a shape. -/
theorem rows_partition {s : Shape} (a0 : Fin s.rank) (o : Fin 8 → Fin s.rank → ℕ) (z : Fin s.rank → ℕ) (h : ∀ j a, o j a + z a ≤ s.size a)
    (ho : ∀ j, o j a0 = j.val) (hz : z a0 = 1) (hs : s.size a0 = 8) (hr : ∀ j a, a ≠ a0 → o j a = 0 ∧ z a = s.size a) :
    (∀ j j', j ≠ j' → Disjoint (Rect.unit (o j) z (h j)).set (Rect.unit (o j') z (h j')).set)
      ∧ (Finset.univ : Finset (Fin 8)).biUnion (fun j => (Rect.unit (o j) z (h j)).set) = Finset.univ := by
  constructor
  · intro j j' hj
    refine Finset.disjoint_left.mpr fun i hi hi' => hj (Fin.ext ?_)
    rw [Rect.mem_set_unit] at hi hi'
    have h1 := hi a0; have h2 := hi' a0
    rw [ho, hz] at h1 h2
    omega
  · refine Finset.eq_univ_iff_forall.mpr fun i => Finset.mem_biUnion.mpr ⟨⟨(i a0).val, hs ▸ (i a0).isLt⟩, Finset.mem_univ _, ?_⟩
    rw [Rect.mem_set_unit]
    intro a
    by_cases ha : a = a0
    · subst ha; rw [ho, hz]; exact ⟨le_refl _, Nat.lt_succ_self _⟩
    · obtain ⟨h1, h2⟩ := hr ⟨(i a0).val, hs ▸ (i a0).isLt⟩ a ha
      rw [h1, h2, Nat.zero_add]; exact ⟨Nat.zero_le _, (i a).isLt⟩

/-- Slots at contents not chosen, together: -/
theorem any_join (ℓ : Loc nD τ sig) (set : Fin 8 → Finset (Idx ℓ)) (hd : ∀ j j', j ≠ j' → Disjoint (set j) (set j')) (f₀ : Buf (Elt F) ℓ)
    (S : Finset (Fin 8)) :
    bigSep S (fun j => iprop(∃ f, ℓ ↦[set j]{fullShare} f)) ⊢ (iprop(∃ f, ℓ ↦[S.biUnion set]{fullShare} f) : sProp 𝕄) := by
  classical
  induction S using Finset.induction_on with
  | empty =>
    iintro -
    iexists f₀
    rw [Finset.biUnion_empty, pointsTo_empty]; iempintro
  | insert t S ht ih =>
    rw [BI.bigSep_insert ht, Finset.biUnion_insert]
    refine (show iprop((∃ f, ℓ ↦[set t]{fullShare} f) ∗ bigSep S (fun j => iprop(∃ f, ℓ ↦[set j]{fullShare} f))) ⊢ _ from ?_)
    iintro ⟨⟨%f, Ht⟩, HS⟩
    ihave H := ih $$ HS
    icases H with ⟨%g, HS⟩
    iexists (S.biUnion set).piecewise g f
    iapply (pointsTo_join ((Finset.disjoint_biUnion_right _ _ _).mpr fun t' ht' => hd t t' fun e => ht (e ▸ ht')))
    isplitl [Ht]; · iexact Ht
    iexact HS

theorem split_sets (ℓ : Loc nD τ sig) (set : Fin 8 → Finset (Idx ℓ)) (hd : ∀ j j', j ≠ j' → Disjoint (set j) (set j'))
    (hc : (Finset.univ : Finset (Fin 8)).biUnion set = Finset.univ) (f : Buf (Elt F) ℓ) :
    (ℓ ↦{fullShare} f : sProp 𝕄) = bigSep Finset.univ fun j => ℓ ↦[set j]{fullShare} f := by
  show (ℓ ↦[Finset.univ]{fullShare} f : sProp 𝕄) = _
  rw [← hc]
  exact pointsTo_biUnion _ set fun t _ t' _ h => hd t t' h

theorem set_univ (ℓ : Loc nD τ sig) {set : Finset (Idx ℓ)} (hc : set = Finset.univ) :
    (iprop(∃ f, ℓ ↦[set]{fullShare} f) : sProp 𝕄) ⊢ iprop(∃ f, ℓ ↦{fullShare} f) := by
  rw [hc]

end

section
variable (c : Dev nD)

/-- The elements of a slot. -/
abbrev qSet (j : Fin 8) : Finset S8x8x256x128.Idx := (qSlot j).view.set
abbrev aSet (j : Fin 8) : Finset S8x8x256x128.Idx := (aSlot j).view.set
abbrev sSet (j : Fin 8) : Finset S8x256x8.Idx := (sSlot j).view.set

theorem q_sets : (∀ j j' : Fin 8, j ≠ j' → Disjoint (qSet j) (qSet j'))
    ∧ (Finset.univ : Finset (Fin 8)).biUnion (qSet) = Finset.univ := by
  obtain ⟨h1, h2⟩ := rows_partition (s := S8x8x256x128) 0 (fun j => ![j.val, 0, 0, 0]) S1x8x256x128.size inbQ (fun _ => rfl) rfl rfl
    (fun j a ha => by fin_cases a
                      · exact absurd rfl ha
                      all_goals exact ⟨rfl, rfl⟩)
  have hs : ∀ j, qSet j = (Rect.unit (s := S8x8x256x128) ![j.val, 0, 0, 0] S1x8x256x128.size (inbQ j)).set := fun j => by
    refine (Memref.set_view_squeeze _ _).trans ?_; exact (View.set_slice _ _).trans (Finset.map_refl)
  exact ⟨fun j j' h => by rw [hs, hs]; exact h1 j j' h, (congrArg (Finset.biUnion Finset.univ) (funext hs)).trans h2⟩

theorem a_sets : (∀ j j' : Fin 8, j ≠ j' → Disjoint (aSet j) (aSet j'))
    ∧ (Finset.univ : Finset (Fin 8)).biUnion (aSet) = Finset.univ := q_sets

theorem s_sets : (∀ j j' : Fin 8, j ≠ j' → Disjoint (sSet j) (sSet j'))
    ∧ (Finset.univ : Finset (Fin 8)).biUnion (sSet) = Finset.univ := by
  obtain ⟨h1, h2⟩ := rows_partition (s := S8x256x8) 0 (fun j => ![j.val, 0, 0]) S1x256x8.size inbS (fun _ => rfl) rfl rfl
    (fun j a ha => by fin_cases a
                      · exact absurd rfl ha
                      all_goals exact ⟨rfl, rfl⟩)
  have hs : ∀ j, sSet j = (Rect.unit (s := S8x256x8) ![j.val, 0, 0] S1x256x8.size (inbS j)).set := fun j => by
    refine (Memref.set_view_squeeze _ _).trans ?_; exact (View.set_slice _ _).trans (Finset.map_refl)
  exact ⟨fun j j' h => by rw [hs, hs]; exact h1 j j' h, (congrArg (Finset.biUnion Finset.univ) (funext hs)).trans h2⟩

/-- A buffer is its slots: -/
theorem q_split (f : (cc0_scratch0 : Ref sig .tc).ty.Contents (Elt F)) :
    (wPt c cc0_scratch0 fullShare f : sProp 𝕄) = bigSep Finset.univ fun j => slotPt (qSlot j) c fullShare f := by
  exact split_sets ((Memref.whole cc0_scratch0).view.loc (c : Thread nD τ)) qSet q_sets.1 q_sets.2 f
theorem a_split (f : (cc0_scratch1 : Ref sig .tc).ty.Contents (Elt F)) :
    (wPt c cc0_scratch1 fullShare f : sProp 𝕄) = bigSep Finset.univ fun j => slotPt (aSlot j) c fullShare f := by
  exact split_sets ((Memref.whole cc0_scratch1).view.loc (c : Thread nD τ)) aSet a_sets.1 a_sets.2 f
theorem s_split (f : (cc0_scratch2 : Ref sig .tc).ty.Contents (Elt F)) :
    (wPt c cc0_scratch2 fullShare f : sProp 𝕄) = bigSep Finset.univ fun j => slotPt (sSlot j) c fullShare f := by
  exact split_sets ((Memref.whole cc0_scratch2).view.loc (c : Thread nD τ)) sSet s_sets.1 s_sets.2 f

theorem elt_nonempty (e : EltTy) : Nonempty (Elt F e) := inferInstance

/-- and its slots are the buffer. -/
theorem q_join : bigSep Finset.univ (fun j => slotAny (qSlot j) c) ⊢ (iprop(∃ f, wPt c cc0_scratch0 fullShare f) : sProp 𝕄) := by
  refine (any_join (F := F) ((Memref.whole cc0_scratch0).view.loc (c : Thread nD τ)) qSet q_sets.1
    (fun _ => Classical.arbitrary _) Finset.univ).trans (set_univ _ q_sets.2)
theorem a_join : bigSep Finset.univ (fun j => slotAny (aSlot j) c) ⊢ (iprop(∃ f, wPt c cc0_scratch1 fullShare f) : sProp 𝕄) := by
  refine (any_join (F := F) ((Memref.whole cc0_scratch1).view.loc (c : Thread nD τ)) aSet a_sets.1
    (fun _ => Classical.arbitrary _) Finset.univ).trans (set_univ _ a_sets.2)
theorem s_join : bigSep Finset.univ (fun j => slotAny (sSlot j) c) ⊢ (iprop(∃ f, wPt c cc0_scratch2 fullShare f) : sProp 𝕄) := by
  refine (any_join (F := F) ((Memref.whole cc0_scratch2).view.loc (c : Thread nD τ)) sSet s_sets.1
    (fun _ => Classical.arbitrary _) Finset.univ).trans (set_univ _ s_sets.2)

end

end Cert.KernelIdeal.Ring

end
-- ==== Proof.Start.lean ====
/-
  The body's opening: the travelling buffers' slots 0 set, and the two neighbours met at the barrier.
-/
module

public import proofs.«01_k».proof.Proof.Split

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A slot's block written whole reads back. -/
theorem open4 {κ : Idealize.ShloMosaic.Kind} {sp : Space} {e : EltTy} {Val : EltTy → Type} (v : View sig κ sp S8x8x256x128 e) (f : v.ty.Contents Val) {off : Fin 4 → ℕ} (j : Fin 8)
    (hoff : off = ![j.val, 0, 0, 0]) (hin : ∀ a, off a + S1x8x256x128.size a ≤ S8x8x256x128.size a) (w : S1x8x256x128.Idx → Val e)
    (h : Fin 8) (r : Fin 256) (d : Fin 128) :
    v.read Val (View.write Val (v.slice (Rect.unit (s := S8x8x256x128) off S1x8x256x128.size hin)) f w Finset.univ) (ix4 j h r d)
      = w (ix4 (0 : Fin 1) h r d) :=
  View.read_writes_cons_unit_of_mem v f hin w [] _ (ix4 (0 : Fin 1) h r d : S1x8x256x128.Idx) hoff fun a => by
    fin_cases a
    · rfl
    · exact (Nat.zero_add _).symm
    · exact (Nat.zero_add _).symm
    · exact (Nat.zero_add _).symm
theorem open3 {κ : Idealize.ShloMosaic.Kind} {sp : Space} {e : EltTy} {Val : EltTy → Type} (v : View sig κ sp S8x256x8 e) (f : v.ty.Contents Val) {off : Fin 3 → ℕ} (j : Fin 8)
    (hoff : off = ![j.val, 0, 0]) (hin : ∀ a, off a + S1x256x8.size a ≤ S8x256x8.size a) (w : S1x256x8.Idx → Val e)
    (r : Fin 256) (h : Fin 8) :
    v.read Val (View.write Val (v.slice (Rect.unit (s := S8x256x8) off S1x256x8.size hin)) f w Finset.univ) (ix3 j r h)
      = w (ix3 (0 : Fin 1) r h) :=
  View.read_writes_cons_unit_of_mem v f hin w [] _ (ix3 (0 : Fin 1) r h : S1x256x8.Idx) hoff fun a => by
    fin_cases a
    · rfl
    · exact (Nat.zero_add _).symm
    · exact (Nat.zero_add _).symm

/-- The sums a block sets out with: nothing yet. -/
def ZA : QT F := fun i => k0_pay57 (ix4 (0 : Fin 1) (i 0 : Fin 8) (i 1 : Fin 256) (i 2 : Fin 128) : S1x8x256x128.Idx)
def ZR : ST F := fun i => k0_pay58 (ix3 (0 : Fin 1) (i 0 : Fin 256) (i 1 : Fin 8) : S1x256x8.Idx)

section
variable (Q : Dev nD → QT F) (A : Dev nD → ℕ → QT F) (S : Dev nD → ℕ → ST F) (K : GSem nD τ sig → ℕ) (c : Dev nD)

instance reachedRecv_persistent (n : Dev nD) : BI.Persistent (reachedRecv (F := F) n) := by unfold reachedRecv; infer_instance

/-- A signal to a neighbour's barrier or closing cell pays its duty there. -/
theorem signal_run (n n' : Dev nD) (hn : n' = n) (s sem : Sem sig) (hs : sem = s) (hd : ∀ d, d ∈ (Rd Q A S).duties (cell n (.reg s)) 0)
    (ha : ∀ d, (Rd Q A S).amount (cell n (.reg s)) 0 d = 1) (d : Bool) (κ : ℕ) (O₁ O : CellTallies nD τ sig Unit)
    (hO : O₁ = O + tallyAt (cell n (.reg s)) () 1) (Kt : PUnit → sProp 𝕄) :
    iprop(cellInv ER (Rd Q A S) κ (cell n (.reg s)) ∗ owesE c O₁ ∗ dutyTok ER (cell n (.reg s)) 0 d ∗ (Rd Q A S).payload (cell n (.reg s)) 0 d
      ∗ reached ER (cell n (.reg s)) 0 ∗ (owesE c O -∗ Kt ⟨⟩))
      ⊢ wp frame (wpE (defs₀ (F := F)) 𝒱₀ c none) Set.univ (semSignalWord n' sem 1#32) Kt := by
  subst hn hs
  unfold owesE semSignalWord
  iintro ⟨#HI, ⟨%W, HO⟩, Ht, Hp, #Hr, Hk⟩
  iapply (Rounds.wp_signal 𝒱₀ ER (Rd Q A S) (c : Thread nD τ) none (dst := (n' : Thread nD τ)) (sem := sem) (r := 0) (d := d) (κ := κ)
      (hd d) (ha d) () O hO) $$ [HO Ht Hp]
  · isplitr; · iexact HI
    isplitl [HO]; · iexact HO
    isplitl [Ht]; · iexact Ht
    isplitl [Hp]; · iexact Hp
    iexact Hr
  iintro HO
  rw [wp_ret]
  imodintro
  iapply Hk
  iexists _; iexact HO

/-- The wait for both neighbours, closed at once. -/
theorem both_run (s sem : Sem sig) (hs : sem = s) (he : (Rd Q A S).expect (cell c (.reg s)) 0 = 2) (κ : ℕ) (O : CellTallies nD τ sig Unit)
    (hW : (levAts L lv : sProp 𝕄) ⊢ MayWait (c : Thread nD τ) (.reg s) () O) (Kt : PUnit → sProp 𝕄) :
    iprop(cellInv ER (Rd Q A S) κ (cell c (.reg s)) ∗ levAts L lv ∗ cred (tallyAt (cell c (.reg s)) () 2) ∗ owesE c O
      ∗ atPos ER (cell c (.reg s)) 0 ∅ 0
      ∗ (owesE c O -∗ semVal (cell c (.reg s)) 0
        -∗ bigSep ((Rd Q A S).duties (cell c (.reg s)) 0 \ ∅) (fun u => (Rd Q A S).payload (cell c (.reg s)) 0 u) -∗ Kt ⟨⟩))
      ⊢ wp frame (wpE (defs₀ (F := F)) 𝒱₀ c none) Set.univ (semWaitWord sem 2#32) Kt := by
  subst hs
  unfold owesE semWaitWord
  iintro ⟨#HI, #Hlev, Hc, ⟨%W, HO⟩, Hat, Hk⟩
  iapply (Rounds.wp_wait_rest_token 𝒱₀ ER (Rd Q A S) (c : Thread nD τ) none (κ := κ)
      (wpE_semWait_eq 𝒱₀ (c : Thread nD τ) none Set.univ (sem := sem) (k := 2)) (Set.mem_univ _) () (O := O) (W := W) (R := 0) (m := 0) (T := ∅)
      ((Nat.zero_add 2).trans he.symm)) $$ [Hc HO Hat]
  · isplitr; · iexact HI
    isplitl [Hc]; · iexact Hc
    isplitl [HO]; · iexact HO
    isplitr; · iapply hW; iexact Hlev
    iexact Hat
  iintro ⟨HO, Hat, -, Hpay⟩
  rw [wp_ret]
  imod (close Q A S κ (cell c (.reg sem))) $$ [Hat] with Hs
  · isplitr; · iexact HI
    iexact Hat
  imodintro
  iapply Hk $$ [HO] Hs Hpay
  iexists _; iexact HO

/-- The words the opening returns, named. -/
theorem ret_eq {v0 v0' v1 v1' v2 v2' : Elt F .i32} (e0 : v0 = v0') (e1 : v1 = v1') (e2 : v2 = v2') (h2 : k0_chk2 v0) (h1 : k0_chk1 v1)
    (h2' : k0_chk2 v0') (h1' : k0_chk1 v1') (x : IVec S256x1 32) (y : BitVec 32) (z : IVec S256x1 32) :
    (⟨v0, h2, v1, h1, v2, x, y, z⟩ : Σ' (v0 : Elt F .i32) (_ : k0_chk2 v0) (v1 : Elt F .i32) (_ : k0_chk1 v1) (_ : Elt F .i32) (_ : IVec S256x1 32) (_ : BitVec 32), IVec S256x1 32)
      = ⟨v0', h2', v1', h1', v2', x, y, z⟩ := by
  subst e0 e1 e2; rfl

theorem dev_word {f : BitVec 32 → ℕ} {v v' : BitVec 32} (e : v = v') {n : Dev nD} (H : ∀ h, (⟨f v', h⟩ : Dev nD) = n) (h : f v < nD) :
    (⟨f v, h⟩ : Dev nD) = n := by
  subst e; exact H h

theorem may_bar : (levAts L lv : sProp 𝕄) ⊢ MayWait (c : Thread nD τ) (.reg barS) () (Ot c 0) :=
  mayWait_of_above (b := 1) (by rw [kind_bar]; exact Nat.le_refl 1) (above_O c _ 0 0 0 (by omega) (by omega) (by omega) (by omega))

theorem any_in {sh : Shape} {e : EltTy} (Ms : Memref sig .tc .vmem sh e) (f : Buf (Elt F) (Ms.view.loc (c : Thread nD τ))) :
    (slotPt Ms c fullShare f : sProp 𝕄) ⊢ slotAny Ms c := by
  unfold slotAny
  iintro H; iexists f; iexact H

theorem at_in {sh : Shape} {e : EltTy} (Ms : Memref sig .tc .vmem sh e) (f : Buf (Elt F) (Ms.view.loc (c : Thread nD τ))) (X : sh.Idx → Elt F e)
    (h : Ms.view.read (Elt F) f = X) : (slotPt Ms c fullShare f : sProp 𝕄) ⊢ slotAt Ms c fullShare X := by
  unfold slotAt
  iintro H; iexists f
  isplitr
  · ipureintro; exact h
  · iexact H

theorem first_out {P : sProp 𝕄} {Φ : Fin 8 → sProp 𝕄} (h : P = bigSep Finset.univ Φ) :
    P ⊢ iprop(Φ 0 ∗ bigSep (Finset.univ.erase (0 : Fin 8)) Φ) := by
  rw [h, BI.bigSep_erase (Finset.mem_univ (0 : Fin 8))]; exact .rfl

/-- What the device before is given: this device's slots but the first, and that its cells are ready. -/
theorem gift_run (fq : (cc0_scratch0 : Ref sig .tc).ty.Contents (Elt F)) (fa : (cc0_scratch1 : Ref sig .tc).ty.Contents (Elt F))
    (fs : (cc0_scratch2 : Ref sig .tc).ty.Contents (Elt F)) :
    iprop(wPt c cc0_scratch0 fullShare fq ∗ wPt c cc0_scratch1 fullShare fa ∗ wPt c cc0_scratch2 fullShare fs)
      ⊢ (iprop(slotPt (qSlot 0) c fullShare fq ∗ slotPt (aSlot 0) c fullShare fa ∗ slotPt (sSlot 0) c fullShare fs
        ∗ bigSep (Finset.univ.erase (0 : Fin 8)) fun j => slotsGift c j) : sProp 𝕄) := by
  rw [show (bigSep (Finset.univ.erase (0 : Fin 8)) fun j => slotsGift (F := F) c j)
      = iprop(bigSep (Finset.univ.erase (0 : Fin 8)) (fun j => slotAny (qSlot j) c) ∗ bigSep (Finset.univ.erase (0 : Fin 8)) (fun j => slotAny (aSlot j) c)
        ∗ bigSep (Finset.univ.erase (0 : Fin 8)) (fun j => slotAny (sSlot j) c))
    from (bigSep_sep _ _ _).trans (congrArg _ (bigSep_sep _ _ _))]
  iintro ⟨Hq, Ha, Hs⟩
  ihave Hq := (first_out (q_split c fq)) $$ Hq
  ihave Ha := (first_out (a_split c fa)) $$ Ha
  ihave Hs := (first_out (s_split c fs)) $$ Hs
  icases Hq with ⟨Hq, Hqs⟩
  icases Ha with ⟨Ha, Has⟩
  icases Hs with ⟨Hs, Hss⟩
  isplitl [Hq]; · iexact Hq
  isplitl [Ha]; · iexact Ha
  isplitl [Hs]; · iexact Hs
  isplitl [Hqs]
  · iapply (show bigSep (Finset.univ.erase (0 : Fin 8)) (fun j => slotPt (qSlot j) c fullShare fq) ⊢ bigSep (Finset.univ.erase (0 : Fin 8)) (fun j => slotAny (qSlot j) c)
      from bigSep_mono fun j _ => any_in c (qSlot j) fq) $$ Hqs
  isplitl [Has]
  · iapply (show bigSep (Finset.univ.erase (0 : Fin 8)) (fun j => slotPt (aSlot j) c fullShare fa) ⊢ bigSep (Finset.univ.erase (0 : Fin 8)) (fun j => slotAny (aSlot j) c)
      from bigSep_mono fun j _ => any_in c (aSlot j) fa) $$ Has
  · iapply (show bigSep (Finset.univ.erase (0 : Fin 8)) (fun j => slotPt (sSlot j) c fullShare fs) ⊢ bigSep (Finset.univ.erase (0 : Fin 8)) (fun j => slotAny (sSlot j) c)
      from bigSep_mono fun j _ => any_in c (sSlot j) fs) $$ Hss

theorem pay_bar_prv : iprop((bigSep (Finset.univ.erase (0 : Fin 8)) fun j => slotsGift c j) ∗ reachedRecv c ∗ reached ER (extCell c) 0)
    ⊢ (Rd Q A S).payload (barCell (prv c)) 0 true := by
  show _ ⊢ barPayN (nxt (prv c))
  rw [nxt_prv]; exact .rfl
theorem pay_bar_nxt : (reached ER (extCell c) 0 : sProp 𝕄) ⊢ (Rd Q A S).payload (barCell (nxt c)) 0 false := by
  show _ ⊢ barPayP (prv (nxt c))
  rw [prv_nxt]; exact .rfl

/-- What a device knows of the barrier: its own cell and its neighbours', and the rounds of its own cells it tells of. -/
def BarEnv : sProp 𝕄 :=
  iprop(cellInv ER (Rd Q A S) (K (barCell c)) (barCell c) ∗ cellInv ER (Rd Q A S) (K (barCell (prv c))) (barCell (prv c))
    ∗ cellInv ER (Rd Q A S) (K (barCell (nxt c))) (barCell (nxt c)) ∗ reached ER (barCell (prv c)) 0 ∗ reached ER (barCell (nxt c)) 0
    ∗ reachedRecv c ∗ reached ER (extCell c) 0 ∗ levAts L lv)

variable (a0 : Memref sig .tc .smem S11 .i32) (h0 : a0.IsWhole) (a1 : Memref sig .tc .vmem S8x256x128 .bf16) (h1 : a1.IsWhole)
  (a4 : Memref sig .tc .vmem S8x256x128 .f32) (h4 : a4.IsWhole) (M : S11.Idx → Elt F .i32)

set_option maxHeartbeats 4000000 in
theorem start_run (hc2 : k0_chk2 (M (ix1 8))) (hc1 : k0_chk1 (M (ix1 9)))
    (hd1 : ∀ h, (⟨k0_dev1 (M (ix1 9)), h⟩ : Dev nD) = prv c) (hd2 : ∀ h, (⟨k0_dev2 (M (ix1 8)), h⟩ : Dev nD) = nxt c)
    (Kt : (Σ' (v0 : Elt F .i32) (_ : k0_chk2 v0) (v1 : Elt F .i32) (_ : k0_chk1 v1) (_ : Elt F .i32) (_ : IVec S256x1 32) (_ : BitVec 32), IVec S256x1 32) → sProp 𝕄) :
    iprop(BarEnv Q A S K c ∗ metaAt a0 c M ∗ owns c a1 fullShare (Q c) ∗ (∃ f, wPt c cc0_scratch0 fullShare f) ∗ (∃ f, wPt c cc0_scratch1 fullShare f)
      ∗ (∃ f, wPt c cc0_scratch2 fullShare f) ∗ dutyTok ER (barCell (prv c)) 0 true ∗ dutyTok ER (barCell (nxt c)) 0 false
      ∗ cred (tallyAt (barCell c) () 2) ∗ atPos ER (barCell c) 0 ∅ 0 ∗ owesE c (O₀ c)
      ∗ (metaAt a0 c M -∗ owns c a1 fullShare (Q c) -∗ slotAt (qSlot 0) c fullShare (Q c) -∗ slotAt (aSlot 0) c fullShare ZA
        -∗ slotAt (sSlot 0) c fullShare ZR -∗ semVal (barCell c) 0 -∗ barPayN (nxt c) -∗ barPayP (prv c) -∗ owesE c (Ot c 0)
        -∗ Kt ⟨M (ix1 8), hc2, M (ix1 9), hc1, M (ix1 10), iota .tc S256x1 32 [0] iota_S256x1_d0_w32, 64#32, k0_pay59⟩))
      ⊢ wp frame (wpE (defs₀ (F := F)) 𝒱₀ c none) Set.univ (k0_part22 a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0) Kt := by
  unfold BarEnv metaAt owesE owns
  rw [k0_part22_eq_skeleton]; unfold k0_part22_skel
  iintro ⟨⟨#HI, #HIp, #HIn, #Hrp, #Hrn, #Hrr, #Hre, #Hlev⟩, ⟨%fm, %hm, Hm⟩, ⟨%fx, %hx, Hx⟩, ⟨%fq, Hq⟩, ⟨%fa, Ha⟩, ⟨%fs, Hs⟩, Htp, Htn, Hc, Hat, ⟨%W, HO⟩, Hk⟩
  have e8 := meta_read a0 fm 8 (off := ![8]) rfl inb_S11_S1_8 (Nat.zero_lt_one)
  have e9 := meta_read a0 fm 9 (off := ![9]) rfl inb_S11_S1_9 (Nat.zero_lt_one)
  have e10 := meta_read a0 fm 10 (off := ![10]) rfl inb_S11_S1_10 (Nat.zero_lt_one)
  rw [hm] at e8 e9 e10
  have hc2' := hc2
  have hc1' := hc1
  rw [← e8] at hc2'
  rw [← e9] at hc1'
  sl_exec
  ihave Hb := (gift_run c _ _ _) $$ [Hq Ha Hs]
  · isplitl [Hq]; · iexact Hq
    isplitl [Ha]; · iexact Ha
    iexact Hs
  icases Hb with ⟨Hq, Ha, Hs, Hg⟩
  iapply (signal_run Q A S c (prv c) _ (dev_word e9 hd1 _) barS _ rfl (fun d => by rw [duties_bar]; exact Finset.mem_univ _) (amount_bar Q A S (prv c))
    true (K (barCell (prv c))) (O₀ c) (Ot c 0 + tallyAt (barCell (nxt c)) () 1) rfl _)
  isplitr; · iexact HIp
  isplitl [HO]; · iapply (owesE_in c _); iexists W; iexact HO
  isplitl [Htp]; · iexact Htp
  isplitl [Hg]
  · iapply (pay_bar_prv Q A S c)
    isplitl [Hg]; · iexact Hg
    isplitr; · iexact Hrr
    iexact Hre
  isplitr; · iexact Hrp
  iintro HO
  beta_reduce
  rw [wp_bind]
  iapply (signal_run Q A S c (nxt c) _ (dev_word e8 hd2 _) barS _ rfl (fun d => by rw [duties_bar]; exact Finset.mem_univ _) (amount_bar Q A S (nxt c))
    false (K (barCell (nxt c))) (Ot c 0 + tallyAt (barCell (nxt c)) () 1) (Ot c 0) rfl _)
  isplitr; · iexact HIn
  isplitl [HO]; · iexact HO
  isplitl [Htn]; · iexact Htn
  isplitr
  · iapply (pay_bar_nxt Q A S c); iexact Hre
  isplitr; · iexact Hrn
  iintro HO
  rw [wp_bind]
  iapply (both_run Q A S c barS _ rfl (expect_bar Q A S c) (K (barCell c)) (Ot c 0) (may_bar c) _)
  isplitr; · iexact HI
  isplitr; · iexact Hlev
  isplitl [Hc]; · iexact Hc
  isplitl [HO]; · iexact HO
  isplitl [Hat]; · iexact Hat
  iintro HO Hsem Hpay
  ihave Hp := (Entails.of_eq (rest_bar Q A S c)) $$ Hpay
  icases Hp with ⟨HpN, HpP⟩
  rw [wp_pure]
  imodintro
  iapply (Entails.of_eq (congrArg Kt (ret_eq (v0 := start_run.sl.r a0 fm) (v1 := start_run.sl.r_1 a0 fm) (v2 := start_run.sl.r_2 a0 fm)
    e8 e9 e10 hc2' hc1' hc2 hc1 _ _ _).symm))
  iapply Hk $$ [Hm] [Hx] [Hq] [Ha] [Hs] Hsem HpN HpP [HO]
  · iexists fm; isplitr
    · ipureintro; exact hm
    · iexact Hm
  · iexists fx; isplitr
    · ipureintro; exact hx
    · iexact Hx
  · iapply (at_in c (qSlot 0) _ _ (funext fun i => ?_)) $$ Hq
    rw [eq_ix3 (n0 := 8) (n1 := 256) (n2 := 128) i]
    refine (qSlot_read 0 _ _ _ _).trans ((open4 (Memref.whole cc0_scratch0).view fq 0 rfl inb_S8x8x256x128_S1x8x256x128_0_0_0_0 _ _ _ _).trans ?_)
    rw [← hx]
    show shapeCast S1x8x256x128 (shapeCast S8x256x128 (View.readAt (Elt F) a1.view (Rect.unit (s := S8x256x128) ![0, 0, 0] S8x256x128.size inb_S8x256x128_S8x256x128_0_0_0).toLoadRect fx)
      shapeCasts_S8x256x128_S8x256x128) shapeCasts_S8x256x128_S1x8x256x128 (ix4 (0 : Fin 1) (i 0 : Fin 8) (i 1 : Fin 256) (i 2 : Fin 128)) = _
    refine (shapeCast_apply _ shapeCasts_S8x256x128_S1x8x256x128 _ (ix3 (i 0 : Fin 8) (i 1 : Fin 256) (i 2 : Fin 128) : S8x256x128.Idx) ?_).trans ?_
    · rw [Shape.rowMajor_val_four, Shape.rowMajor_val_three]
      show ((i 0 : Fin 8).val * 256 + (i 1 : Fin 256).val) * 128 + (i 2 : Fin 128).val
        = ((0 * 8 + (i 0 : Fin 8).val) * 256 + (i 1 : Fin 256).val) * 128 + (i 2 : Fin 128).val
      omega
    · refine (congrFun (shapeCast_self (s := S8x256x128) _ shapeCasts_S8x256x128_S8x256x128) _).trans ?_
      exact congrArg (a1.view.read (Elt F) fx) (unit_emb_eq inb_S8x256x128_S8x256x128_0_0_0 rfl _ _ fun a => by
        fin_cases a
        · exact (Nat.zero_add _).symm
        · exact (Nat.zero_add _).symm
        · exact (Nat.zero_add _).symm)
  · iapply (at_in c (aSlot 0) _ _ (funext fun i => ?_)) $$ Ha
    rw [eq_ix3 (n0 := 8) (n1 := 256) (n2 := 128) i]
    exact (aSlot_read 0 _ _ _ _).trans (open4 (Memref.whole cc0_scratch1).view fa 0 rfl inb_S8x8x256x128_S1x8x256x128_0_0_0_0 _ _ _ _)
  · iapply (at_in c (sSlot 0) _ _ (funext fun i => ?_)) $$ Hs
    rw [eq_ix2 (n0 := 256) (n1 := 8) i]
    exact (sSlot_read 0 _ _ _).trans (open3 (Memref.whole cc0_scratch2).view fs 0 rfl inb_S8x256x8_S1x256x8_0_0_0 _ _ _)
  · iapply (owesE_out c _); iexact HO

end

end Cert.KernelIdeal.Ring

end
-- ==== Proof.Finish.lean ====
/-
  The body's end: the last sums arrive, the output is written, and the two neighbours are met once more.
-/
module

public import proofs.«01_k».proof.Proof.Start

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (arg0 : Memref sig .tc .smem S11 .i32) (harg0 : arg0.IsWhole) (arg1 : Memref sig .tc .vmem S8x256x128 .bf16) (harg1 : arg1.IsWhole) (arg2 : Memref sig .tc .hbm S8x4096x128 .bf16) (harg2 : arg2.IsWhole) (arg3 : Memref sig .tc .hbm S8x4096x128 .bf16) (harg3 : arg3.IsWhole) (arg4 : Memref sig .tc .vmem S8x256x128 .f32) (harg4 : arg4.IsWhole) (arg5 : Memref sig .tc .vmem S8x8x256x128 .bf16) (harg5 : arg5.IsWhole) (arg6 : Memref sig .tc .vmem S8x8x256x128 .bf16) (harg6 : arg6.IsWhole) (arg7 : Memref sig .tc .vmem S8x256x8 .f32) (harg7 : arg7.IsWhole) (arg8 : Memref sig .tc .vmem S8x256x128 .bf16) (harg8 : arg8.IsWhole) (arg9 : Memref sig .tc .vmem S256x8 .f32) (harg9 : arg9.IsWhole) (arg10 : Memref sig .tc .vmem S2x4096x128 .bf16) (harg10 : arg10.IsWhole) (arg11 : Memref sig .tc .vmem S2x4096x128 .bf16) (harg11 : arg11.IsWhole) (arg12 : DmaSems sig S8) (arg13 : DmaSems sig S8) (arg14 : DmaSems sig S8) (arg15 : DmaSems sig S8) (arg16 : DmaSems sig S8) (arg17 : DmaSems sig S8) (arg18 : DmaSems sig S2) (arg19 : DmaSems sig S2) (v183_r0 : Sems sig S_)

/-- The body after its loop and the last departures. -/
def segTail (v0 : Elt F .i32) (k0_hw2 : k0_chk2 v0) (v1 : Elt F .i32) (k0_hw1 : k0_chk1 v1) : Prog (TpuEff nD τ sig (Elt F) Λ₀ .tc) PUnit := do
  let v119 : FVec F S256x128 .f32 ← k0_part25 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0
  let ⟨v145, v147⟩ : Σ' (v145 : FVec F S256x128 .f32), FVec F S256x1 .f32 ← k0_part26 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v119
  let v175 : FVec F S256x128 .f32 ← k0_part27 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v145 v147
  let v176 : Vec F S1x256x1 .f32 ← Prog.lift (.load arg7 (Rect.unit (s := S8x256x8) ![0, 0, 7] S1x256x1.size inb_S8x256x8_S1x256x1_0_0_7).toLoadRect (View.loadsAt_vmem h_S1x256x1))
  let v180 : Vec F S1x256x128 .f32 ← Prog.lift (.load arg4 (Rect.unit (s := S8x256x128) ![7, 0, 0] S1x256x128.size inb_S8x256x128_S1x256x128_7_0_0).toLoadRect (View.loadsAt_vmem h_S1x256x128))
  Prog.lift (.store arg4 (Rect.unit (s := S8x256x128) ![7, 0, 0] S1x256x128.size inb_S8x256x128_S1x256x128_7_0_0) (k0_pay1 v175 v176) Finset.univ (View.stores_vmem_bits_univ h_S1x256x128 rfl) (.inl rfl))
  semSignalWord (⟨k0_dev6 v1, k0_dev6_lt v1 k0_hw1⟩ : Dev nD) v183_r0.sem 1#32
  semSignalWord (⟨k0_dev7 v0, k0_dev7_lt v0 k0_hw2⟩ : Dev nD) v183_r0.sem 1#32
  semWaitWord v183_r0.sem 2#32
  pure ⟨⟩

/-- The body in four steps. -/
theorem body_steps : cc0__body arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 = (do
    let ⟨v0, k0_hw2, v1, k0_hw1, v2, v21, c64_i32, v23⟩ ← k0_part22 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0
    k0_part24 arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_hw2 v2 (k0_pay60 v21 c64_i32 v23) k0_pay61
    segTail arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 v183_r0 v0 k0_hw2 v1 k0_hw1 : Prog (TpuEff nD τ sig (Elt F) Λ₀ .tc) PUnit) := by
  rw [cc0__body_eq_skeleton]
  rfl

end

/-! ## The output -/

/-- A head's row sums, as a column. -/
def sCol (R : ST F) (h : Fin 8) : FVec F S256x1 .f32 := fun i => R (ix2 (i 0 : Fin 256) h)
/-- A head's output: its sum of weighted values over its row sums. -/
def outRow (x : FVec F S256x128 .bf16) (r : FVec F S256x1 .f32) : FVec F S256x128 .f32 :=
  divf (extf .f32 x bitsLt_bf16_f32) (broadcastTo S256x128 r broadcasts_S256x1_S256x128)
def OUT (X : QT F) (R : ST F) : S8x256x128.Idx → Elt F .f32 := fun i =>
  outRow (qRow X (i 0 : Fin 8)) (sCol R (i 0 : Fin 8)) (ix2 (i 1 : Fin 256) (i 2 : Fin 128))

theorem a_read (j h : Fin 8) {off : Fin 4 → ℕ} (hoff : off = ![j.val, h.val, 0, 0]) (hin : ∀ a, off a + S1x1x256x128.size a ≤ S8x8x256x128.size a)
    (f : (cc0_scratch1 : Ref sig .tc).ty.Contents (Elt F)) (hc : S1x1x256x128.ShapeCasts S256x128) :
    shapeCast S256x128 (View.readAt (Elt F) (Memref.whole cc0_scratch1).view (Rect.unit (s := S8x8x256x128) off S1x1x256x128.size hin).toLoadRect f) hc
      = qRow ((aSlot j).view.read (Elt F) f) h := by
  refine funext fun i => ?_
  rw [eq_ix2 i]
  exact (cast11 _ _ _ _).trans ((read4 (Memref.whole cc0_scratch1).view f j h hoff hin _ _).trans (aSlot_read j f h _ _).symm)

theorem s_read (j h : Fin 8) {off : Fin 3 → ℕ} (hoff : off = ![j.val, 0, h.val]) (hin : ∀ a, off a + S1x256x1.size a ≤ S8x256x8.size a)
    (f : (cc0_scratch2 : Ref sig .tc).ty.Contents (Elt F)) (hc : S1x256x1.ShapeCasts S256x1) :
    shapeCast S256x1 (View.readAt (Elt F) (Memref.whole cc0_scratch2).view (Rect.unit (s := S8x256x8) off S1x256x1.size hin).toLoadRect f) hc
      = sCol ((sSlot j).view.read (Elt F) f) h := by
  refine funext fun i => ?_
  have h1 : (i 1 : Fin 1) = (0 : Fin 1) := Fin.eq_zero _
  rw [eq_ix2 (n0 := 256) (n1 := 1) i, h1]
  exact (shapeCast_1ab_ab_apply _ hc _ _).trans ((readC (Memref.whole cc0_scratch2).view f j h hoff hin _).trans (sSlot_read j f _ h).symm)

theorem oPiece (X : QT F) (R : ST F) (h : Fin 8) {o : Fin 3 → ℕ} (ho : o = ![h.val, 0, 0])
    (hin : ∀ a, o a + S1x256x128.size a ≤ S8x256x128.size a) (x : FVec F S256x128 .bf16) (r : FVec F S256x1 .f32)
    (hx : x = qRow X h) (hr : r = sCol R h) (hc : S256x128.ShapeCasts S1x256x128)
    (i : (Rect.unit (s := S8x256x128) o S1x256x128.size hin).shape.Idx) :
    shapeCast S1x256x128 (outRow x r) hc i = OUT X R ((Rect.unit (s := S8x256x128) o S1x256x128.size hin).emb i) := by
  subst hx hr ho
  have he : (Rect.unit (s := S8x256x128) ![h.val, 0, 0] S1x256x128.size hin).emb i = ix3 h (i 1 : Fin 256) (i 2 : Fin 128) :=
    unit_emb_eq hin rfl _ _ fun a => by
      fin_cases a
      · have h0 : (i 0).val = 0 := Nat.lt_one_iff.mp (i 0).isLt
        show h.val = h.val + (i 0).val
        rw [h0]; rfl
      · exact (Nat.zero_add _).symm
      · exact (Nat.zero_add _).symm
  rw [he]
  have e : i = ix3 (i 0 : Fin 1) (i 1 : Fin 256) (i 2 : Fin 128) := eq_ix3 (n0 := 1) (n1 := 256) (n2 := 128) i
  exact (congrArg (shapeCast S1x256x128 _ hc) e).trans (shapeCast_ab_1ab_apply _ hc _ _ _)

section
variable (Q : Dev nD → QT F) (A : Dev nD → ℕ → QT F) (S : Dev nD → ℕ → ST F) (K : GSem nD τ sig → ℕ) (c : Dev nD)
  (a0 : Memref sig .tc .smem S11 .i32) (h0 : a0.IsWhole) (a1 : Memref sig .tc .vmem S8x256x128 .bf16) (h1 : a1.IsWhole)
  (a4 : Memref sig .tc .vmem S8x256x128 .f32) (h4 : a4.IsWhole)

theorem at_out {sh : Shape} {e : EltTy} (Ms : Memref sig .tc .vmem sh e) (X : sh.Idx → Elt F e) :
    (slotAt Ms c fullShare X : sProp 𝕄) ⊢ iprop(∃ f, ⌜Ms.view.read (Elt F) f = X⌝ ∗ slotPt Ms c fullShare f) := .rfl

theorem a_out (X : QT F) : (slotAt (aSlot (sl (7 + 1))) c fullShare X : sProp 𝕄)
    ⊢ iprop(∃ f, ⌜(aSlot 0).view.read (Elt F) f = X⌝ ∗ slotPt (aSlot 0) c fullShare f) := at_out c (aSlot 0) X
theorem s_out (X : ST F) : (slotAt (sSlot (sl (7 + 1))) c fullShare X : sProp 𝕄)
    ⊢ iprop(∃ f, ⌜(sSlot 0).view.read (Elt F) f = X⌝ ∗ slotPt (sSlot 0) c fullShare f) := at_out c (sSlot 0) X

/-- The last sums leave: a device's own last departures are over. -/
theorem last_run (v0 : Elt F .i32) (hw : k0_chk2 v0) (v2 : Elt F .i32) (v45 : IVec S256x1 32) (v70 : IVec S1x4096 32)
    (P R : sProp 𝕄) (Kt : PUnit → sProp 𝕄)
    (hloop : ∀ Kl : PUnit → sProp 𝕄, iprop(P ∗ (R -∗ MidA c 7 -∗ owesE c (Ot c 8) -∗ Kl ⟨⟩)) ⊢ wp frame (wpE (defs₀ (F := F)) 𝒱₀ c none) Set.univ
      (Scf.Loop.for k0_t1_loop k0_t1_ok ⟨⟩ (k0_t1_body a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 hw v2 v45 v70)) Kl) :
    iprop(Env Q A S K c ∗ P ∗ (R -∗ pos c 3 (sl 8) ∗ crd c 3 (sl 8) -∗ pos c 5 (sl 8) ∗ crd c 5 (sl 8) -∗ asendPay c (sl 7) -∗ zer c 2 (sl 7)
        -∗ ssendPay c (sl 7) -∗ zer c 4 (sl 7) -∗ owesE c (Ot c 8) -∗ Kt ⟨⟩))
      ⊢ wp frame (wpE (defs₀ (F := F)) 𝒱₀ c none) Set.univ (k0_part24 a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 hw v2 v45 v70) Kt := by
  rw [k0_part24_eq_skeleton]
  unfold k0_part24_skel
  dsimp only
  unfold MidA at hloop
  iintro ⟨#HE, HP, Hk⟩
  rw [wp_bind]
  iapply (hloop _)
  isplitl [HP]; · iexact HP
  iintro HR ⟨⟨Hp2, Hc2⟩, ⟨Hp4, Hc4⟩, ⟨Hp3, Hc3⟩, Hp5, Hc5⟩ HO
  beta_reduce
  rw [wp_bind]
  iapply (wait_run Q A S c (K (dCell c 2 (sl 7))) 2 (sl 7) (live2 _) _ (sem_of _ 2 sem9 (sl 7) rfl _) _ _ (crd_q _)
    (Ot c 8) (may_last c 2 (sl 7)) _)
  isplitr; · iapply (env_inv Q A S K c 2 (sl 7)); iexact HE
  isplitr; · iapply (env_lev Q A S K c); iexact HE
  isplitl [Hc2]; · iexact Hc2
  isplitl [HO]; · iexact HO
  isplitl [Hp2]; · iexact Hp2
  iintro HO Hz2 Hpay
  ihave Hy2 := (Entails.of_eq (pay2 Q A S c (sl 7))) $$ Hpay
  rw [wp_bind]
  iapply (wait_run Q A S c (K (dCell c 4 (sl 7))) 4 (sl 7) (live4 _) _ (sem_of _ 4 sem11 (sl 7) rfl _) _ _ (crd_s _)
    (Ot c 8) (may_last c 4 (sl 7)) _)
  isplitr; · iapply (env_inv Q A S K c 4 (sl 7)); iexact HE
  isplitr; · iapply (env_lev Q A S K c); iexact HE
  isplitl [Hc4]; · iexact Hc4
  isplitl [HO]; · iexact HO
  isplitl [Hp4]; · iexact Hp4
  iintro HO Hz4 Hpay
  ihave Hy4 := (Entails.of_eq (pay4 Q A S c (sl 7))) $$ Hpay
  rw [wp_pure]
  imodintro
  iapply Hk $$ HR [Hp3 Hc3] [Hp5 Hc5] Hy2 Hz2 Hy4 Hz4 HO
  · isplitl [Hp3]; · iexact Hp3
    iexact Hc3
  · isplitl [Hp5]; · iexact Hp5
    iexact Hc5

/-- What a device knows of the last handshake. -/
def ExtEnv : sProp 𝕄 :=
  iprop(cellInv ER (Rd Q A S) (K (extCell c)) (extCell c) ∗ cellInv ER (Rd Q A S) (K (extCell (prv c))) (extCell (prv c))
    ∗ cellInv ER (Rd Q A S) (K (extCell (nxt c))) (extCell (nxt c)) ∗ reached ER (extCell (prv c)) 0 ∗ reached ER (extCell (nxt c)) 0)

theorem may_ext : (levAts L lv : sProp 𝕄) ⊢ MayWait (c : Thread nD τ) (.reg extS) () 0 :=
  mayWait_of_above (b := 100) (by rw [kind_ext]; exact Nat.le_refl 100) (above_zero _)

theorem Ot_last : Ot c 8 = Ox c := by
  unfold Ot
  rw [Oa_end _ (Nat.le_refl 8), Os_end _ (Nat.le_refl 8), Oq_end _ (by omega : 7 ≤ 8), add_zero, add_zero, add_zero]

theorem pay_ext (n : Dev nD) (d : Bool) : (iprop(emp) : sProp 𝕄) ⊢ (Rd Q A S).payload (extCell n) 0 d := .rfl

set_option maxHeartbeats 4000000 in
theorem tail_run (v0 : Elt F .i32) (hw : k0_chk2 v0) (v1 : Elt F .i32) (hw1 : k0_chk1 v1)
    (hdev6 : ∀ h, (⟨k0_dev6 v1, h⟩ : Dev nD) = prv c) (hdev7 : ∀ h, (⟨k0_dev7 v0, h⟩ : Dev nD) = nxt c) (Kt : PUnit → sProp 𝕄) :
    iprop(Env Q A S K c ∗ ExtEnv Q A S K c ∗ (pos c 3 (sl 8) ∗ crd c 3 (sl 8)) ∗ (pos c 5 (sl 8) ∗ crd c 5 (sl 8)) ∗ (∃ d, owns c a4 fullShare d)
      ∗ dutyTok ER (extCell (prv c)) 0 true ∗ dutyTok ER (extCell (nxt c)) 0 false ∗ cred (tallyAt (extCell c) () 2) ∗ atPos ER (extCell c) 0 ∅ 0
      ∗ owesE c (Ot c 8)
      ∗ (owns c a4 fullShare (OUT (A (prv c) 7) (S (prv c) 7)) -∗ slotAny (aSlot 0) c -∗ slotAny (sSlot 0) c -∗ zer c 3 (sl 8) -∗ zer c 5 (sl 8)
        -∗ semVal (extCell c) 0 -∗ owesE c 0 -∗ Kt ⟨⟩))
      ⊢ wp frame (wpE (defs₀ (F := F)) 𝒱₀ c none) Set.univ (segTail a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0 v0 hw v1 hw1) Kt := by
  unfold segTail ExtEnv owns
  simp only [k0_part25_eq_skeleton, k0_part26_eq_skeleton, k0_part27_eq_skeleton]
  unfold k0_part25_skel k0_part26_skel k0_part27_skel
  dsimp only
  iintro ⟨#HE, ⟨#HI, #HIp, #HIn, #Hrp, #Hrn⟩, ⟨Hp3, Hc3⟩, ⟨Hp5, Hc5⟩, ⟨%d, %fo, %hd, Ho⟩, Htp, Htn, Hc, Hat, HO, Hk⟩
  rw [wp_bind, wp_bind]
  iapply (wait_run Q A S c (K (dCell c 3 (sl (7 + 1)))) 3 (sl (7 + 1)) (live3 _) _ (sem_of _ 3 sem10 (sl (7 + 1)) rfl _) _ _ (crd_q _)
    (Ot c 8) (may_last c 3 (sl (7 + 1))) _)
  isplitr; · iapply (env_inv Q A S K c 3 (sl (7 + 1))); iexact HE
  isplitr; · iapply (env_lev Q A S K c); iexact HE
  isplitl [Hc3]; · iexact Hc3
  isplitl [HO]; · iexact HO
  isplitl [Hp3]; · iexact Hp3
  iintro HO Hz3 Hpay
  ihave Hy3 := (Entails.of_eq (pay3 Q A S c (by omega : 7 < 8))) $$ Hpay
  icases Hy3 with ⟨Ha, -⟩
  rw [wp_bind]
  iapply (wait_run Q A S c (K (dCell c 5 (sl (7 + 1)))) 5 (sl (7 + 1)) (live5 _) _ (sem_of _ 5 sem12 (sl (7 + 1)) rfl _) _ _ (crd_s _)
    (Ot c 8) (may_last c 5 (sl (7 + 1))) _)
  isplitr; · iapply (env_inv Q A S K c 5 (sl (7 + 1))); iexact HE
  isplitr; · iapply (env_lev Q A S K c); iexact HE
  isplitl [Hc5]; · iexact Hc5
  isplitl [HO]; · iexact HO
  isplitl [Hp5]; · iexact Hp5
  iintro HO Hz5 Hpay
  ihave Hy5 := (Entails.of_eq (pay5 Q A S c (by omega : 7 < 8))) $$ Hpay
  icases Hy5 with ⟨Hs, -⟩
  ihave Ha := (a_out c _) $$ Ha
  ihave Hs := (s_out c _) $$ Hs
  icases Ha with ⟨%fa, %ha, Ha⟩
  icases Hs with ⟨%fs, %hs, Hs⟩
  have hA0 := a_incl 0 ![0, 0, 0, 0] 0 rfl (by decide) inb_S8x8x256x128_S1x1x256x128_0_0_0_0
  have hS0 := s_incl 0 ![0, 0, 0] 0 rfl (by decide) inb_S8x256x8_S1x256x1_0_0_0
  have hA1 := a_incl 0 ![0, 1, 0, 0] 1 rfl (by decide) inb_S8x8x256x128_S1x1x256x128_0_1_0_0
  have hS1 := s_incl 0 ![0, 0, 1] 1 rfl (by decide) inb_S8x256x8_S1x256x1_0_0_1
  have hA2 := a_incl 0 ![0, 2, 0, 0] 2 rfl (by decide) inb_S8x8x256x128_S1x1x256x128_0_2_0_0
  have hS2 := s_incl 0 ![0, 0, 2] 2 rfl (by decide) inb_S8x256x8_S1x256x1_0_0_2
  have hA3 := a_incl 0 ![0, 3, 0, 0] 3 rfl (by decide) inb_S8x8x256x128_S1x1x256x128_0_3_0_0
  have hS3 := s_incl 0 ![0, 0, 3] 3 rfl (by decide) inb_S8x256x8_S1x256x1_0_0_3
  have hA4 := a_incl 0 ![0, 4, 0, 0] 4 rfl (by decide) inb_S8x8x256x128_S1x1x256x128_0_4_0_0
  have hS4 := s_incl 0 ![0, 0, 4] 4 rfl (by decide) inb_S8x256x8_S1x256x1_0_0_4
  have hA5 := a_incl 0 ![0, 5, 0, 0] 5 rfl (by decide) inb_S8x8x256x128_S1x1x256x128_0_5_0_0
  have hS5 := s_incl 0 ![0, 0, 5] 5 rfl (by decide) inb_S8x256x8_S1x256x1_0_0_5
  have hA6 := a_incl 0 ![0, 6, 0, 0] 6 rfl (by decide) inb_S8x8x256x128_S1x1x256x128_0_6_0_0
  have hS6 := s_incl 0 ![0, 0, 6] 6 rfl (by decide) inb_S8x256x8_S1x256x1_0_0_6
  have hA7 := a_incl 0 ![0, 7, 0, 0] 7 rfl (by decide) inb_S8x8x256x128_S1x1x256x128_0_7_0_0
  have hS7 := s_incl 0 ![0, 0, 7] 7 rfl (by decide) inb_S8x256x8_S1x256x1_0_0_7
  sl_exec
  iapply (signal_run Q A S c (prv c) (prv c) rfl extS _ rfl (fun d => by rw [duties_ext]; exact Finset.mem_univ _) (amount_ext Q A S (prv c))
    true (K (extCell (prv c))) (Ot c 8) (tallyAt (extCell (nxt c)) () 1) (by rw [Ot_last, Ox, add_comm]) _)
  isplitr; · iexact HIp
  isplitl [HO]; · iexact HO
  isplitl [Htp]; · iexact Htp
  isplitr; · iapply (pay_ext Q A S (prv c) true); iempintro
  isplitr; · iexact Hrp
  iintro HO
  beta_reduce
  rw [wp_bind]
  iapply (signal_run Q A S c (nxt c) _ (hdev7 _) extS _ rfl (fun d => by rw [duties_ext]; exact Finset.mem_univ _) (amount_ext Q A S (nxt c))
    false (K (extCell (nxt c))) (tallyAt (extCell (nxt c)) () 1) 0 (zero_add _).symm _)
  isplitr; · iexact HIn
  isplitl [HO]; · iexact HO
  isplitl [Htn]; · iexact Htn
  isplitr; · iapply (pay_ext Q A S (nxt c) false); iempintro
  isplitr; · iexact Hrn
  iintro HO
  beta_reduce
  rw [wp_bind]
  iapply (both_run Q A S c extS _ rfl (expect_ext Q A S c) (K (extCell c)) 0 (may_ext c) _)
  isplitr; · iexact HI
  isplitr; · iapply (env_lev Q A S K c); iexact HE
  isplitl [Hc]; · iexact Hc
  isplitl [HO]; · iexact HO
  isplitl [Hat]; · iexact Hat
  iintro HO Hsem -
  rw [wp_pure]
  imodintro
  iapply Hk $$ [Ho] [Ha] [Hs] Hz3 Hz5 Hsem HO
  · iexists _
    isplitr
    swap; · iexact Ho
    ipureintro
    refine funext fun y => ?_
    rw [← ha, ← hs]
    exact View.read_writes_apply_of_pieces a4.view fo (OUT _ _) _
        (List.forall_mem_cons.mpr ⟨fun x => oPiece _ _ 7 rfl (by decide) _ _ (a_read 0 7 rfl (by decide) fa _) (s_read 0 7 rfl (by decide) fs _) _ x,
        (List.forall_mem_cons.mpr ⟨fun x => oPiece _ _ 6 rfl (by decide) _ _ (a_read 0 6 rfl (by decide) fa _) (s_read 0 6 rfl (by decide) fs _) _ x,
        (List.forall_mem_cons.mpr ⟨fun x => oPiece _ _ 5 rfl (by decide) _ _ (a_read 0 5 rfl (by decide) fa _) (s_read 0 5 rfl (by decide) fs _) _ x,
        (List.forall_mem_cons.mpr ⟨fun x => oPiece _ _ 4 rfl (by decide) _ _ (a_read 0 4 rfl (by decide) fa _) (s_read 0 4 rfl (by decide) fs _) _ x,
        (List.forall_mem_cons.mpr ⟨fun x => oPiece _ _ 3 rfl (by decide) _ _ (a_read 0 3 rfl (by decide) fa _) (s_read 0 3 rfl (by decide) fs _) _ x,
        (List.forall_mem_cons.mpr ⟨fun x => oPiece _ _ 2 rfl (by decide) _ _ (a_read 0 2 rfl (by decide) fa _) (s_read 0 2 rfl (by decide) fs _) _ x,
        (List.forall_mem_cons.mpr ⟨fun x => oPiece _ _ 1 rfl (by decide) _ _ (a_read 0 1 rfl (by decide) fa _) (s_read 0 1 rfl (by decide) fs _) _ x,
        (List.forall_mem_cons.mpr ⟨fun x => oPiece _ _ 0 rfl (by decide) _ _ (a_read 0 0 rfl (by decide) fa _) (s_read 0 0 rfl (by decide) fs _) _ x,
          List.forall_mem_nil _⟩)⟩)⟩)⟩)⟩)⟩)⟩)⟩) y
      (View.cover_of_tiled (s := S8x256x128) _ (![1, 256, 128] : Fin 3 → ℕ) rfl y)
  · iapply (any_in c (aSlot 0) fa); iexact Ha
  · iapply (any_in c (sSlot 0) fs); iexact Hs

end

end Cert.KernelIdeal.Ring

end
-- ==== Proof.Body.lean ====
/-
  The body of the kernel, run whole on one device.
-/
module

public import proofs.«01_k».proof.Proof.Finish

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The same pieces, counted by slots and by steps -/

section
theorem reindex {s : Finset (Fin 8)} {T : Finset ℕ} (e : Fin 8 → ℕ) (he : Function.Injective e) (h : s.image e = T) (f : ℕ → Fin 8) (hf : ∀ j, f (e j) = j)
    (Φ : Fin 8 → sProp 𝕄) : bigSep s Φ = bigSep T fun t => Φ (f t) := by
  subst h
  rw [show s.image e = s.map ⟨e, he⟩ from (Finset.map_eq_image ⟨e, he⟩ s).symm, bigSep_map]
  exact BI.bigSep_congr fun j _ => congrArg Φ (hf j).symm

theorem re7 (Φ : Fin 8 → sProp 𝕄) : bigSep (Finset.univ.erase (7 : Fin 8)) Φ = bigSep (Finset.Ico 0 7) fun t => Φ (sl t) :=
  reindex Fin.val Fin.val_injective (by decide) sl (by decide) Φ
theorem re0 (Φ : Fin 8 → sProp 𝕄) : bigSep (Finset.univ.erase (0 : Fin 8)) Φ = bigSep (Finset.Ico 0 7) fun t => Φ (sl (t + 1)) :=
  reindex (fun j => (back j).val) (by decide) (by decide) (fun t => sl (t + 1)) (by decide) Φ
theorem re8 (Φ : Fin 8 → sProp 𝕄) : bigSep Finset.univ Φ = bigSep (Finset.Ico 0 8) fun t => Φ (sl t) :=
  reindex Fin.val Fin.val_injective (by decide) sl (by decide) Φ
theorem re8' (Φ : Fin 8 → sProp 𝕄) : bigSep Finset.univ Φ = bigSep (Finset.Ico 0 8) fun t => Φ (sl (t + 1)) :=
  reindex (fun j => (back j).val) (by decide) (by decide) (fun t => sl (t + 1)) (by decide) Φ

/-- One of the slots, and the others. -/
theorem out8 (j : Fin 8) (Φ : Fin 8 → sProp 𝕄) : bigSep Finset.univ Φ = iprop(Φ j ∗ bigSep (Finset.univ.erase j) Φ) :=
  BI.bigSep_erase (Finset.mem_univ j)

theorem cut7 (Φ : Fin 8 → sProp 𝕄) : (bigSep (Finset.Ico 0 8) fun t => if t < 7 then Φ (sl (t + 1)) else iprop(emp))
    = bigSep (Finset.univ.erase (0 : Fin 8)) Φ := by
  rw [re0, show Finset.Ico 0 8 = insert 7 (Finset.Ico 0 7) from by decide, bigSep_insert (by decide), if_neg (by decide)]
  refine (BI.equiv_iff.mp emp_sep).trans (BI.bigSep_congr fun t ht => ?_)
  rw [if_pos (Finset.mem_Ico.mp ht).2]

/-- By semaphore array. -/
theorem six (Φ : Fin 6 → Fin 8 → sProp 𝕄) : (bigSep (Finset.univ : Finset (Fin 6 × Fin 8)) fun p => Φ p.1 p.2)
    = iprop(bigSep Finset.univ (Φ 0) ∗ bigSep Finset.univ (Φ 1) ∗ bigSep Finset.univ (Φ 2) ∗ bigSep Finset.univ (Φ 3) ∗ bigSep Finset.univ (Φ 4)
      ∗ bigSep Finset.univ (Φ 5)) := by
  rw [bigSep_univ_prod, show (Finset.univ : Finset (Fin 6)) = {0, 1, 2, 3, 4, 5} from by decide, bigSep_insert (by decide), bigSep_insert (by decide),
    bigSep_insert (by decide), bigSep_insert (by decide), bigSep_insert (by decide), bigSep_singleton]
  rfl

end

section
variable (Q : Dev nD → QT F) (A : Dev nD → ℕ → QT F) (S : Dev nD → ℕ → ST F) (K : GSem nD τ sig → ℕ) (c : Dev nD)

/-- The rights to pay a device starts with, -/
def Toks : sProp 𝕄 :=
  iprop(bigSep (Finset.univ.erase (7 : Fin 8)) (fun j => tok c 0 j) ∗ bigSep (Finset.univ.erase (0 : Fin 8)) (fun j => tok (nxt c) 1 j)
    ∗ bigSep Finset.univ (fun j => tok c 2 j) ∗ bigSep Finset.univ (fun j => tok (nxt c) 3 j) ∗ bigSep Finset.univ (fun j => tok c 4 j)
    ∗ bigSep Finset.univ (fun j => tok (nxt c) 5 j))
/-- its positions, -/
def Poss : sProp 𝕄 := bigSep (Finset.univ : Finset (Fin 6 × Fin 8)) fun p => pos c p.1 p.2
/-- its credits, -/
def Crds : sProp 𝕄 :=
  iprop(bigSep (Finset.univ.erase (0 : Fin 8)) (fun j => crd c 1 j) ∗ bigSep Finset.univ (fun j => crd c 3 j) ∗ bigSep Finset.univ (fun j => crd c 5 j))
/-- and its counters at zero. -/
def Zers : sProp 𝕄 := bigSep (Finset.univ : Finset (Fin 6 × Fin 8)) fun p => zer c p.1 p.2

theorem futsQ_eq : FutsQ c 0 = iprop(bigSep (Finset.univ.erase (0 : Fin 8)) (fun j => slotAny (F := F) (qSlot j) (nxt c))
    ∗ bigSep (Finset.univ.erase (7 : Fin 8)) (fun j => tok c 0 j) ∗ bigSep (Finset.univ.erase (0 : Fin 8)) (fun j => tok (nxt c) 1 j)
    ∗ bigSep (Finset.univ.erase (7 : Fin 8)) (fun j => pos c 0 j) ∗ bigSep (Finset.univ.erase (0 : Fin 8)) (fun j => pos c 1 j)
    ∗ bigSep (Finset.univ.erase (0 : Fin 8)) (fun j => crd c 1 j)) := by
  rw [re0, re7, re0, re7, re0, re0]
  unfold FutsQ FutQ
  exact (bigSep_sep _ _ _).trans (congrArg _ ((bigSep_sep _ _ _).trans (congrArg _ ((bigSep_sep _ _ _).trans (congrArg _ ((bigSep_sep _ _ _).trans (congrArg _
    (bigSep_sep _ _ _))))))))

theorem futsA_eq : FutsA c 0 = iprop(bigSep (Finset.univ.erase (0 : Fin 8)) (fun j => slotAny (F := F) (aSlot j) (nxt c))
    ∗ bigSep (Finset.univ.erase (0 : Fin 8)) (fun j => slotAny (sSlot j) (nxt c))
    ∗ (bigSep Finset.univ (fun j => tok c 2 j) ∗ bigSep Finset.univ (fun j => tok (nxt c) 3 j) ∗ bigSep Finset.univ (fun j => tok c 4 j)
      ∗ bigSep Finset.univ (fun j => tok (nxt c) 5 j))
    ∗ bigSep Finset.univ (fun j => pos c 2 j) ∗ bigSep Finset.univ (fun j => pos c 3 j) ∗ bigSep Finset.univ (fun j => pos c 4 j)
    ∗ bigSep Finset.univ (fun j => pos c 5 j) ∗ bigSep Finset.univ (fun j => crd c 3 j) ∗ bigSep Finset.univ (fun j => crd c 5 j)) := by
  rw [← cut7, ← cut7, re8 (fun j => tok c 2 j), re8' (fun j => tok (nxt c) 3 j), re8 (fun j => tok c 4 j), re8' (fun j => tok (nxt c) 5 j),
    re8 (fun j => pos c 2 j), re8' (fun j => pos c 3 j), re8 (fun j => pos c 4 j), re8' (fun j => pos c 5 j), re8' (fun j => crd c 3 j), re8' (fun j => crd c 5 j)]
  unfold FutsA FutA
  refine (bigSep_sep _ _ _).trans (congrArg _ ((bigSep_sep _ _ _).trans (congrArg _ ((bigSep_sep _ _ _).trans (congrArg₂ _
    ((bigSep_sep _ _ _).trans (congrArg _ ((bigSep_sep _ _ _).trans (congrArg _ (bigSep_sep _ _ _)))))
    ((bigSep_sep _ _ _).trans (congrArg _ ((bigSep_sep _ _ _).trans (congrArg _ ((bigSep_sep _ _ _).trans (congrArg _ ((bigSep_sep _ _ _).trans (congrArg _
      (bigSep_sep _ _ _))))))))))))))

theorem gifts_eq (n : Dev nD) : (bigSep (Finset.univ.erase (0 : Fin 8)) fun j => slotsGift (F := F) n j)
    = iprop(bigSep (Finset.univ.erase (0 : Fin 8)) (fun j => slotAny (qSlot j) n) ∗ bigSep (Finset.univ.erase (0 : Fin 8)) (fun j => slotAny (aSlot j) n)
      ∗ bigSep (Finset.univ.erase (0 : Fin 8)) (fun j => slotAny (sSlot j) n)) :=
  (bigSep_sep _ _ _).trans (congrArg _ (bigSep_sep _ _ _))

theorem futs_intro : iprop((bigSep (Finset.univ.erase (0 : Fin 8)) fun j => slotsGift (F := F) (nxt c) j) ∗ Toks c ∗ Poss c ∗ Crds c)
    ⊢ iprop(FutsQ c 0 ∗ FutsA c 0 ∗ pos c 0 7 ∗ pos c 1 0) := by
  rw [futsQ_eq, futsA_eq, gifts_eq]
  unfold Toks Poss Crds
  rw [six (fun k j => pos c k j), out8 7 (fun j => pos c 0 j), out8 0 (fun j => pos c 1 j)]
  iintro ⟨⟨Hq, Ha, Hs⟩, ⟨Ht0, Ht1, Ht2, Ht3, Ht4, Ht5⟩, ⟨⟨Hp07, Hp0⟩, ⟨Hp10, Hp1⟩, Hp2, Hp3, Hp4, Hp5⟩, Hc1, Hc3, Hc5⟩
  isplitl [Hq Ht0 Ht1 Hp0 Hp1 Hc1]
  · isplitl [Hq]; · iexact Hq
    isplitl [Ht0]; · iexact Ht0
    isplitl [Ht1]; · iexact Ht1
    isplitl [Hp0]; · iexact Hp0
    isplitl [Hp1]; · iexact Hp1
    iexact Hc1
  isplitr [Hp07 Hp10]
  · isplitl [Ha]; · iexact Ha
    isplitl [Hs]; · iexact Hs
    isplitl [Ht2 Ht3 Ht4 Ht5]
    · isplitl [Ht2]; · iexact Ht2
      isplitl [Ht3]; · iexact Ht3
      isplitl [Ht4]; · iexact Ht4
      iexact Ht5
    isplitl [Hp2]; · iexact Hp2
    isplitl [Hp3]; · iexact Hp3
    isplitl [Hp4]; · iexact Hp4
    isplitl [Hp5]; · iexact Hp5
    isplitl [Hc3]; · iexact Hc3
    iexact Hc5
  isplitl [Hp07]; · iexact Hp07
  iexact Hp10

theorem donesQ_eq : DonesQ c 7 = iprop(bigSep (Finset.univ.erase (7 : Fin 8)) (fun j => slotAny (F := F) (qSlot j) c)
    ∗ bigSep (Finset.univ.erase (7 : Fin 8)) (fun j => zer c 0 j) ∗ bigSep (Finset.univ.erase (0 : Fin 8)) (fun j => zer c 1 j)) := by
  rw [re7, re7, re0]
  unfold DonesQ DoneQ
  rw [Finset.range_eq_Ico]
  exact (bigSep_sep _ _ _).trans (congrArg _ (bigSep_sep _ _ _))

theorem back0 {Φ : Fin 8 → sProp 𝕄} : (bigSep Finset.univ fun j : Fin 8 => if j = 0 then iprop(emp) else Φ j) = bigSep (Finset.univ.erase (0 : Fin 8)) Φ := by
  rw [out8 0, if_pos rfl]
  refine (BI.equiv_iff.mp emp_sep).trans (BI.bigSep_congr fun j hj => ?_)
  rw [if_neg (Finset.ne_of_mem_erase hj)]

theorem donesA_eq : DonesA c 8 = iprop(bigSep (Finset.univ.erase (0 : Fin 8)) (fun j => slotAny (F := F) (aSlot j) c)
    ∗ bigSep (Finset.univ.erase (0 : Fin 8)) (fun j => slotAny (sSlot j) c)
    ∗ bigSep Finset.univ (fun j => zer c 2 j) ∗ bigSep Finset.univ (fun j => zer c 3 j) ∗ bigSep Finset.univ (fun j => zer c 4 j)
    ∗ bigSep Finset.univ (fun j => zer c 5 j)) := by
  rw [← back0, ← back0, re8, re8, re8 (fun j => zer c 2 j), re8' (fun j => zer c 3 j), re8 (fun j => zer c 4 j), re8' (fun j => zer c 5 j)]
  unfold DonesA DoneA
  rw [Finset.range_eq_Ico]
  exact (bigSep_sep _ _ _).trans (congrArg _ ((bigSep_sep _ _ _).trans (congrArg _ ((bigSep_sep _ _ _).trans (congrArg _ ((bigSep_sep _ _ _).trans (congrArg _
    (bigSep_sep _ _ _))))))))

theorem dones_elim : iprop(DonesQ c 7 ∗ DonesA c 8 ∗ zer c 0 7 ∗ zer c 1 0 ∗ slotAny (F := F) (qSlot 7) c ∗ slotAny (aSlot 0) c ∗ slotAny (sSlot 0) c)
    ⊢ iprop((∃ f, wPt c cc0_scratch0 fullShare f) ∗ (∃ f, wPt c cc0_scratch1 fullShare f) ∗ (∃ f, wPt c cc0_scratch2 fullShare f) ∗ Zers c) := by
  rw [donesQ_eq, donesA_eq]
  unfold Zers
  rw [six (fun k j => zer c k j), out8 7 (fun j => zer c 0 j), out8 0 (fun j => zer c 1 j)]
  iintro ⟨⟨Hq, Hz0, Hz1⟩, ⟨Ha, Hs, Hz2, Hz3, Hz4, Hz5⟩, Hz07, Hz10, Hq7, Ha0, Hs0⟩
  isplitl [Hq Hq7]
  · iapply (q_join c)
    iapply (Entails.of_eq (out8 7 (fun j => slotAny (qSlot j) c)).symm)
    isplitl [Hq7]; · iexact Hq7
    iexact Hq
  isplitl [Ha Ha0]
  · iapply (a_join c)
    iapply (Entails.of_eq (out8 0 (fun j => slotAny (aSlot j) c)).symm)
    isplitl [Ha0]; · iexact Ha0
    iexact Ha
  isplitl [Hs Hs0]
  · iapply (s_join c)
    iapply (Entails.of_eq (out8 0 (fun j => slotAny (sSlot j) c)).symm)
    isplitl [Hs0]; · iexact Hs0
    iexact Hs
  isplitl [Hz07 Hz0]
  · isplitl [Hz07]; · iexact Hz07
    iexact Hz0
  isplitl [Hz10 Hz1]
  · isplitl [Hz10]; · iexact Hz10
    iexact Hz1
  isplitl [Hz2]; · iexact Hz2
  isplitl [Hz3]; · iexact Hz3
  isplitl [Hz4]; · iexact Hz4
  iexact Hz5

/-- What a device knows while the kernel runs: the cells it and its neighbours run, and the rounds its own have reached. -/
def Know : sProp 𝕄 :=
  iprop((bigSep (Finset.univ : Finset (Fin 6 × Fin 8)) fun p => cellInv ER (Rd Q A S) (K (dCell c p.1 p.2)) (dCell c p.1 p.2))
    ∗ (bigSep (Finset.univ : Finset (Fin 6 × Fin 8)) fun p => cellInv ER (Rd Q A S) (K (dCell (nxt c) p.1 p.2)) (dCell (nxt c) p.1 p.2))
    ∗ (bigSep (Finset.univ : Finset (Fin 6 × Fin 8)) fun p => reached ER (dCell c p.1 p.2) 0)
    ∗ (cellInv ER (Rd Q A S) (K (barCell c)) (barCell c) ∗ cellInv ER (Rd Q A S) (K (barCell (prv c))) (barCell (prv c))
      ∗ cellInv ER (Rd Q A S) (K (barCell (nxt c))) (barCell (nxt c)))
    ∗ (cellInv ER (Rd Q A S) (K (extCell c)) (extCell c) ∗ cellInv ER (Rd Q A S) (K (extCell (prv c))) (extCell (prv c))
      ∗ cellInv ER (Rd Q A S) (K (extCell (nxt c))) (extCell (nxt c)))
    ∗ reached ER (barCell (prv c)) 0 ∗ reached ER (barCell (nxt c)) 0 ∗ reached ER (extCell c) 0 ∗ levAts L lv)

/-- Two cells carry no duty; their counters never move. -/
theorem dead_run (k : Fin 6) (j : Fin 8) (h : (k = 0 ∧ j = 7) ∨ (k = 1 ∧ j = 0)) :
    iprop((bigSep (Finset.univ : Finset (Fin 6 × Fin 8)) fun p => cellInv ER (Rd Q A S) (K (dCell c p.1 p.2)) (dCell c p.1 p.2)) ∗ pos c k j)
      ⊢ (|={Set.univ}=> zer c k j : sProp 𝕄) := by
  iintro ⟨#H, Hp⟩
  iapply (close_dead Q A S c (K (dCell c k j)) k j h)
  isplitr
  · iapply (bs_elim (Finset.mem_univ (k, j)) (Φ := fun p : Fin 6 × Fin 8 => cellInv ER (Rd Q A S) (K (dCell c p.1 p.2)) (dCell c p.1 p.2)))
    iexact H
  iexact Hp

theorem own_recv : (bigSep (Finset.univ : Finset (Fin 6 × Fin 8)) fun p => (reached ER (dCell c p.1 p.2) 0 : sProp 𝕄)) ⊢ reachedRecv c := by
  rw [six (fun k j => reached ER (dCell c k j) 0)]
  unfold reachedRecv
  rw [show (bigSep (Finset.univ : Finset (Fin 8)) fun j => iprop(reached ER (dCell c 1 j) 0 ∗ reached ER (dCell c 3 j) 0 ∗ reached ER (dCell c 5 j) 0) : sProp 𝕄)
    = iprop(bigSep Finset.univ (fun j => reached ER (dCell c 1 j) 0) ∗ bigSep Finset.univ (fun j => reached ER (dCell c 3 j) 0)
      ∗ bigSep Finset.univ (fun j => reached ER (dCell c 5 j) 0)) from (bigSep_sep _ _ _).trans (congrArg _ (bigSep_sep _ _ _))]
  iintro ⟨-, H1, -, H3, -, H5⟩
  isplitl [H1]; · iexact H1
  isplitl [H3]; · iexact H3
  iexact H5

variable (a0 : Memref sig .tc .smem S11 .i32) (h0 : a0.IsWhole) (a1 : Memref sig .tc .vmem S8x256x128 .bf16) (h1 : a1.IsWhole)
  (a4 : Memref sig .tc .vmem S8x256x128 .f32) (h4 : a4.IsWhole) (M : S11.Idx → Elt F .i32)
  (fK : (main_v8 : Ref sig .tc).ty.Contents (Elt F)) (fV : (main_v11 : Ref sig .tc).ty.Contents (Elt F))

/-- The rows' positions and the columns' the body works out the mask from. -/
def rowIx : IVec S256x1 32 := k0_pay60 (iota .tc S256x1 32 [0] iota_S256x1_d0_w32) 64#32 k0_pay59
def colIx : IVec S1x4096 32 := k0_pay61

/-- What the table must say: where the device's neighbours are. -/
structure Names : Prop where
  c2 : k0_chk2 (M (ix1 8))
  c1 : k0_chk1 (M (ix1 9))
  d1 : ∀ h, (⟨k0_dev1 (M (ix1 9)), h⟩ : Dev nD) = prv c
  d2 : ∀ h, (⟨k0_dev2 (M (ix1 8)), h⟩ : Dev nD) = nxt c
  d3 : ∀ h, (⟨k0_dev3 (M (ix1 8)), h⟩ : Dev nD) = nxt c
  d4 : ∀ h, (⟨k0_dev4 (M (ix1 8)), h⟩ : Dev nD) = nxt c
  d5 : ∀ h, (⟨k0_dev5 (M (ix1 8)), h⟩ : Dev nD) = nxt c
  d6 : ∀ h, (⟨k0_dev6 (M (ix1 9)), h⟩ : Dev nD) = prv c
  d7 : ∀ h, (⟨k0_dev7 (M (ix1 8)), h⟩ : Dev nD) = nxt c

theorem barN_out (n : Dev nD) : (barPayN (F := F) n : sProp 𝕄)
    ⊢ iprop((bigSep (Finset.univ.erase (0 : Fin 8)) fun j => slotsGift (F := F) n j) ∗ reachedRecv n ∗ reached ER (extCell n) 0) := .rfl
theorem barP_out (p : Dev nD) : (barPayP (F := F) p : sProp 𝕄) ⊢ reached ER (extCell p) 0 := .rfl
theorem env_intro : iprop((bigSep (Finset.univ : Finset (Fin 6 × Fin 8)) fun p => cellInv ER (Rd Q A S) (K (dCell c p.1 p.2)) (dCell c p.1 p.2))
    ∗ (bigSep (Finset.univ : Finset (Fin 6 × Fin 8)) fun p => cellInv ER (Rd Q A S) (K (dCell (nxt c) p.1 p.2)) (dCell (nxt c) p.1 p.2))
    ∗ (bigSep (Finset.univ : Finset (Fin 6 × Fin 8)) fun p => reached ER (dCell c p.1 p.2) 0)
    ∗ reachedRecv (nxt c) ∗ levAts L lv) ⊢ Env Q A S K c := .rfl

theorem donesA_last : iprop(DonesA (F := F) c 7 ∗ asendPay (F := F) c (sl 7) ∗ ssendPay (F := F) c (sl 7) ∗ zer c 2 (sl 7) ∗ zer c 3 (sl 8) ∗ zer c 4 (sl 7) ∗ zer c 5 (sl 8))
    ⊢ (DonesA c 8 : sProp 𝕄) := by
  rw [DonesA_succ c 7]
  unfold DoneA
  iintro ⟨HD, H1, H2, H3, H4, H5, H6⟩
  isplitr [HD]
  · isplitl [H1]; · iexact H1
    isplitl [H2]; · iexact H2
    isplitl [H3]; · iexact H3
    isplitl [H4]; · iexact H4
    isplitl [H5]; · iexact H5
    iexact H6
  iexact HD

/-- What the loop leaves a device, besides its last pair of hops and its debts. -/
def Left : sProp 𝕄 :=
  iprop(metaAt a0 c M ∗ wPt c main_v8 fullShare fK ∗ wPt c main_v11 fullShare fV
    ∗ (∃ f, wPt c cc0_scratch3 fullShare f) ∗ (∃ f, wPt c cc0_scratch4 fullShare f) ∗ kvFree c
    ∗ slotAny (F := F) (qSlot 7) c ∗ DonesQ c 7 ∗ DonesA c 7)

theorem left_open : (Left c a0 M fK fV : sProp 𝕄) ⊢ iprop(metaAt a0 c M ∗ wPt c main_v8 fullShare fK ∗ wPt c main_v11 fullShare fV
    ∗ (∃ f, wPt c cc0_scratch3 fullShare f) ∗ (∃ f, wPt c cc0_scratch4 fullShare f) ∗ kvFree c
    ∗ slotAny (F := F) (qSlot 7) c ∗ DonesQ c 7 ∗ DonesA c 7) := .rfl

theorem left_out : (AtTrip Q c a0 M fK fV ZA ZR 8 : sProp 𝕄) ⊢ iprop(Left c a0 M fK fV ∗ MidA c 7 ∗ owesE c (Ot c 8)) := by
  unfold AtTrip Left
  rw [show CurQ Q c 8 = iprop(slotAt (qSlot 7) c fullShare.right (Q (own c 7)) ∗ slotAt (qSlot 7) c fullShare.left (Q (own c 7))) from rfl,
    show CurA c ZA ZR 8 = MidA (F := F) c 7 from rfl]
  iintro ⟨Hm, HK, HV, Hs3, Hs4, Hkv, ⟨Hr, Hl⟩, HdQ, -, HM, HdA, -, HO⟩
  isplitr [HM HO]
  · isplitl [Hm]; · iexact Hm
    isplitl [HK]; · iexact HK
    isplitl [HV]; · iexact HV
    isplitl [Hs3]; · iexact Hs3
    isplitl [Hs4]; · iexact Hs4
    isplitl [Hkv]; · iexact Hkv
    isplitl [Hr Hl]
    · iapply (slot_unshare c (qSlot 7) (Q (own c 7)) (Q (own c 7)))
      isplitl [Hl]; · iexact Hl
      iexact Hr
    isplitl [HdQ]; · iexact HdQ
    iexact HdA
  isplitl [HM]; · iexact HM
  iexact HO

theorem curA_in : iprop(slotAt (aSlot 0) c fullShare ZA ∗ slotAt (sSlot 0) c fullShare ZR) ⊢ (CurA (F := F) c ZA ZR 0 : sProp 𝕄) := .rfl

theorem own_zero : own c 0 = c := by revert c; decide

theorem left_in : iprop(metaAt a0 c M ∗ wPt c main_v8 fullShare fK ∗ wPt c main_v11 fullShare fV
    ∗ (∃ f, wPt c cc0_scratch3 fullShare f) ∗ (∃ f, wPt c cc0_scratch4 fullShare f) ∗ kvFree c
    ∗ slotAt (qSlot 0) c fullShare (Q c) ∗ FutsQ c 0 ∗ slotAt (aSlot 0) c fullShare ZA ∗ slotAt (sSlot 0) c fullShare ZR ∗ FutsA c 0 ∗ owesE c (Ot c 0))
    ⊢ (AtTrip Q c a0 M fK fV ZA ZR 0 : sProp 𝕄) := by
  unfold AtTrip
  rw [show CurQ Q c 0 = slotAt (qSlot 0) c fullShare (Q (own c 0)) from rfl, own_zero,
    show (DonesQ c (0 - 1) : sProp 𝕄) = iprop(emp) from rfl, show (DonesA c (0 - 1) : sProp 𝕄) = iprop(emp) from rfl]
  iintro ⟨Hm, HK, HV, Hs3, Hs4, Hkv, Hq, HfQ, Ha, Hs, HfA, HO⟩
  isplitl [Hm]; · iexact Hm
  isplitl [HK]; · iexact HK
  isplitl [HV]; · iexact HV
  isplitl [Hs3]; · iexact Hs3
  isplitl [Hs4]; · iexact Hs4
  isplitl [Hkv]; · iexact Hkv
  isplitl [Hq]; · iexact Hq
  isplitr; · itrivial
  isplitl [HfQ]; · iexact HfQ
  isplitl [Ha Hs]
  · iapply (curA_in c)
    isplitl [Ha]; · iexact Ha
    iexact Hs
  isplitr; · itrivial
  isplitl [HfA]; · iexact HfA
  iexact HO

set_option maxHeartbeats 4000000 in
/-- The body, from a device's share of the protocol to its output. -/
theorem body_run (hM : Names c M)
    (hA : ∀ t, A c t = mA (Ain A c ZA t) (PT (k0_pay2 rowIx (k0_pay62 (M (ix1 10)) colIx) (M (wordAt t))) (Q (own c t)) fK fV))
    (hS : ∀ t, S c t = mS (Sin S c ZR t) (LT (k0_pay2 rowIx (k0_pay62 (M (ix1 10)) colIx) (M (wordAt t))) (Q (own c t)) fK))
    (Kt : PUnit → sProp 𝕄) :
    iprop(Know Q A S K c ∗ metaAt a0 c M ∗ owns c a1 fullShare (Q c) ∗ (∃ d, owns c a4 fullShare d)
      ∗ wPt c main_v8 fullShare fK ∗ wPt c main_v11 fullShare fV
      ∗ ((∃ f, wPt c cc0_scratch0 fullShare f) ∗ (∃ f, wPt c cc0_scratch1 fullShare f) ∗ (∃ f, wPt c cc0_scratch2 fullShare f)
        ∗ (∃ f, wPt c cc0_scratch3 fullShare f) ∗ (∃ f, wPt c cc0_scratch4 fullShare f) ∗ kvFree c)
      ∗ Toks c ∗ Poss c ∗ Crds c
      ∗ (dutyTok ER (barCell (prv c)) 0 true ∗ dutyTok ER (barCell (nxt c)) 0 false ∗ cred (tallyAt (barCell c) () 2) ∗ atPos ER (barCell c) 0 ∅ 0)
      ∗ (dutyTok ER (extCell (prv c)) 0 true ∗ dutyTok ER (extCell (nxt c)) 0 false ∗ cred (tallyAt (extCell c) () 2) ∗ atPos ER (extCell c) 0 ∅ 0)
      ∗ owesE c (O₀ c)
      ∗ (metaAt a0 c M -∗ owns c a1 fullShare (Q c) -∗ owns c a4 fullShare (OUT (A (prv c) 7) (S (prv c) 7))
        -∗ wPt c main_v8 fullShare fK -∗ wPt c main_v11 fullShare fV
        -∗ (∃ f, wPt c cc0_scratch0 fullShare f) -∗ (∃ f, wPt c cc0_scratch1 fullShare f) -∗ (∃ f, wPt c cc0_scratch2 fullShare f)
        -∗ (∃ f, wPt c cc0_scratch3 fullShare f) -∗ (∃ f, wPt c cc0_scratch4 fullShare f) -∗ kvFree c
        -∗ Zers c -∗ semVal (barCell c) 0 -∗ semVal (extCell c) 0 -∗ owesE c 0 -∗ Kt ⟨⟩))
      ⊢ wp frame (wpE (defs₀ (F := F)) 𝒱₀ c none) Set.univ (cc0__body a0 h0 a1 h1 (Memref.whole main_v8) (Memref.isWhole_whole _) (Memref.whole main_v11) (Memref.isWhole_whole _) a4 h4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scoped0) Kt := by
  rw [body_steps]
  unfold Know
  iintro ⟨⟨#HIc, #HIn, #Hrc, ⟨#HB, #HBp, #HBn⟩, ⟨#HX, #HXp, #HXn⟩, #HrBp, #HrBn, #HrX, #Hlev⟩, Hm, Hx, Ho, HK, HV, ⟨Hs0, Hs1, Hs2, Hs3, Hs4, Hkv⟩,
    Ht, Hp, Hcr, ⟨Htbp, Htbn, Hcb, Hab⟩, ⟨Htxp, Htxn, Hcx, Hax⟩, HO, Hk⟩
  rw [wp_bind]
  iapply (start_run Q A S K c a0 h0 a1 h1 a4 h4 M hM.c2 hM.c1 hM.d1 hM.d2 _)
  isplitr
  · unfold BarEnv
    isplitr; · iexact HB
    isplitr; · iexact HBp
    isplitr; · iexact HBn
    isplitr; · iexact HrBp
    isplitr; · iexact HrBn
    isplitr; · iapply (own_recv c); iexact Hrc
    isplitr; · iexact HrX
    iexact Hlev
  isplitl [Hm]; · iexact Hm
  isplitl [Hx]; · iexact Hx
  isplitl [Hs0]; · iexact Hs0
  isplitl [Hs1]; · iexact Hs1
  isplitl [Hs2]; · iexact Hs2
  isplitl [Htbp]; · iexact Htbp
  isplitl [Htbn]; · iexact Htbn
  isplitl [Hcb]; · iexact Hcb
  isplitl [Hab]; · iexact Hab
  isplitl [HO]; · iexact HO
  iintro Hm Hx Hq Ha Hs Hzb HN HP HO
  ihave HN := (barN_out (nxt c)) $$ HN
  icases HN with ⟨Hg, #HrN, #HrXn⟩
  ihave HP := (barP_out (prv c)) $$ HP
  icases HP with #HrXp
  ihave Hf := (futs_intro c) $$ [Hg Ht Hp Hcr]
  · isplitl [Hg]; · iexact Hg
    isplitl [Ht]; · iexact Ht
    isplitl [Hp]; · iexact Hp
    iexact Hcr
  icases Hf with ⟨HfQ, HfA, Hp07, Hp10⟩
  ihave #HE := (env_intro Q A S K c) $$ []
  · isplitr; · iexact HIc
    isplitr; · iexact HIn
    isplitr; · iexact Hrc
    isplitr; · iexact HrN
    iexact Hlev
  dsimp only
  rw [wp_bind]
  iapply (last_run Q A S K c a0 h0 a1 h1 a4 h4 (M (ix1 8)) hM.c2 (M (ix1 10)) rowIx colIx
    iprop(Env Q A S K c ∗ AtTrip Q c a0 M fK fV ZA ZR 0) (Left c a0 M fK fV) _ (fun Kl => ?_))
  · iintro ⟨⟨#HE, HA⟩, HK⟩
    iapply (loop_run Q A S K c a0 h0 a1 h1 a4 h4 M fK fV ZA ZR (M (ix1 8)) hM.c2 (M (ix1 10)) rowIx colIx hM.d3 hM.d4 hM.d5 hA hS Kl)
    isplitr; · iexact HE
    isplitl [HA]; · iexact HA
    iintro HT
    ihave HT := (left_out Q c a0 M fK fV) $$ HT
    icases HT with ⟨HL, HM, HO⟩
    iapply HK $$ HL HM HO
  isplitr; · iexact HE
  isplitl [Hm HK HV Hs3 Hs4 Hkv Hq Ha Hs HfQ HfA HO]
  · isplitr; · iexact HE
    iapply (left_in Q c a0 M fK fV)
    isplitl [Hm]; · iexact Hm
    isplitl [HK]; · iexact HK
    isplitl [HV]; · iexact HV
    isplitl [Hs3]; · iexact Hs3
    isplitl [Hs4]; · iexact Hs4
    isplitl [Hkv]; · iexact Hkv
    isplitl [Hq]; · iexact Hq
    isplitl [HfQ]; · iexact HfQ
    isplitl [Ha]; · iexact Ha
    isplitl [Hs]; · iexact Hs
    isplitl [HfA]; · iexact HfA
    iexact HO
  iintro HL Hr3 Hr5 Hy2 Hz2 Hy4 Hz4 HO
  ihave HL := (left_open c a0 M fK fV) $$ HL
  icases HL with ⟨Hm, HK, HV, Hs3, Hs4, Hkv, Hq7, HdQ, HdA⟩
  ihave Hz07 := (dead_run Q A S K c 0 7 (.inl ⟨rfl, rfl⟩)) $$ [Hp07]
  · isplitr; · iexact HIc
    iexact Hp07
  ihave Hz10 := (dead_run Q A S K c 1 0 (.inr ⟨rfl, rfl⟩)) $$ [Hp10]
  · isplitr; · iexact HIc
    iexact Hp10
  imod Hz07
  imod Hz10
  iapply (tail_run Q A S K c a0 h0 a1 h1 a4 h4 (M (ix1 8)) hM.c2 (M (ix1 9)) hM.c1 hM.d6 hM.d7 Kt)
  isplitr; · iexact HE
  isplitr
  · unfold ExtEnv
    isplitr; · iexact HX
    isplitr; · iexact HXp
    isplitr; · iexact HXn
    isplitr; · iexact HrXp
    iexact HrXn
  isplitl [Hr3]; · iexact Hr3
  isplitl [Hr5]; · iexact Hr5
  isplitl [Ho]; · iexact Ho
  isplitl [Htxp]; · iexact Htxp
  isplitl [Htxn]; · iexact Htxn
  isplitl [Hcx]; · iexact Hcx
  isplitl [Hax]; · iexact Hax
  isplitl [HO]; · iexact HO
  iintro Ho Ha0 Hs0 Hz3 Hz5 Hzx HO
  ihave HdA := (donesA_last c) $$ [HdA Hy2 Hy4 Hz2 Hz3 Hz4 Hz5]
  · isplitl [HdA]; · iexact HdA
    isplitl [Hy2]; · iexact Hy2
    isplitl [Hy4]; · iexact Hy4
    isplitl [Hz2]; · iexact Hz2
    isplitl [Hz3]; · iexact Hz3
    isplitl [Hz4]; · iexact Hz4
    iexact Hz5
  ihave Hd := (dones_elim c) $$ [HdQ HdA Hz07 Hz10 Hq7 Ha0 Hs0]
  · isplitl [HdQ]; · iexact HdQ
    isplitl [HdA]; · iexact HdA
    isplitl [Hz07]; · iexact Hz07
    isplitl [Hz10]; · iexact Hz10
    isplitl [Hq7]; · iexact Hq7
    isplitl [Ha0]; · iexact Ha0
    iexact Hs0
  icases Hd with ⟨Hs0, Hs1, Hs2, HZ⟩
  iapply Hk $$ Hm Hx Ho HK HV Hs0 Hs1 Hs2 Hs3 Hs4 Hkv HZ Hzb Hzx HO

end

end Cert.KernelIdeal.Ring

end
-- ==== Proof.Ghost.lean ====
/-
  The protocol's ghost state: what the launch hands out, and how a device opens its own cells.
-/
module

public import proofs.«01_k».proof.Proof.Body

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The protocol's cells -/

/-- The semaphores of the kernel's own that carry the protocol: the closing handshake's and the six arrays'. -/
abbrev PC : Type := Unit ⊕ (Fin 6 × Fin 8)
def psem : PC → SemLoc sig
  | .inl _ => .reg extS
  | .inr p => .dma (dS p.1 p.2)
/-- All of its own: these, and the four of the double buffers. -/
abbrev OC : Type := PC ⊕ Fin 4
def osem : OC → SemLoc sig
  | .inl p => psem p
  | .inr i => .dma ⟨51 + i.val, by have := i.isLt; show _ < 55; omega⟩

theorem psem_inj : Function.Injective psem := by decide +kernel
theorem psem_ne_bar (p : PC) : psem p ≠ .reg barS := by revert p; decide +kernel
theorem own_facts : Pipeline.OwnSemFacts spec0 osem := by decide +kernel

abbrev pCell (c : Dev nD) (p : PC) : GSem nD τ sig := cell c (psem p)

def barEmb : Dev nD ↪ GSem nD τ sig := ⟨fun c => barCell c, fun _ _ h => congrArg (fun g : GSem nD τ sig => g.1.1) h⟩
def pEmb : Dev nD × PC ↪ GSem nD τ sig :=
  ⟨fun x => pCell x.1 x.2, fun _ _ h => Prod.ext (congrArg (fun g : GSem nD τ sig => g.1.1) h) (psem_inj (congrArg Prod.snd h))⟩

abbrev barCells : Finset (GSem nD τ sig) := Finset.univ.map barEmb
abbrev pCells : Finset (GSem nD τ sig) := Finset.univ.map pEmb

theorem cells_disjoint : Disjoint (barCells : Finset (GSem nD τ sig)) pCells := by
  rw [Finset.disjoint_left]
  rintro g h₁ h₂
  obtain ⟨c, -, rfl⟩ := Finset.mem_map.mp h₁
  obtain ⟨x, -, h⟩ := Finset.mem_map.mp h₂
  exact psem_ne_bar x.2 (congrArg Prod.snd h)

theorem bar_mem (c : Dev nD) : barCell c ∈ (barCells ∪ pCells : Finset (GSem nD τ sig)) :=
  Finset.mem_union_left _ (Finset.mem_map_of_mem barEmb (Finset.mem_univ c))
theorem p_mem (c : Dev nD) (p : PC) : pCell c p ∈ (barCells ∪ pCells : Finset (GSem nD τ sig)) :=
  Finset.mem_union_right _ (Finset.mem_map_of_mem pEmb (Finset.mem_univ (c, p)))

/-- The duties' names at a device: both of each handshake's, and the one of each semaphore of an array. -/
abbrev TK : Type := (Bool ⊕ Bool) ⊕ (Fin 6 × Fin 8)
def tsem : TK → SemLoc sig × Bool
  | .inl (.inl d) => (.reg barS, d)
  | .inl (.inr d) => (.reg extS, d)
  | .inr p => (.dma (dS p.1 p.2), false)
theorem tsem_inj : Function.Injective tsem := by decide +kernel

def allToks : Finset (GSem nD τ sig × ℕ × Bool) :=
  Finset.univ.map ⟨fun x : Dev nD × TK => (cell x.1 (tsem x.2).1, 0, (tsem x.2).2), fun _ _ h =>
    Prod.ext (congrArg (fun t : GSem nD τ sig × ℕ × Bool => t.1.1.1) h)
      (tsem_inj (Prod.ext (congrArg (fun t : GSem nD τ sig × ℕ × Bool => t.1.2) h) (congrArg (fun t : GSem nD τ sig × ℕ × Bool => t.2.2) h)))⟩

/-- The ring, as a permutation of the devices. -/
def ring : Dev nD ≃ Dev nD := ⟨nxt, prv, prv_nxt, nxt_prv⟩

/-! ## What a device has at launch, and when the kernel starts -/

section
variable (Q : Dev nD → QT F) (A : Dev nD → ℕ → QT F) (S : Dev nD → ℕ → ST F)

/-- All the invariants under one map of names, and that every barrier has reached its round. -/
def Recs (κ : GSem nD τ sig → ℕ) : sProp 𝕄 :=
  iprop((bigSep (barCells ∪ pCells) fun g => cellInv ER (Rd Q A S) (κ g) g) ∗ bigSep barCells fun g => reached ER g 0)

instance Recs_persistent (κ : GSem nD τ sig → ℕ) : BI.Persistent (Recs Q A S κ) := by unfold Recs; infer_instance

/-- A device's rights to pay, at the two handshakes. -/
def Hands (c : Dev nD) : sProp 𝕄 :=
  iprop((dutyTok ER (barCell (prv c)) 0 true ∗ dutyTok ER (barCell (nxt c)) 0 false)
    ∗ dutyTok ER (extCell (prv c)) 0 true ∗ dutyTok ER (extCell (nxt c)) 0 false)

/-- What of the protocol is a device's alone. -/
def Lin (c : Dev nD) : sProp 𝕄 :=
  iprop(atPos ER (barCell c) 0 ∅ 0 ∗ (bigSep Finset.univ fun p : PC => openTok ER (pCell c p)) ∗ Toks c ∗ Hands c)

/-- Its credits. -/
def Creds (c : Dev nD) : sProp 𝕄 := iprop(cred (tallyAt (barCell c) () 2) ∗ cred (tallyAt (extCell c) () 2) ∗ Crds c)

def Tk (c : Dev nD) : sProp 𝕄 := iprop((∃ κ, Recs Q A S κ ∗ Lin c) ∗ Creds c)

/-- The double buffers' counters at zero. -/
def kvZero (c : Dev nD) : sProp 𝕄 := bigSep (Finset.univ : Finset (Fin 4)) fun i => semVal (cell c (osem (.inr i))) 0

def Xk (c : Dev nD) : sProp 𝕄 :=
  iprop((∃ κ, Know Q A S κ c ∗ Toks c ∗ Poss c ∗ Hands c ∗ atPos ER (barCell c) 0 ∅ 0 ∗ atPos ER (extCell c) 0 ∅ 0) ∗ Creds c ∗ kvZero c)

theorem over_pc (c : Dev nD) (Φ : GSem nD τ sig → sProp 𝕄) : (bigSep Finset.univ fun p : PC => Φ (pCell c p))
    = iprop(Φ (extCell c) ∗ bigSep (Finset.univ : Finset (Fin 6 × Fin 8)) fun p => Φ (dCell c p.1 p.2)) := by
  rw [bigSep_univ_sum, bigSep_univ_of_subsingleton ()]
  rfl

theorem ownSems_eq (c : Dev nD) : (Pipeline.ownSems0 osem c : sProp 𝕄)
    = iprop((bigSep Finset.univ fun p : PC => semVal (pCell c p) 0) ∗ kvZero c) := by
  unfold Pipeline.ownSems0 kvZero
  rw [bigSep_univ_sum]
  rfl

theorem open_all (κ : GSem nD τ sig → ℕ) (c : Dev nD) :
    iprop(Recs Q A S κ ∗ (bigSep Finset.univ fun p : PC => openTok ER (pCell c p)) ∗ bigSep Finset.univ fun p : PC => semVal (pCell c p) 0)
      ⊢ (|={Set.univ}=> iprop((bigSep Finset.univ fun p : PC => atPos ER (pCell c p) 0 ∅ 0) ∗ bigSep Finset.univ fun p : PC => reached ER (pCell c p) 0)
        : sProp 𝕄) := by
  rw [← bigSep_sep', ← bigSep_sep']
  refine BIBase.Entails.trans (bigSep_with_persistent (Ψ := fun p : PC => iprop(|={Set.univ}=> (atPos ER (pCell c p) 0 ∅ 0 ∗ reached ER (pCell c p) 0))) fun p _ => ?_)
    (bigSep_fupd _ _)
  unfold Recs
  iintro ⟨⟨#HI, -⟩, Ho, Hv⟩
  iapply (Rounds.cell_open ER (Rd Q A S) (g := pCell c p) (Set.mem_univ (κ (pCell c p))))
  isplitr; · iapply (bs_elim (Φ := fun g => cellInv ER (Rd Q A S) (κ g) g) (p_mem c p)); iexact HI
  isplitl [Ho]; · iexact Ho
  iexact Hv

theorem inv_at (κ : GSem nD τ sig → ℕ) {g : GSem nD τ sig} (hg : g ∈ (barCells ∪ pCells : Finset (GSem nD τ sig))) :
    Recs Q A S κ ⊢ cellInv ER (Rd Q A S) (κ g) g := by
  unfold Recs
  iintro ⟨#H, -⟩
  iapply (bs_elim (Φ := fun g => cellInv ER (Rd Q A S) (κ g) g) hg); iexact H
theorem bar_at (κ : GSem nD τ sig → ℕ) (c : Dev nD) : Recs Q A S κ ⊢ (reached ER (barCell c) 0 : sProp 𝕄) := by
  unfold Recs
  iintro ⟨-, #H⟩
  iapply (bs_elim (Φ := fun g => (reached ER g 0 : sProp 𝕄)) (i := barCell c) (Finset.mem_map_of_mem barEmb (Finset.mem_univ c))); iexact H
theorem invs_at (κ : GSem nD τ sig → ℕ) (c : Dev nD) : Recs Q A S κ
    ⊢ (bigSep (Finset.univ : Finset (Fin 6 × Fin 8)) fun p => cellInv ER (Rd Q A S) (κ (dCell c p.1 p.2)) (dCell c p.1 p.2)) := by
  refine BIBase.Entails.trans ?_ (bigSep_with_persistent (R := Recs Q A S κ) (Φ := fun _ => iprop(emp))
    (Ψ := fun p : Fin 6 × Fin 8 => cellInv ER (Rd Q A S) (κ (dCell c p.1 p.2)) (dCell c p.1 p.2)) fun p _ => ?_)
  · rw [show (bigSep (Finset.univ : Finset (Fin 6 × Fin 8)) fun _ => (iprop(emp) : sProp 𝕄)) = iprop(emp) from BI.bigSep_emp_const _]
    iintro H
    isplitl [H]; · iexact H
    itrivial
  · iintro ⟨#H, -⟩
    iapply (inv_at Q A S κ (p_mem c (.inr p))); iexact H

theorem know_intro (κ : GSem nD τ sig → ℕ) (c : Dev nD) :
    iprop(Recs Q A S κ ∗ reached ER (extCell c) 0 ∗ (bigSep (Finset.univ : Finset (Fin 6 × Fin 8)) fun p => reached ER (dCell c p.1 p.2) 0) ∗ levAts L lv)
      ⊢ Know Q A S κ c := by
  unfold Know
  iintro ⟨#HR, #Hx, #Hd, #Hl⟩
  isplitr; · iapply (invs_at Q A S κ c); iexact HR
  isplitr; · iapply (invs_at Q A S κ (nxt c)); iexact HR
  isplitr; · iexact Hd
  isplitr
  · isplitr; · iapply (inv_at Q A S κ (bar_mem c)); iexact HR
    isplitr; · iapply (inv_at Q A S κ (bar_mem (prv c))); iexact HR
    iapply (inv_at Q A S κ (bar_mem (nxt c))); iexact HR
  isplitr
  · isplitr; · iapply (inv_at Q A S κ (p_mem c (.inl ()))); iexact HR
    isplitr; · iapply (inv_at Q A S κ (p_mem (prv c) (.inl ()))); iexact HR
    iapply (inv_at Q A S κ (p_mem (nxt c) (.inl ()))); iexact HR
  isplitr; · iapply (bar_at Q A S κ (prv c)); iexact HR
  isplitr; · iapply (bar_at Q A S κ (nxt c)); iexact HR
  isplitr; · iexact Hx
  iexact Hl

theorem hopen (c : Dev nD) : iprop(Tk Q A S c ∗ Pipeline.ownSems0 osem c ∗ levAts L lv) ⊢ (|={Set.univ}=> Xk Q A S c : sProp 𝕄) := by
  have ho := fun κ : GSem nD τ sig → ℕ => open_all Q A S κ c
  rw [over_pc c (fun g => (atPos ER g 0 ∅ 0 : sProp 𝕄)), over_pc c (fun g => (reached ER g 0 : sProp 𝕄))] at ho
  rw [ownSems_eq]
  unfold Tk Xk Lin Poss
  iintro ⟨⟨⟨%κ, #HR, Hb, Ho, Ht, Hh⟩, Hc⟩, ⟨Hv, Hkv⟩, #Hl⟩
  imod (ho κ) $$ [Ho Hv] with ⟨⟨Hx, Hp⟩, #Hrx, #Hr⟩
  · isplitr; · iexact HR
    isplitl [Ho]; · iexact Ho
    iexact Hv
  imodintro
  isplitr [Hc Hkv]
  · iexists κ
    isplitr
    · iapply (know_intro Q A S κ c)
      isplitr; · iexact HR
      isplitr; · iexact Hrx
      isplitr; · iexact Hr
      iexact Hl
    isplitl [Ht]; · iexact Ht
    isplitl [Hp]; · iexact Hp
    isplitl [Hh]; · iexact Hh
    isplitl [Hb]; · iexact Hb
    iexact Hx
  isplitl [Hc]; · iexact Hc
  iexact Hkv

/-! ## The launch's tokens, dealt around the ring -/

def rawToks (c : Dev nD) : sProp 𝕄 :=
  iprop(((dutyTok ER (barCell c) 0 true ∗ dutyTok ER (barCell c) 0 false) ∗ dutyTok ER (extCell c) 0 true ∗ dutyTok ER (extCell c) 0 false)
    ∗ bigSep Finset.univ (fun j => tok c 0 j) ∗ bigSep Finset.univ (fun j => tok c 1 j) ∗ bigSep Finset.univ (fun j => tok c 2 j)
    ∗ bigSep Finset.univ (fun j => tok c 3 j) ∗ bigSep Finset.univ (fun j => tok c 4 j) ∗ bigSep Finset.univ (fun j => tok c 5 j))

theorem over_bool (Φ : Bool → sProp 𝕄) : bigSep Finset.univ Φ = iprop(Φ true ∗ Φ false) := by
  rw [show (Finset.univ : Finset Bool) = {true, false} from by decide, bigSep_insert (by decide), bigSep_singleton]; rfl

theorem toks_eq : bigSep allToks (fun x => (dutyTok ER x.1 x.2.1 x.2.2 : sProp 𝕄)) = bigSep Finset.univ fun c : Dev nD => rawToks c := by
  unfold allToks; rw [bigSep_map, bigSep_univ_prod]
  refine bigSep_congr fun c _ => ?_
  unfold rawToks
  rw [bigSep_univ_sum, bigSep_univ_sum, over_bool, over_bool, ← six (fun k j => tok c k j)]
  rfl

theorem deal (c : Dev nD) :
    iprop(((dutyTok ER (barCell (prv c)) 0 true ∗ dutyTok ER (barCell (nxt c)) 0 false) ∗ dutyTok ER (extCell (prv c)) 0 true ∗ dutyTok ER (extCell (nxt c)) 0 false)
        ∗ bigSep Finset.univ (fun j => tok c 0 j) ∗ bigSep Finset.univ (fun j => tok (nxt c) 1 j) ∗ bigSep Finset.univ (fun j => tok c 2 j)
        ∗ bigSep Finset.univ (fun j => tok (nxt c) 3 j) ∗ bigSep Finset.univ (fun j => tok c 4 j) ∗ bigSep Finset.univ (fun j => tok (nxt c) 5 j))
      ⊢ (iprop(Toks c ∗ Hands c) : sProp 𝕄) := by
  unfold Toks Hands
  rw [out8 7 (fun j => tok c 0 j), out8 0 (fun j => tok (nxt c) 1 j)]
  iintro ⟨Hh, ⟨-, H0⟩, ⟨-, H1⟩, H2, H3, H4, H5⟩
  isplitr [Hh]
  · isplitl [H0]; · iexact H0
    isplitl [H1]; · iexact H1
    isplitl [H2]; · iexact H2
    isplitl [H3]; · iexact H3
    isplitl [H4]; · iexact H4
    iexact H5
  iexact Hh

theorem toks_around : (bigSep Finset.univ fun c : Dev nD => (rawToks c : sProp 𝕄)) ⊢ bigSep Finset.univ fun c : Dev nD => iprop(Toks c ∗ Hands c) := by
  have e : (bigSep Finset.univ fun c : Dev nD => (rawToks c : sProp 𝕄)) = bigSep Finset.univ fun c : Dev nD =>
      iprop(((dutyTok ER (barCell (prv c)) 0 true ∗ dutyTok ER (barCell (nxt c)) 0 false) ∗ dutyTok ER (extCell (prv c)) 0 true ∗ dutyTok ER (extCell (nxt c)) 0 false)
        ∗ bigSep Finset.univ (fun j => tok c 0 j) ∗ bigSep Finset.univ (fun j => tok (nxt c) 1 j) ∗ bigSep Finset.univ (fun j => tok c 2 j)
        ∗ bigSep Finset.univ (fun j => tok (nxt c) 3 j) ∗ bigSep Finset.univ (fun j => tok c 4 j) ∗ bigSep Finset.univ (fun j => tok (nxt c) 5 j)) := by
    unfold rawToks
    simp only [bigSep_sep']
    rw [bigSep_univ_equiv ring.symm (fun c : Dev nD => (dutyTok ER (barCell c) 0 true : sProp 𝕄)),
      bigSep_univ_equiv ring.symm (fun c : Dev nD => (dutyTok ER (extCell c) 0 true : sProp 𝕄)),
      bigSep_univ_equiv ring (fun c : Dev nD => (dutyTok ER (barCell c) 0 false : sProp 𝕄)),
      bigSep_univ_equiv ring (fun c : Dev nD => (dutyTok ER (extCell c) 0 false : sProp 𝕄)),
      bigSep_univ_equiv ring (fun c : Dev nD => (bigSep Finset.univ (fun j => tok c 1 j) : sProp 𝕄)),
      bigSep_univ_equiv ring (fun c : Dev nD => (bigSep Finset.univ (fun j => tok c 3 j) : sProp 𝕄)),
      bigSep_univ_equiv ring (fun c : Dev nD => (bigSep Finset.univ (fun j => tok c 5 j) : sProp 𝕄))]
    rfl
  rw [e]
  exact bigSep_mono fun c _ => deal c

end

/-! ## The launch's credit -/

theorem tally_at (n c : Dev nD) (s' s : SemLoc sig) (k : ℕ) :
    (tallyAt (cell n s') () k : CellTallies nD τ sig Unit) (cell c s) () = if n = c then (if s = s' then k else 0) else 0 := by
  rw [tallyAt_apply]
  by_cases h : n = c
  · subst h
    rw [if_pos rfl]
    refine if_congr ⟨fun h => congrArg Prod.snd h.1, fun h => ⟨by rw [h], rfl⟩⟩ rfl rfl
  · rw [if_neg h, if_neg fun hh => h (congrArg (fun g : GSem nD τ sig => g.1.1) hh.1).symm]

/-- How often the step's semaphore of array k is s, over the first T steps. -/
def often (k : Fin 6) (T : ℕ) (s : SemLoc sig) : ℕ := ((Finset.Ico 0 T).filter fun t => s = .dma (dS k (sl (t + 1)))).card

theorem sum_at (n c : Dev nD) (k : Fin 6) (T m : ℕ) (s : SemLoc sig) :
    (∑ t ∈ Finset.Ico 0 T, tallyAt (dCell n k (sl (t + 1))) () m : CellTallies nD τ sig Unit) (cell c s) () = if n = c then often k T s * m else 0 := by
  rw [Finset.sum_apply, Finsupp.finset_sum_apply, Finset.sum_congr rfl fun t _ => tally_at n c _ s m]
  by_cases h : n = c
  · simp only [if_pos h]
    rw [← Finset.sum_filter, Finset.sum_const, smul_eq_mul]; rfl
  · simp only [if_neg h, Finset.sum_const_zero]

theorem sum_nxt (c : Dev nD) (v : ℕ) : (∑ d : Dev nD, if nxt d = c then v else 0) = v := by
  rw [show (∑ d : Dev nD, if nxt d = c then v else 0) = ∑ n : Dev nD, if n = c then v else 0 from ring.sum_comp (fun n => if n = c then v else 0),
    Finset.sum_ite_eq' , if_pos (Finset.mem_univ _)]
theorem sum_prv (c : Dev nD) (v : ℕ) : (∑ d : Dev nD, if prv d = c then v else 0) = v := by
  rw [show (∑ d : Dev nD, if prv d = c then v else 0) = ∑ n : Dev nD, if n = c then v else 0 from ring.symm.sum_comp (fun n => if n = c then v else 0),
    Finset.sum_ite_eq' , if_pos (Finset.mem_univ _)]

/-- What all devices together owe a cell. -/
def due (s : SemLoc sig) : ℕ :=
  (if s = .reg extS then 1 else 0) + (if s = .reg extS then 1 else 0) + often 3 8 s * Nq + often 5 8 s * Ns + often 1 7 s * Nq
    + (if s = .reg barS then 1 else 0) + (if s = .reg barS then 1 else 0)

theorem due_eq (c : Dev nD) (s : SemLoc sig) : (∑ d : Dev nD, O₀ d (cell c s) ()) = due s := by
  unfold O₀ Ot Ox Oa Os Oq due
  simp only [Pi.add_apply, Finsupp.add_apply, tally_at, sum_at, Finset.sum_add_distrib, sum_nxt, sum_prv]

theorem credit_eq (c : Dev nD) (s : SemLoc sig) :
    tallyOn (cell c s) (launchCredit (Pipeline.owing O₀) 0 (cell c s)) = (tallyAt (cell c s) () (due s) : CellTallies nD τ sig Unit) := by
  unfold tallyAt; refine congrArg _ (Finsupp.ext fun u => ?_); cases u
  rw [Pipeline.launchCredit_owing, Finsupp.single_eq_same]
  exact due_eq c s

theorem often_dma : ∀ j : Fin 8, (often 3 8 (.dma (dS 3 j)) = 1 ∧ often 5 8 (.dma (dS 3 j)) = 0 ∧ often 1 7 (.dma (dS 3 j)) = 0)
    ∧ (often 3 8 (.dma (dS 5 j)) = 0 ∧ often 5 8 (.dma (dS 5 j)) = 1 ∧ often 1 7 (.dma (dS 5 j)) = 0)
    ∧ (often 3 8 (.dma (dS 1 j)) = 0 ∧ often 5 8 (.dma (dS 1 j)) = 0 ∧ (j ≠ 0 → often 1 7 (.dma (dS 1 j)) = 1)) := by decide +kernel
theorem often_reg (s : Sem sig) (k : Fin 6) (T : ℕ) : often k T (.reg s) = 0 := by
  unfold often
  rw [Finset.card_eq_zero, Finset.filter_eq_empty_iff]
  intro t _ h
  cases h

theorem due_bar : due (.reg barS) = 2 := by
  unfold due; rw [often_reg, often_reg, often_reg]; rfl
theorem due_ext : due (.reg extS) = 2 := by
  unfold due; rw [often_reg, often_reg, often_reg]; rfl
theorem due_a (j : Fin 8) : due (.dma (dS 3 j)) = amt 3 := by
  obtain ⟨⟨h1, h2, h3⟩, -, -⟩ := often_dma j
  unfold due; rw [h1, h2, h3]; simp [amt]
theorem due_s (j : Fin 8) : due (.dma (dS 5 j)) = amt 5 := by
  obtain ⟨-, ⟨h1, h2, h3⟩, -⟩ := often_dma j
  unfold due; rw [h1, h2, h3]; simp [amt]
theorem due_q (j : Fin 8) (h : j ≠ 0) : due (.dma (dS 1 j)) = amt 1 := by
  obtain ⟨-, -, ⟨h1, h2, h3⟩⟩ := often_dma j
  unfold due; rw [h1, h2, h3 h]; simp [amt]

/-- The cells a device waits on. -/
abbrev WC : Type := Bool ⊕ (Fin 6 × Fin 8)
def wsem : WC → SemLoc sig
  | .inl b => .reg (if b then barS else extS)
  | .inr p => .dma (dS p.1 p.2)
theorem wsem_inj : Function.Injective wsem := by decide +kernel

theorem creds (c : Dev nD) : (Pipeline.launchCred O₀ c : sProp 𝕄) ⊢ Creds c := by
  unfold Pipeline.launchCred
  rw [show (fun sm : SemLoc sig => (cred (tallyOn ((c.tc : Thread nD τ), sm) (launchCredit (Pipeline.owing O₀) 0 ((c.tc : Thread nD τ), sm))) : sProp 𝕄))
    = fun sm => cred (tallyAt (cell c sm) () (due sm)) from funext fun sm => congrArg cred (credit_eq c sm)]
  refine BIBase.Entails.trans (bigSep_subset (Finset.subset_univ (Finset.univ.map ⟨wsem, wsem_inj⟩))) ?_
  rw [bigSep_map, bigSep_univ_sum, over_bool,
    show (bigSep Finset.univ fun b : Fin 6 × Fin 8 => (cred (tallyAt (cell c ((⟨wsem, wsem_inj⟩ : WC ↪ SemLoc sig) (.inr b))) () (due ((⟨wsem, wsem_inj⟩ : WC ↪ SemLoc sig) (.inr b)))) : sProp 𝕄))
      = bigSep Finset.univ fun p : Fin 6 × Fin 8 => cred (tallyAt (dCell c p.1 p.2) () (due (.dma (dS p.1 p.2)))) from rfl,
    six (fun k j => (cred (tallyAt (dCell c k j) () (due (.dma (dS k j)))) : sProp 𝕄)), out8 0 (fun j => (cred (tallyAt (dCell c 1 j) () (due (.dma (dS 1 j)))) : sProp 𝕄))]
  show iprop((cred (tallyAt (barCell c) () (due (.reg barS))) ∗ cred (tallyAt (extCell c) () (due (.reg extS)))) ∗ _) ⊢ _
  rw [due_bar, due_ext, show (fun j => (cred (tallyAt (dCell c 3 j) () (due (.dma (dS 3 j)))) : sProp 𝕄)) = fun j => crd c 3 j from funext fun j => by rw [due_a],
    show (fun j => (cred (tallyAt (dCell c 5 j) () (due (.dma (dS 5 j)))) : sProp 𝕄)) = fun j => crd c 5 j from funext fun j => by rw [due_s],
    show (bigSep (Finset.univ.erase (0 : Fin 8)) fun j => (cred (tallyAt (dCell c 1 j) () (due (.dma (dS 1 j)))) : sProp 𝕄)) = bigSep (Finset.univ.erase (0 : Fin 8)) fun j => crd c 1 j from
      bigSep_congr fun j hj => by rw [due_q j (Finset.ne_of_mem_erase hj)]]
  unfold Creds Crds
  iintro ⟨⟨Hb, Hx⟩, -, ⟨-, H1⟩, -, H3, -, H5⟩
  isplitl [Hb]; · iexact Hb
  isplitl [Hx]; · iexact Hx
  isplitl [H1]; · iexact H1
  isplitl [H3]; · iexact H3
  iexact H5

end Cert.KernelIdeal.Ring

end
-- ==== Proof.Region.lean ====
/-
  The kernel's region of the program: what each device's buffers hold as the kernel starts and ends.
-/
module

public import proofs.«01_k».proof.Proof.Ghost
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

/-! ## The double buffers, split in their slots -/

theorem two_sets : Disjoint (kvSlot (Memref.whole cc0_scratch5) 0).view.set (kvSlot (Memref.whole cc0_scratch5) 1).view.set
    ∧ (kvSlot (Memref.whole cc0_scratch5) 0).view.set ∪ (kvSlot (Memref.whole cc0_scratch5) 1).view.set = Finset.univ := by
  have hs : ∀ i : Fin 2, (kvSlot (Memref.whole cc0_scratch5) i).view.set = (Rect.unit (s := S2x4096x128) ![i.val, 0, 0] S1x4096x128.size (by revert i; decide)).set := fun i => by
    refine (Memref.set_view_squeeze _ _).trans ?_; exact (View.set_slice _ _).trans (Finset.map_refl)
  rw [hs 0, hs 1]
  constructor
  · rw [Finset.disjoint_left]
    intro i h0 h1
    rw [Rect.mem_set_unit] at h0 h1
    have a0 := (h0 0).2; have a1 := (h1 0).1
    change (i 0).val < 0 + 1 at a0; change 1 ≤ (i 0).val at a1
    omega
  · refine Finset.eq_univ_of_forall fun i => ?_
    rw [Finset.mem_union, Rect.mem_set_unit, Rect.mem_set_unit]
    have b0 : (i 0).val < 2 := (i 0).isLt
    have b1 : (i 1).val < 4096 := (i 1).isLt
    have b2 : (i 2).val < 128 := (i 2).isLt
    by_cases h : (i 0).val = 0
    · left; intro a; fin_cases a
      · show 0 ≤ (i 0).val ∧ (i 0).val < 0 + 1; omega
      · show 0 ≤ (i 1).val ∧ (i 1).val < 0 + 4096; omega
      · show 0 ≤ (i 2).val ∧ (i 2).val < 0 + 128; omega
    · right; intro a; fin_cases a
      · show 1 ≤ (i 0).val ∧ (i 0).val < 1 + 1; omega
      · show 0 ≤ (i 1).val ∧ (i 1).val < 0 + 4096; omega
      · show 0 ≤ (i 2).val ∧ (i 2).val < 0 + 128; omega

theorem two_split (ℓ : Loc nD τ sig) (s t : Finset (Idx ℓ)) (hd : Disjoint s t) (hu : s ∪ t = Finset.univ) :
    (iprop(∃ f, ℓ ↦{fullShare} f) : sProp 𝕄) ⊢ iprop((∃ f, ℓ ↦[s]{fullShare} f) ∗ ∃ f, ℓ ↦[t]{fullShare} f) := by
  have e : ∀ f : Buf (Elt F) ℓ, (ℓ ↦{fullShare} f : sProp 𝕄) ⊢ iprop((ℓ ↦[s]{fullShare} f) ∗ (ℓ ↦[t]{fullShare} f)) := fun f => by
    show (ℓ ↦[Finset.univ]{fullShare} f : sProp 𝕄) ⊢ _
    rw [← hu]
    exact (pointsTo_union hd).1
  iintro ⟨%f, H⟩
  ihave H := (e f) $$ H
  icases H with ⟨H0, H1⟩
  isplitl [H0]; · iexists f; iexact H0
  iexists f; iexact H1
theorem two_join (ℓ : Loc nD τ sig) (s t : Finset (Idx ℓ)) (hd : Disjoint s t) (hu : s ∪ t = Finset.univ) :
    (iprop((∃ f, ℓ ↦[s]{fullShare} f) ∗ ∃ f, ℓ ↦[t]{fullShare} f) : sProp 𝕄) ⊢ iprop(∃ f, ℓ ↦{fullShare} f) := by
  have e : ∀ f g : Buf (Elt F) ℓ, iprop((ℓ ↦[s]{fullShare} f) ∗ (ℓ ↦[t]{fullShare} g)) ⊢ (iprop(∃ f, ℓ ↦[s ∪ t]{fullShare} f) : sProp 𝕄) := fun f g => by
    iintro ⟨H0, H1⟩
    iexists (t.piecewise g f)
    iapply (pointsTo_join hd)
    isplitl [H0]; · iexact H0
    iexact H1
  rw [hu] at e
  iintro ⟨⟨%f, H0⟩, %g, H1⟩
  iapply (e f g)
  isplitl [H0]; · iexact H0
  iexact H1

theorem kv_zero (c : Dev nD) : (kvZero c : sProp 𝕄) = iprop(semVal ((c : Thread nD τ), .dma (⟨51, by decide⟩ : DmaSem sig)) 0 ∗ semVal ((c : Thread nD τ), .dma (⟨52, by decide⟩ : DmaSem sig)) 0
    ∗ semVal ((c : Thread nD τ), .dma (⟨53, by decide⟩ : DmaSem sig)) 0 ∗ semVal ((c : Thread nD τ), .dma (⟨54, by decide⟩ : DmaSem sig)) 0) := by
  unfold kvZero
  exact bigSep_univ_eq_bigSepL [(0 : Fin 4), 1, 2, 3] (by decide) (by decide) _

theorem kv_in (c : Dev nD) : iprop((∃ f, wPt c cc0_scratch5 fullShare f) ∗ (∃ f, wPt c cc0_scratch6 fullShare f) ∗ kvZero c) ⊢ (kvFree c : sProp 𝕄) := by
  rw [kv_zero]
  unfold kvFree slotAny
  iintro ⟨H5, H6, H1, H2, H3, H4⟩
  ihave H5 := (two_split ((Memref.whole cc0_scratch5).view.loc (c : Thread nD τ)) _ _ two_sets.1 two_sets.2) $$ H5
  ihave H6 := (two_split ((Memref.whole cc0_scratch6).view.loc (c : Thread nD τ)) _ _ two_sets.1 two_sets.2) $$ H6
  icases H5 with ⟨H50, H51⟩
  icases H6 with ⟨H60, H61⟩
  isplitl [H50]; · iexact H50
  isplitl [H51]; · iexact H51
  isplitl [H60]; · iexact H60
  isplitl [H61]; · iexact H61
  isplitl [H1]; · iexact H1
  isplitl [H2]; · iexact H2
  isplitl [H3]; · iexact H3
  iexact H4
theorem kv_out (c : Dev nD) : (kvFree c : sProp 𝕄) ⊢ iprop((∃ f, wPt c cc0_scratch5 fullShare f) ∗ (∃ f, wPt c cc0_scratch6 fullShare f) ∗ kvZero c) := by
  rw [kv_zero]
  unfold kvFree slotAny
  iintro ⟨H50, H51, H60, H61, H1, H2, H3, H4⟩
  isplitl [H50 H51]
  · iapply (two_join ((Memref.whole cc0_scratch5).view.loc (c : Thread nD τ)) _ _ two_sets.1 two_sets.2)
    isplitl [H50]; · iexact H50
    iexact H51
  isplitl [H60 H61]
  · iapply (two_join ((Memref.whole cc0_scratch6).view.loc (c : Thread nD τ)) _ _ two_sets.1 two_sets.2)
    isplitl [H60]; · iexact H60
    iexact H61
  isplitl [H1]; · iexact H1
  isplitl [H2]; · iexact H2
  isplitl [H3]; · iexact H3
  iexact H4

/-! ## What the buffers hold -/

section
variable (m : (ℓ : Loc nD τ sig) → Buf (Elt F) ℓ)

/-- The table, the queries, the keys and the values the kernel finds. -/
def Mt (c : Dev nD) : S11.Idx → Elt F .i32 := V3 m c main_v45
def Qt (c : Dev nD) : QT F := V3 m c main_v5
def Kt (c : Dev nD) : (main_v8 : Ref sig .tc).ty.Contents (Elt F) := V3 m c main_v8
def Vt (c : Dev nD) : (main_v11 : Ref sig .tc).ty.Contents (Elt F) := V3 m c main_v11

/-- The two sums, t steps on, as the device that has just added its own share holds them. -/
def AA : ℕ → Dev nD → QT F
  | 0, c => mA ZA (PT (k0_pay2 rowIx (k0_pay62 (Mt m c (ix1 10)) colIx) (Mt m c (wordAt 0))) (Qt m (own c 0)) (Kt m c) (Vt m c))
  | t + 1, c => mA (AA t (prv c)) (PT (k0_pay2 rowIx (k0_pay62 (Mt m c (ix1 10)) colIx) (Mt m c (wordAt (t + 1)))) (Qt m (own c (t + 1))) (Kt m c) (Vt m c))
def SS : ℕ → Dev nD → ST F
  | 0, c => mS ZR (LT (k0_pay2 rowIx (k0_pay62 (Mt m c (ix1 10)) colIx) (Mt m c (wordAt 0))) (Qt m (own c 0)) (Kt m c))
  | t + 1, c => mS (SS t (prv c)) (LT (k0_pay2 rowIx (k0_pay62 (Mt m c (ix1 10)) colIx) (Mt m c (wordAt (t + 1)))) (Qt m (own c (t + 1))) (Kt m c))

def At (c : Dev nD) (t : ℕ) : QT F := AA m t c
def St (c : Dev nD) (t : ℕ) : ST F := SS m t c

theorem at_eq (c : Dev nD) : ∀ t, At m c t = mA (Ain (At m) c ZA t) (PT (k0_pay2 rowIx (k0_pay62 (Mt m c (ix1 10)) colIx) (Mt m c (wordAt t))) (Qt m (own c t)) (Kt m c) (Vt m c))
  | 0 => rfl
  | _ + 1 => rfl
theorem st_eq (c : Dev nD) : ∀ t, St m c t = mS (Sin (St m) c ZR t) (LT (k0_pay2 rowIx (k0_pay62 (Mt m c (ix1 10)) colIx) (Mt m c (wordAt t))) (Qt m (own c t)) (Kt m c))
  | 0 => rfl
  | _ + 1 => rfl

/-- The kernel's output. -/
def outT (c : Dev nD) : S8x256x128.Idx → Elt F .f32 := OUT (At m (prv c) 7) (St m (prv c) 7)

/-- What the region leaves: its output, all else as it was. -/
def outs : Outs (F := F) := fun _ r c => Function.update (V3 m c) main_v46 (outT m c) r

theorem outs_out (c : Dev nD) : outs m 4 main_v46 c = outT m c := by
  show Function.update (V3 m c) main_v46 (outT m c) main_v46 = _
  exact Function.update_self _ _ _
theorem V4_ne (c : Dev nD) (b : DevRef τ sig) (h : b ≠ main_v46) : V4 m (outs m) c b = V3 m c b := by
  have h8 : outs m 4 main_v8 c = V3 m c main_v8 := Function.update_of_ne (by decide) _ _
  have h11 : outs m 4 main_v11 c = V3 m c main_v11 := Function.update_of_ne (by decide) _ _
  show Function.update (Function.update (Function.update (V3 m c) main_v46 (outs m 4 main_v46 c)) main_v8 (outs m 4 main_v8 c)) main_v11 (outs m 4 main_v11 c) b = _
  rw [h8, h11]
  by_cases e : b = main_v11
  · subst e; exact Function.update_self _ _ _
  rw [Function.update_of_ne e]
  by_cases e : b = main_v8
  · subst e; exact Function.update_self _ _ _
  rw [Function.update_of_ne e, Function.update_of_ne h]
theorem V4_out (c : Dev nD) : V4 m (outs m) c main_v46 = outT m c := by
  show Function.update (Function.update (Function.update (V3 m c) main_v46 (outs m 4 main_v46 c)) main_v8 (outs m 4 main_v8 c)) main_v11 (outs m 4 main_v11 c) main_v46 = _
  rw [Function.update_of_ne (by decide), Function.update_of_ne (by decide), Function.update_self, outs_out]

/-! ## The region -/

/-- The buffers the body reads where they are. -/
abbrev hs : Finset (DevRef τ sig) := {Proc.devRef .tc main_v8, Proc.devRef .tc main_v11}
abbrev sr : Finset (DevRef τ sig) := Pipeline.ucRefs τ sig \ Pipeline.arrRefs (τ := τ) spec0

def Yk (c : Dev nD) : sProp 𝕄 := semVal (barCell c) 0

def Φ₀ (c : Dev nD) : sProp 𝕄 :=
  iprop(Pipeline.scopedRest spec0 c ∗ (∃ r, prngReg c r) ∗ StableHlo.held (c.tc : Thread nD τ) hs (V3 m c) ∗ Xk (Qt m) (At m) (St m) c)
def Φ₁ (c : Dev nD) : sProp 𝕄 :=
  iprop(Pipeline.scopedRest spec0 c ∗ (∃ r, prngReg c r) ∗ StableHlo.held (c.tc : Thread nD τ) hs (V4 m (outs m) c) ∗ Pipeline.ownSems0 osem c ∗ Yk c)

def dats (_ : Fin 1) (c : Dev nD) : Dat τ (Elt F) Unit ℕ UU ℕ cfg0 c where
  A w := V3 m c (Proc.devRef .tc (Pipeline.arrRef spec0 w))
  after w _ := match w with
    | ⟨0, _⟩ => Mt m c
    | ⟨1, _⟩ => Qt m c
    | ⟨2, _⟩ => outT m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before0 (c : Dev nD) (d) : (dats m 0 c).before (0 : Fin 3) t0_0 d = Mt m c := by
  unfold Dat.before
  rw [if_pos (fetch0_0 _)]
  exact Memref.readAt_unit_zero (Elt F) main_v45 (off := fun a => 0 * S11.size a) (funext fun a => Nat.zero_mul _) (fun a => by rw [Nat.zero_mul, Nat.zero_add]) (V3 m c main_v45)
theorem before1 (c : Dev nD) (d) : (dats m 0 c).before (1 : Fin 3) t0_0 d = Qt m c := by
  unfold Dat.before
  rw [if_pos (fetch0_1 _)]
  exact Memref.readAt_unit_zero (Elt F) main_v5 (off := fun a => 0 * S8x256x128.size a) (funext fun a => Nat.zero_mul _) (fun a => by rw [Nat.zero_mul, Nat.zero_add]) (V3 m c main_v5)

theorem held_hs (c : Dev nD) (V : Valuation τ sig (Elt F)) : (StableHlo.held (c.tc : Thread nD τ) hs V : sProp 𝕄)
    = iprop(wPt c main_v8 fullShare (V main_v8) ∗ wPt c main_v11 fullShare (V main_v11)) := by
  unfold StableHlo.held hs
  rw [bigSep_insert (by decide), bigSep_singleton]
  rfl

theorem owesAt_out (c : Dev nD) : ((dats m 0 c).owesAt () t0_0.castSucc : sProp 𝕄) ⊢ owesE c (O₀ c) := by
  unfold Dat.owesAt Pipeline.owesWithin owesE
  rw [show (dats m 0 c).owed t0_0.castSucc = O₀ c from rfl]
  iintro ⟨%W, -, HO⟩; iexists W; iexact HO
theorem owesAt_in (c : Dev nD) : (owesE c 0 : sProp 𝕄) ⊢ (dats m 0 c).owesAt () t0_0.succ := by
  unfold Dat.owesAt Pipeline.owesWithin Dat.bound owesE
  rw [show (dats m 0 c).owed t0_0.succ = 0 from rfl, show (dats m 0 c).recorded t0_0.succ = Set.univ from rfl]
  iintro ⟨%W, HO⟩; iexists W; isplitr; · ipureintro; exact fun _ _ => Or.inl trivial
  iexact HO

theorem rest_eq (c : Dev nD) : (Pipeline.scopedRest spec0 c : sProp 𝕄)
    = iprop((∃ f, wPt c cc0_scratch0 fullShare f) ∗ (∃ f, wPt c cc0_scratch1 fullShare f) ∗ (∃ f, wPt c cc0_scratch2 fullShare f)
      ∗ (∃ f, wPt c cc0_scratch3 fullShare f) ∗ (∃ f, wPt c cc0_scratch4 fullShare f) ∗ (∃ f, wPt c cc0_scratch5 fullShare f) ∗ (∃ f, wPt c cc0_scratch6 fullShare f)) :=
  scopedRest0_eq c

/-- The kernel's own semaphores, all back at zero. -/
theorem own_back (c : Dev nD) : iprop(Zers c ∗ semVal (extCell c) 0 ∗ kvZero c) ⊢ (Pipeline.ownSems0 osem c : sProp 𝕄) := by
  rw [ownSems_eq, over_pc c (fun g => (semVal g 0 : sProp 𝕄))]
  unfold Zers
  iintro ⟨Hz, Hx, Hk⟩
  isplitr [Hk]
  · isplitl [Hx]; · iexact Hx
    iexact Hz
  iexact Hk

theorem meta_owns (c : Dev nD) (a0 : Memref sig .tc .smem S11 .i32) (M : S11.Idx → Elt F .i32) : (owns c a0 fullShare M : sProp 𝕄) ⊢ metaAt a0 c M := .rfl
theorem owns_meta (c : Dev nD) (a0 : Memref sig .tc .smem S11 .i32) (M : S11.Idx → Elt F .i32) : (metaAt a0 c M : sProp 𝕄) ⊢ owns c a0 fullShare M := .rfl

theorem any_out (c : Dev nD) (a4 : Memref sig .tc .vmem S8x256x128 .f32) (B : (S8x256x128.Idx → Elt F .f32) → (S8x256x128.Idx → Elt F .f32)) :
    (iprop(∃ d, owns c a4 fullShare (B d)) : sProp 𝕄) ⊢ iprop(∃ d, owns c a4 fullShare d) := by
  iintro ⟨%d, H⟩; iexists (B d); iexact H

instance Know_persistent (Q : Dev nD → QT F) (A : Dev nD → ℕ → QT F) (S : Dev nD → ℕ → ST F) (K : GSem nD τ sig → ℕ) (c : Dev nD) : BI.Persistent (Know Q A S K c) := by
  unfold Know; infer_instance

variable (hN : ∀ c, Names c (Mt m c))

include hN in
/-- The kernel's body on a device. -/
theorem body (c : Dev nD) : BodyObligation (dats m 0 c) defs₀ 𝒱₀ () Set.univ := fun t => by
  obtain rfl := fin_N0 t
  rw [bigSep_W0, bigSep_W0]
  rw [show (dats m 0 c).Φ t0_0.castSucc = Φ₀ m c from rfl, show (dats m 0 c).Φ t0_0.succ = Φ₁ m c from rfl]
  dsimp only
  simp only [before0, before1]
  unfold Φ₀ Φ₁ Xk Creds Hands
  rw [held_hs, held_hs, rest_eq, show V4 m (outs m) c main_v8 = V3 m c main_v8 from V4_ne m c _ (by decide), show V4 m (outs m) c main_v11 = V3 m c main_v11 from V4_ne m c _ (by decide)]
  iintro ⟨⟨⟨H0, H1, H2, H3, H4, H5, H6⟩, Hr, ⟨HK, HV⟩, ⟨%κ, #HI, Ht, Hp, ⟨⟨Hbp, Hbn⟩, Hxp, Hxn⟩, Hab, Hax⟩, ⟨Hcb, Hcx, Hcr⟩, Hkv⟩, HO, ⟨%d0, Hm⟩, ⟨%d1, Hx⟩, Ho⟩
  ihave Hkv := (kv_in c) $$ [H5 H6 Hkv]
  · isplitl [H5]; · iexact H5
    isplitl [H6]; · iexact H6
    iexact Hkv
  ihave HO := (owesAt_out m c) $$ HO
  ihave Ho := (any_out c (st0_2 t0_0) ((dats m 0 c).before (2 : Fin 3) t0_0)) $$ Ho
  iapply (body_run (Qt m) (At m) (St m) κ c (st0_0 t0_0) (hstage0_0 0) (st0_1 t0_0) (hstage0_1 0) (st0_2 t0_0) (hstage0_2 0) (Mt m c) (Kt m c) (Vt m c) (hN c) (at_eq m c) (st_eq m c) _)
  isplitr; · iexact HI
  isplitl [Hm]; · iapply (meta_owns c _ _); iexact Hm
  isplitl [Hx]; · iexact Hx
  isplitl [Ho]; · iexact Ho
  isplitl [HK]; · iexact HK
  isplitl [HV]; · iexact HV
  isplitl [H0 H1 H2 H3 H4 Hkv]
  · isplitl [H0]; · iexact H0
    isplitl [H1]; · iexact H1
    isplitl [H2]; · iexact H2
    isplitl [H3]; · iexact H3
    isplitl [H4]; · iexact H4
    iexact Hkv
  isplitl [Ht]; · iexact Ht
  isplitl [Hp]; · iexact Hp
  isplitl [Hcr]; · iexact Hcr
  isplitl [Hbp Hbn Hcb Hab]
  · isplitl [Hbp]; · iexact Hbp
    isplitl [Hbn]; · iexact Hbn
    isplitl [Hcb]; · iexact Hcb
    iexact Hab
  isplitl [Hxp Hxn Hcx Hax]
  · isplitl [Hxp]; · iexact Hxp
    isplitl [Hxn]; · iexact Hxn
    isplitl [Hcx]; · iexact Hcx
    iexact Hax
  isplitl [HO]; · iexact HO
  iintro Hm Hx Ho HK HV H0 H1 H2 H3 H4 Hkv Hz Hb Hxt HO
  ihave Hkv := (kv_out c) $$ Hkv
  icases Hkv with ⟨H5, H6, Hkv⟩
  isplitl [H0 H1 H2 H3 H4 H5 H6 Hr HK HV Hz Hb Hxt Hkv]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [Hr]; · iexact Hr
    isplitl [HK HV]
    · isplitl [HK]; · iexact HK
      iexact HV
    isplitr [Hb]
    · iapply (own_back c)
      isplitl [Hz]; · iexact Hz
      isplitl [Hxt]; · iexact Hxt
      iexact Hkv
    unfold Yk
    iexact Hb
  isplitl [HO]; · iapply (owesAt_in m c); iexact HO
  isplitl [Hm]; · iapply (owns_meta c _ _); iexact Hm
  isplitl [Hx]; · iexact Hx
  iexact Ho

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_lev : ∀ (w : Fin 3) (s : Fin (win0 w).nbuf), klev (kind (.dma ((win0 w).sem s))) ≤ 0 := by decide +kernel

theorem above_O₀ (c : Dev nD) : Above 0 (O₀ c) := by
  unfold O₀ Ot
  exact above_add (above_add (above_O c (nxt c) 0 0 0 (by decide) (by decide) (by decide) (by decide)) (above_tally _ _ _ (by decide))) (above_tally _ _ _ (by decide))

theorem arr_end0 (c : Dev nD) : (dats m 0 c).arrAt (0 : Fin 3) 1 = V3 m c main_v45 := rfl
theorem arr_end1 (c : Dev nD) : (dats m 0 c).arrAt (1 : Fin 3) 1 = V3 m c main_v5 := rfl
theorem arr_end2 (c : Dev nD) : (dats m 0 c).arrAt (2 : Fin 3) 1 = outT m c := by
  unfold Dat.arrAt
  dsimp only
  rw [dif_pos (show 0 < cfg0.N from t0_0.isLt), if_pos (show (win0 2).flush ⟨0, t0_0.isLt⟩ = true from flush0_2 t0_0)]
  exact Memref.write_access_unit_zero_univ (Elt F) main_v46 (off := fun a => 0 * S8x256x128.size a) (funext fun a => Nat.zero_mul _) (fun a => by rw [Nat.zero_mul, Nat.zero_add]) (V3 m c main_v46) (outT m c)

theorem arr_end (c : Dev nD) (w : Fin 3) : (dats m 0 c).arrAt w 1 = V4 m (outs m) c (Proc.devRef .tc (Pipeline.arrRef spec0 w)) := by
  rcases w with ⟨_ | _ | _ | w, hw⟩
  · exact (arr_end0 m c).trans (V4_ne m c main_v45 (by decide)).symm
  · exact (arr_end1 m c).trans (V4_ne m c main_v5 (by decide)).symm
  · exact (arr_end2 m c).trans (V4_out m c).symm
  · omega

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem own_facts
    hs sr (by decide +kernel) kitP rfl (fun c => (body m hN c).loose)
    (fun _ => 0) O₀ (fun c => (zero_add (O₀ c)).symm) (fun _ => rfl) (fun _ => rfl) (fun _ w => ite_self _)
    (V3 m) (V4 m (outs m)) (fun c b hb => V4_ne m c b (by rintro rfl; revert hb; decide +kernel))
    (Tk (Qt m) (At m) (St m)) Yk (Xk (Qt m) (At m) (St m)) Yk (hopen (Qt m) (At m) (St m)) (fun c => .rfl) (fun c => .rfl)
    (fun c => by iintro H; imodintro; iexact H)
    (fun _ => 0)
    ⟨fun c w s => by rw [L_tc]; exact Finset.mem_singleton_self _, fun c w s => stage_lev w s, fun c t g i h => by
      match t, h with
      | ⟨0, _⟩, h =>
        obtain ⟨h1, h2⟩ := above_O₀ c g i h
        exact ⟨by unfold L; rw [if_pos h1]; exact Finset.mem_singleton_self _, h2⟩
      | ⟨_ + 1, _⟩, h => exact absurd h (Nat.lt_irrefl 0)⟩
    (fun _ => iprop(emp))
    (fun _ _ => rfl) (arr_end m)

end

end Cert.KernelIdeal.Ring

end
-- ==== Proof.Meta.lean ====
/-
The table each device works out before the kernel starts: whose queries it holds at each step, and where its neighbours are.
-/
module

public import proofs.«01_k».proof.Proof.Region
public import proofs.«01_k».proof.Proof.Gen.KernelIdeal.Regions
public import Idealize.ShloMosaic.Lib.StableHlo.RunRead

@[expose] public section

noncomputable section

namespace Cert.KernelIdeal.Ring

open Cert.KernelIdeal Cert.KernelIdeal.Gen
open Idealize.ShloMosaic Idealize.ShloMosaic.TcCoe Idealize.ShloMosaic.ValueIdx

variable {F : FTy → Type} [FloatOps F] [Named F]
variable (m : (ℓ : Loc nD τ sig) → Buf (Elt F) ℓ)

/-- The number of device `c` as the host computes it. -/
def my (c : Dev nD) : IVec S_ 32 :=
  Host.remui (Host.divui (constantI S_ 32 (Dev.word c)) (constantI S_ 32 1#32)) (constantI S_ 32 8#32)

/-- A host index, moved up by eight where it is negative. -/
def wrap (x : IVec S_ 32) : IVec S_ 32 :=
  select (cmpi .slt x (constantI S_ 32 0#32)) (addi x (constantI S_ 32 8#32)) x

/-- Entry `my c` of a constant table of eight words. -/
def pick (t : Fin 8 → BitVec 32) (c : Dev nD) : IVec S_ 32 :=
  fun i => shapeCast S_ (Host.dynamicSlice S1 (fun i => t (S8.rowMajor i) : IVec S8 32)
    (fun _ => (wrap (my c) (Shape.Idx.first h_S_)).toInt) sliceFits_S8_S1) shapeCasts_S1_S_ i

/-- The divisor of the host's remainder, one where it would be zero. -/
def den : IVec S_ 32 :=
  select (cmpi .eq (constantI S_ 32 8#32) (constantI S_ 32 0#32)) (constantI S_ 32 1#32) (constantI S_ 32 8#32)

/-- The remainder of `x` by eight with the divisor's sign. -/
def modulo (x : IVec S8 32) : IVec S8 32 :=
  let r := Host.remsi x (broadcastInDim S8 ![] bcast_S_S8 den)
  select (andi (cmpi .ne (cmpi .slt r (broadcastInDim S8 ![] bcast_S_S8 (constantI S_ 32 0#32)))
      (broadcastInDim S8 ![] bcast_S_S8 (cmpi .slt den (constantI S_ 32 0#32))))
      (cmpi .ne r (broadcastInDim S8 ![] bcast_S_S8 (constantI S_ 32 0#32))))
    (addi r (broadcastInDim S8 ![] bcast_S_S8 den)) r

/-- The steps' places on the ring, seen from device `c`. -/
def places (c : Dev nD) : IVec S8 32 :=
  modulo (subi (broadcastInDim S8 ![] bcast_S_S8 (pick lit1 c)) (iotaInDim S8 32 0))

/-- The owners of the queries that device `c` works on, by step. -/
def owners (c : Dev nD) : IVec S8 32 :=
  Host.gather gather_S8_S8x1_S8_n_0_n_n_0_1_1 (fun i => lit0 (S8.rowMajor i))
    (broadcastInDim S8x1 ![0] bcast_S8_S8x1_0
      (select (cmpi .slt (places c) (broadcastInDim S8 ![] bcast_S_S8 (constantI S_ 32 0#32)))
        (addi (places c) (broadcastInDim S8 ![] bcast_S_S8 (constantI S_ 32 8#32))) (places c)))

theorem pick_of (t : Fin 8 → BitVec 32) (c : Dev nD) (x : Fin 1 → IVec S_ 32) (h : ∀ k, x k = wrap (my c)) :
    (fun i => shapeCast S_ (Host.dynamicSlice S1 (fun i => t (S8.rowMajor i) : IVec S8 32)
      (fun k => (x k (Shape.Idx.first h_S_)).toInt) sliceFits_S8_S1) shapeCasts_S1_S_ i) = pick t c := by
  obtain rfl : x = fun _ => wrap (my c) := funext h
  rfl

theorem read_v18 (c : Dev nD) : StableHlo.upto (hostOps0 c) (V0 m c) 26 (Proc.devRef .tc main_v18) = wrap (my c) := by
  after_reads_simp
  rfl

theorem read_v20 (c : Dev nD) : StableHlo.after (hostOps0 c) (V0 m c) (Proc.devRef .tc main_v20) = pick lit1 c := by
  after_reads_simp
  refine pick_of lit1 c _ fun k => ?_
  obtain rfl : k = 0 := Subsingleton.elim _ _
  exact read_v18 m c

theorem read_v34 (c : Dev nD) : StableHlo.upto hostOps0_2 (V2 m c) 14 (Proc.devRef .tc main_v34) = wrap (my c) := by
  unfold V2 V1
  after_reads_simp
  rfl

theorem read_v40 (c : Dev nD) : StableHlo.upto hostOps0_2 (V2 m c) 22 (Proc.devRef .tc main_v40) = wrap (my c) := by
  unfold V2 V1
  after_reads_simp
  rfl

theorem read_v37 (c : Dev nD) : StableHlo.upto hostOps0_2 (V2 m c) 26 (Proc.devRef .tc main_v37)
    = (broadcastInDim S1 ![] bcast_S_S1 (pick lit2 c) : IVec S1 32) := by
  unfold V2 V1
  after_reads_simp
  refine congrArg (broadcastInDim S1 ![] bcast_S_S1) (pick_of lit2 c _ fun k => ?_)
  obtain rfl : k = 0 := Subsingleton.elim _ _
  exact read_v34 m c

theorem read_v43 (c : Dev nD) : StableHlo.upto hostOps0_2 (V2 m c) 26 (Proc.devRef .tc main_v43)
    = (broadcastInDim S1 ![] bcast_S_S1 (pick lit3 c) : IVec S1 32) := by
  unfold V2 V1
  after_reads_simp
  refine congrArg (broadcastInDim S1 ![] bcast_S_S1) (pick_of lit3 c _ fun k => ?_)
  obtain rfl : k = 0 := Subsingleton.elim _ _
  exact read_v40 m c

theorem read_v23 (c : Dev nD) : V1 m c main_v23 = (subi (broadcastInDim S8 ![] bcast_S_S8 (pick lit1 c)) (iotaInDim S8 32 0) : IVec S8 32) := by
  unfold V1
  after_reads_simp
  refine congrArg (fun x => subi (broadcastInDim S8 ![] bcast_S_S8 x) (iotaInDim S8 32 0)) (pick_of lit1 c _ fun k => ?_)
  obtain rfl : k = 0 := Subsingleton.elim _ _
  exact read_v18 m c

theorem read_c7 (c : Dev nD) : V1 m c main_c_7 = constantI S_ 32 8#32 := by
  unfold V1
  after_reads_simp

theorem rem_of (V : Valuation τ sig (Elt F)) (x : IVec S8 32) (hx : V main_v23 = x)
    (h8 : V main_c_7 = constantI S_ 32 8#32) : StableHlo.after hostOps0_1 V main_v24 = modulo x := by
  after_reads_simp
  rw [hx, h8]
  rfl

theorem read_v24 (c : Dev nD) : V2 m c main_v24 = places c :=
  rem_of (V1 m c) _ (read_v23 m c) (read_c7 m c)

theorem read_c (c : Dev nD) : V2 m c main_c = fun i => lit0 (S8.rowMajor i) := by
  unfold V2 V1
  after_reads_simp
  rfl

theorem owners_of (V : Valuation τ sig (Elt F)) (x : IVec S8 32) (hx : V main_v24 = x)
    (hc : V main_c = fun i => lit0 (S8.rowMajor i)) :
    StableHlo.upto hostOps0_2 V 26 (Proc.devRef .tc main_v31)
      = Host.gather gather_S8_S8x1_S8_n_0_n_n_0_1_1 (fun i => lit0 (S8.rowMajor i))
        (broadcastInDim S8x1 ![0] bcast_S8_S8x1_0
          (select (cmpi .slt x (broadcastInDim S8 ![] bcast_S_S8 (constantI S_ 32 0#32)))
            (addi x (broadcastInDim S8 ![] bcast_S_S8 (constantI S_ 32 8#32))) x)) := by
  after_reads_simp
  rw [hx, hc]

theorem read_v31 (c : Dev nD) : StableHlo.upto hostOps0_2 (V2 m c) 26 (Proc.devRef .tc main_v31) = owners c :=
  owners_of (V2 m c) _ (read_v24 m c) (read_c m c)

theorem read_v44 (c : Dev nD) : StableHlo.upto hostOps0_2 (V2 m c) 26 (Proc.devRef .tc main_v44)
    = (broadcastInDim S1 ![] bcast_S_S1 (my c) : IVec S1 32) := by
  unfold V2 V1
  after_reads_simp
  rfl

/-- The table of a device, entry by entry. -/
def table (c : Dev nD) : IVec S11 32 :=
  concatenate S11 0 [⟨S8, owners c⟩, ⟨S1, broadcastInDim S1 ![] bcast_S_S1 (pick lit2 c)⟩,
    ⟨S1, broadcastInDim S1 ![] bcast_S_S1 (pick lit3 c)⟩, ⟨S1, broadcastInDim S1 ![] bcast_S_S1 (my c)⟩]
    concatenates_S8_S1_S1_S1_S11_d0

theorem tbl (c : Dev nD) : Mt m c = table c := by
  unfold Mt V3
  after_reads_simp
  dsimp only [Matrix.cons_val_zero, Matrix.cons_val_one, Matrix.cons_val]
  unfold table
  rw [← read_v31 m c, ← read_v37 m c, ← read_v43 m c, ← read_v44 m c]

theorem table_own : ∀ (c : Dev nD) (s : Fin 8), (table c (ix1 ⟨s.1, by omega⟩)).toNat = (own c s).1 := by
  decide +kernel

theorem table_nxt : ∀ c : Dev nD, (table c (ix1 8)).toNat = (nxt c).1 := by
  decide +kernel

theorem table_prv : ∀ c : Dev nD, (table c (ix1 9)).toNat = (prv c).1 := by
  decide +kernel

theorem table_my : ∀ c : Dev nD, (table c (ix1 10)).toNat = c.1 := by
  decide +kernel

/-- A device's number, worked out from a word of the table, is the word. -/
theorem scaled (w : BitVec 32) : (Scalar.addi 0#32 (Scalar.muli w 1#32)).toNat = w.toNat := by
  simp [Scalar.addi, Scalar.muli, IntOp.addi, IntOp.muli]

theorem names_of (M : IVec S11 32) (c : Dev nD) (h8 : (M (ix1 8)).toNat = (nxt c).1)
    (h9 : (M (ix1 9)).toNat = (prv c).1) : Names (F := F) c M := by
  have e8 : (Scalar.addi 0#32 (Scalar.muli (M (ix1 8)) 1#32)).toNat = (nxt c).1 := (scaled _).trans h8
  have e9 : (Scalar.addi 0#32 (Scalar.muli (M (ix1 9)) 1#32)).toNat = (prv c).1 := (scaled _).trans h9
  have l8 := e8.trans_lt (nxt c).2
  have l9 := e9.trans_lt (prv c).2
  exact ⟨⟨l8, fun _ _ => l8, l8, l8, l8⟩, ⟨l9, l9⟩, fun _ => Fin.ext e9, fun _ => Fin.ext e8, fun _ => Fin.ext e8,
    fun _ => Fin.ext e8, fun _ => Fin.ext e8, fun _ => Fin.ext e9, fun _ => Fin.ext e8⟩

theorem names (c : Dev nD) : Names c (Mt m c) := by
  rw [tbl m c]
  exact names_of (table c) c (table_nxt c) (table_prv c)

end Cert.KernelIdeal.Ring

end
-- ==== Proof.Run.lean ====
/-
  The run of the whole program: the launch deals every device its share of the protocol's ghost state, the host's
stretches and the kernel follow one another, and every device ends with its unscoped buffers at the last valuation and its
counters at zero. -/
module
public import proofs.«01_k».proof.Proof.Meta

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

/-- A resource kept by one device. -/
def onDev (c₀ : Dev nD) (X : sProp 𝕄) (c : Dev nD) : sProp 𝕄 := if c = c₀ then X else iprop(emp)

theorem over_onDev (c₀ : Dev nD) (X : sProp 𝕄) : bigSep Finset.univ (onDev c₀ X) = X := by
  rw [bigSep_univ_at _ c₀, bigSep_congr (s := Finset.univ.erase c₀) (Φ := onDev c₀ X) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

theorem pairs {Φ Ψ : Dev nD → sProp 𝕄} :
    iprop(bigSep Finset.univ Φ ∗ bigSep Finset.univ Ψ) ⊢ bigSep Finset.univ (fun c => iprop(Φ c ∗ Ψ c)) :=
  Entails.of_eq (bigSep_sep' _ _ _).symm

theorem unpairs {Φ Ψ : Dev nD → sProp 𝕄} :
    bigSep Finset.univ (fun c => iprop(Φ c ∗ Ψ c)) ⊢ iprop(bigSep Finset.univ Φ ∗ bigSep Finset.univ Ψ) :=
  Entails.of_eq (bigSep_sep' _ _ _)

/-- The launch's element: the staging's, the protocol's, and no counter. -/
def u₀ : UU :=
  (initOf (Pipeline.cells (Pipeline.pin (pcfgs (F := F)) adm) cellOf_inj) (Pipeline.launchToks (Pipeline.pin (pcfgs (F := F)) adm) cellOf_inj),
    (launchOf barCells pCells allToks, 1))

/-- The protocol's part of it, kept by device 0 until the launch deals it out. -/
def G : Dev nD → sProp 𝕄 := onDev 0 (BI.own (ER (launchOf barCells pCells allToks)))

theorem start_parts : (ownU (u₀ (F := F)) : sProp 𝕄)
    ⊢ iprop(|={Set.univ}=> iprop(BI.own (EP (F := F) (initOf (Pipeline.cells (Pipeline.pin (pcfgs (F := F)) adm) cellOf_inj)
        (Pipeline.launchToks (Pipeline.pin (pcfgs (F := F)) adm) cellOf_inj))) ∗ bigSep Finset.univ (G (F := F)))) := by
  unfold u₀ G ER
  rw [over_onDev]
  iintro Hu
  ihave H := (ownU_pair _ _) $$ Hu
  icases H with ⟨HP, HX⟩
  ihave HX := (own_pair_emb _ _ _) $$ HX
  icases HX with ⟨HX, -⟩
  imodintro
  isplitl [HP]; · iexact HP
  iexact HX

variable (m : (ℓ : Loc nD τ sig) → Buf (Elt F) ℓ)

/-- What rides beside the buffers: before the kernel the protocol's share, after it the barrier's counter at zero. -/
def E (i : Fin 2) (c : Dev nD) : sProp 𝕄 :=
  if i = 0 then iprop((∃ r, prngReg c r) ∗ Tk (Qt m) (At m) (St m) c ∗ ∃ W, owes (c : Thread nD τ) (O₀ c) W)
  else iprop((∃ r, prngReg c r) ∗ semVal (barCell c) 0 ∗ ∃ W, owes (c : Thread nD τ) (0 : CellTallies nD τ sig Unit) W)

theorem E_zero (c : Dev nD) : E m 0 c
    = iprop((∃ r, prngReg c r) ∗ Tk (Qt m) (At m) (St m) c ∗ ∃ W, owes (c : Thread nD τ) (O₀ c) W) := if_pos rfl
theorem E_one (c : Dev nD) : E m 1 c
    = iprop((∃ r, prngReg c r) ∗ semVal (barCell c) 0 ∗ ∃ W, owes (c : Thread nD τ) (0 : CellTallies nD τ sig Unit) W) := if_neg (by decide)

theorem arr_sub : Pipeline.arrRefs (τ := τ) spec0 ⊆ Pipeline.ucRefs τ sig := by decide +kernel

theorem enter (c : Dev nD) : iprop(StableHlo.held (c.tc : Thread nD τ) (Pipeline.ucRefs τ sig) (V3 m c) ∗ E m 0 c)
    ⊢ (reg m (names m)).pre c := by
  show _ ⊢ iprop(StableHlo.held (c.tc : Thread nD τ) (Pipeline.arrRefs (τ := τ) spec0) (V3 m c) ∗ (∃ r, prngReg c r)
    ∗ (StableHlo.held (c.tc : Thread nD τ) sr (V3 m c) ∗ emp) ∗ Tk (Qt m) (At m) (St m) c ∗ ∃ Wd, owes (c : Thread nD τ) (0 + O₀ c) Wd)
  rw [StableHlo.held_sub_split _ arr_sub, zero_add, E_zero]
  iintro ⟨⟨Ha, Hs⟩, Hp, Ht, HO⟩
  isplitl [Ha]; · iexact Ha
  isplitl [Hp]; · iexact Hp
  isplitl [Hs]
  · isplitl [Hs]; · iexact Hs
    iempintro
  isplitl [Ht]; · iexact Ht
  iexact HO

theorem leave (c : Dev nD) : (reg m (names m)).post c
    ⊢ iprop(StableHlo.held (c.tc : Thread nD τ) (Pipeline.ucRefs τ sig) (V4 m (outs m) c) ∗ E m 1 c) := by
  show iprop(StableHlo.held (c.tc : Thread nD τ) (Pipeline.arrRefs (τ := τ) spec0) (V4 m (outs m) c) ∗ (∃ r, prngReg c r)
    ∗ (StableHlo.held (c.tc : Thread nD τ) sr (V4 m (outs m) c) ∗ emp) ∗ Yk c ∗ ∃ Wd, owes (c : Thread nD τ) (0 : CellTallies nD τ sig Unit) Wd) ⊢ _
  rw [StableHlo.held_sub_split _ arr_sub, E_one]
  unfold Yk
  iintro ⟨Ha, Hp, ⟨Hs, -⟩, Hb, HO⟩
  isplitl [Ha Hs]
  · isplitl [Ha]; · iexact Ha
    iexact Hs
  isplitl [Hp]; · iexact Hp
  isplitl [Hb]; · iexact Hb
  iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

abbrev T₀ (c : Dev nD) : sProp 𝕄 := iprop(StableHlo.held (c.tc : Thread nD τ) (Pipeline.ucRefs τ sig) (V0 m c) ∗ E m 0 c)
abbrev Tₙ (c : Dev nD) : sProp 𝕄 := iprop(StableHlo.held (c.tc : Thread nD τ) (Pipeline.ucRefs τ sig) (V5 m (outs m) c) ∗ semVal (barCell c) 0)

/-- What the launch gives a device beside the protocol's own. -/
def bundle (c : Dev nD) : sProp 𝕄 :=
  iprop(StableHlo.held (c.tc : Thread nD τ) (Pipeline.ucRefs τ sig) (V0 m c) ∗ Creds c ∗ owes (c : Thread nD τ) (O₀ c) ∅ ∗ ∃ r, prngReg c r)

theorem T₀_intro (κ : GSem nD τ sig → ℕ) (c : Dev nD) : iprop(Recs (Qt m) (At m) (St m) κ ∗ (Lin c ∗ bundle m c)) ⊢ T₀ m c := by
  unfold bundle T₀
  rw [E_zero]
  unfold Tk
  iintro ⟨#HR, Hl, Hh, Hc, HO, Hp⟩
  isplitl [Hh]; · iexact Hh
  isplitl [Hp]; · iexact Hp
  isplitl [Hl Hc]
  · isplitl [Hl]
    · iexists κ
      isplitr; · iexact HR
      iexact Hl
    iexact Hc
  iexists ∅; iexact HO

theorem core_parts (ρ : Dev nD → PrngReg) (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show (unscopedBufs c (fun b => m ((c : Thread nD τ).loc b)) : sProp 𝕄) = StableHlo.held (c.tc : Thread nD τ) (Pipeline.ucRefs τ sig) (V0 m c)
      from Pipeline.unscopedBufs_held (Ix := Unit) (Name := ℕ) (U := UU) (Lvl := ℕ) c (V0 m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem lin_all : iprop((bigSep barCells fun g => (atPos ER g 0 ∅ 0 : sProp 𝕄)) ∗ (bigSep pCells fun g => openTok ER g)
      ∗ bigSep allToks fun x => dutyTok ER x.1 x.2.1 x.2.2) ⊢ bigSep Finset.univ fun c : Dev nD => (Lin c : sProp 𝕄) := by
  rw [bigSep_map, bigSep_map, bigSep_univ_prod, toks_eq]
  unfold Lin
  iintro ⟨Ha, Ho, Ht⟩
  ihave Ht := (toks_around (F := F)) $$ Ht
  iapply pairs
  isplitl [Ha]; · iexact Ha
  iapply pairs
  isplitl [Ho]; · iexact Ho
  iexact Ht

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_parts m ρ c) $$ H
  ihave H2 := unpairs $$ H'; icases H2 with ⟨HB, H3⟩
  ihave H4 := unpairs $$ H3; icases H4 with ⟨Hv, HG⟩
  ihave Hu := (show bigSep Finset.univ (G (F := F)) ⊢ BI.own (ER (launchOf barCells pCells allToks)) from
    Entails.of_eq (over_onDev (F := F) 0 (BI.own (ER (launchOf barCells pCells allToks))))) $$ HG
  imod (Rounds.fund_launch ER (Rd (Qt m) (At m) (St m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := Recs (Qt m) (At m) (St m) κ) (Φ := fun c => iprop(Lin c ∗ bundle m c)) fun c _ => T₀_intro m κ c)
  isplitr
  · unfold Recs
    isplitr; · iexact Hinv
    iexact Hr
  iapply pairs
  isplitr [HB]
  · iapply (lin_all (F := F))
    isplitl [Hat]; · iexact Hat
    isplitl [Hopen]; · iexact Hopen
    iexact Htok
  · iexact HB

theorem unscoped_eq : ∀ sm : SemLoc sig, sm.isScoped .tc = false → sm = .reg barS := by decide +kernel

theorem finish (c : Dev nD) (s' : Phys nD τ sig (Elt F)) : iprop(Tₙ m c ∗ SI s')
    ⊢ (iprop(|={Set.univ}=> iprop(⌜(∀ b ∈ Pipeline.ucRefs τ sig, s'.mem.mem ((c : Thread nD τ).1, b) = V5 m (outs m) c b) ∧ s'.mem.sem (barCell c) = 0⌝ ∗ SI s')) : sProp 𝕄) := by
  unfold Tₙ StableHlo.held
  iintro ⟨⟨Hh, Hb⟩, HSI⟩
  icombine HSI Hb gives %hb
  ihave H := (pointsTo_read_all (Pipeline.ucRefs τ sig) (fun b => ((c : Thread nD τ).1, b)) (V5 m (outs m) c) s') $$ [Hh HSI]
  · isplitl [Hh]; · iexact Hh
    iexact HSI
  icases H with ⟨%h, HSI⟩
  imodintro
  isplitr
  · ipureintro
    exact ⟨h, by simpa using hb⟩
  iexact HSI

set_option backward.isDefEq.respectTransparency.types false in
/-- The run: from any memory with the counters at zero every execution ends, every device's unscoped buffers hold the last
    valuation, and every counter is zero. -/
theorem run_main (ρ : Dev nD → PrngReg) : θ_run defs (onTc (τ := τ) (main (F := F))) ⟨m, fun _ => 0, ρ⟩
    (fun r => (∀ c : Dev nD, ∀ b ∈ Pipeline.ucRefs τ sig, r.2.mem ((c : Thread nD τ).1, b) = V5 m (outs m) c b) ∧ r.2.sem = fun _ => 0) :=
  Pipeline.θ_run_regions_kit_dev_sems (pcfgs (F := F)) adm (dats m) () cellOf_inj EP defs₀ 𝒱₀ L lv m ρ main
    (segs m (outs m) 𝒱₀ L lv (E m) () (dats m) (reg m (names m)))
    (fun c Q => by
      rewrite [main_chain c, Pipeline.Seg.run_eq_chain, show (segs m (outs m) 𝒱₀ L lv (E m) () (dats m) (reg m (names m)) c).map Pipeline.Seg.prog
        = [StableHlo.seq (hostOps0 c), StableHlo.seq hostOps0_1, StableHlo.seq hostOps0_2, Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := start_parts)
    (T₀ := T₀ m) (Tₙ := Tₙ m)
    (hch := fun c => ⟨.rfl, .rfl, .rfl, enter m c, leave m c, by
      show iprop(StableHlo.held (c.tc : Thread nD τ) (Pipeline.ucRefs τ sig) (V5 m (outs m) c) ∗ E m 1 c)
        ⊢ iprop(Tₙ m c ∗ ∃ W, owes (c : Thread nD τ) (0 : CellTallies nD τ sig Unit) W)
      rw [E_one]
      iintro ⟨Hh, -, Hb, HO⟩
      isplitr [HO]
      · isplitl [Hh] <;> iassumption
      · iexact HO⟩)
    (hinit := init m ρ)
    (QY := fun c s => (∀ b ∈ Pipeline.ucRefs τ sig, s.mem ((c : Thread nD τ).1, b) = V5 m (outs m) c b) ∧ s.sem (barCell c) = 0)
    (hfin := finish m)
    (hQ := fun s h hs => ⟨fun c => (h c).1, sem_eq_zero hs fun c sm hsm => by
      obtain rfl := unscoped_eq sm hsm
      exact (h c).2⟩)

end Cert.KernelIdeal.Ring

end
-- ==== Proof.Ends.lean ====
/-
  What the run leaves in the program's arguments and in its result.
-/
module
public import proofs.«01_k».proof.Proof.Run
public import Idealize.ShloMosaic.Lib.StableHlo.RunHlo

@[expose] public section

noncomputable section

namespace Cert.KernelIdeal.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

variable (m : (ℓ : Loc nD τ sig) → Buf (Elt F) ℓ)

/-- The run, read at the arguments and the result. -/
theorem run_ends (ρ : Dev nD → PrngReg) : θ_run defs (onTc (τ := τ) (main (F := F))) ⟨m, fun _ => 0, ρ⟩
    (fun r => (∀ c : Dev nD, r.2.mem ((c.tc : Thread nD τ).loc main_v50) = V5 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_mono (run_main m ρ) fun r h => ⟨fun c =>
    have at_ := fun (x : Ref sig .tc) (hx : Proc.devRef .tc x ∈ Pipeline.ucRefs τ sig) => h.1 c (Proc.devRef .tc x) hx
    ⟨at_ main_v50 (by decide +kernel),
      (at_ main_arg0 (by decide +kernel)).trans (V5_main_arg0 m (outs m) c), (at_ main_arg1 (by decide +kernel)).trans (V5_main_arg1 m (outs m) c),
      (at_ main_arg2 (by decide +kernel)).trans (V5_main_arg2 m (outs m) c), (at_ main_arg3 (by decide +kernel)).trans (V5_main_arg3 m (outs m) c),
      (at_ main_arg4 (by decide +kernel)).trans (V5_main_arg4 m (outs m) c)⟩, h.2⟩

end Cert.KernelIdeal.Ring

end
-- ==== Proof.Frames.lean ====
/-
  The kernel's frames, as written and over the extended reals, and what its named constants stand for.
-/
module

public import proofs.«01_k».proof.Defs
public import proofs.«01_k».proof.Proof.Ends
public import proofs.«01_k».proof.Proof.Bits.Ends
public import proofs.«01_k».proof.Proof.Gen.Pre_finite_KernelIdeal

@[expose] public section

noncomputable section

namespace Cert.Proof

open Idealize.ShloMosaic Idealize.SL.Sem

attribute [local instance] Cert.Kernel.Gen.facts Cert.KernelIdeal.Gen.facts Cert.Pre_finite_KernelIdeal.Gen.facts

/-- The kernel as written runs to its end, keeps its arguments and leaves every semaphore at zero. -/
theorem kernel_runs : Cert.quiescent_Kernel := fun m g _ =>
  θ_run_mono (Cert.Kernel.Ring.run_ends m g) fun _ h => ⟨fun c => (h.1 c).2, h.2⟩

/-- So does the kernel over the extended reals. -/
theorem kernel_ideal_runs : Cert.quiescent_KernelIdeal := fun m g _ =>
  θ_run_mono (Cert.KernelIdeal.Ring.run_ends m g) fun _ h => ⟨fun c => (h.1 c).2, h.2⟩

/-- The same under the precondition. -/
theorem kernel_ideal_runs_pre : Cert.quiescent_KernelIdeal_pre_finite_KernelIdeal := fun m g _ => kernel_ideal_runs m g trivial

/-- The two named constants: the mask's minus infinity, and the scale with the change of base. -/
theorem names_kept : Cert.preserves_Kernel_KernelIdeal :=
  ⟨IdealRules.named_const.statement _ _ _ _ _ rfl, IdealRules.named_const.statement _ _ _ _ _ rfl⟩

end Cert.Proof

end
-- ==== Proof.Refs.lean ====
/-
  The reference runs and leaves its arguments as they were.
-/
module

public import proofs.«01_k».proof.Defs
public import proofs.«01_k».proof.Proof.Gen.ReferenceIdeal
public import proofs.«01_k».proof.Proof.Gen.ReferenceIdeal.Run
public import proofs.«01_k».proof.Proof.Gen.Pre_finite_ReferenceIdeal
public import Idealize.ShloMosaic.Lib.Quiescent
public import Idealize.ShloMosaic.Lib.StableHlo.RunHlo

@[expose] public section

noncomputable section

namespace Cert.Proof

open Idealize.ShloMosaic Idealize.SL.Sem

attribute [local instance] Cert.ReferenceIdeal.Gen.facts Cert.Pre_finite_ReferenceIdeal.Gen.facts

/-- The reference runs without a fault, keeps its arguments, and has no semaphore to leave raised. -/
theorem reference_ideal_runs : Cert.quiescent_ReferenceIdeal := fun m g _ =>
  θ_run_mono (Cert.ReferenceIdeal.Value.run m g) fun _ h => ⟨fun c => (h c).2, sem_eq_zero_of_no_sems (by decide) _⟩

/-- The same under the precondition. -/
theorem reference_ideal_runs_pre : Cert.quiescent_ReferenceIdeal_pre_finite_ReferenceIdeal := fun m g _ => reference_ideal_runs m g trivial

end Cert.Proof

end
-- ==== Proof.Words.lean ====
/-
  The words of the mask, read as the numbers they stand for.
-/
module

public import Idealize.ShloMosaic.Lib.Affine
public import Mathlib.Tactic.IntervalCases

@[expose] public section

namespace Cert.Words

open Idealize.ShloMosaic

/-- The pairs of a row and a column that the mask keeps. -/
def Keep (r k : ℕ) : Prop := r / 64 = k / 64 ∨ k / 64 = 0 ∨ (r / 64 + k / 64) % 3 = 0

instance (r k : ℕ) : Decidable (Keep r k) := by unfold Keep; infer_instance

theorem toNat_small {n : ℕ} (h : n < 2 ^ 31) : (BitVec.ofNat 32 n).toNat = n := by
  rw [BitVec.toNat_ofNat]; omega

theorem msb_small {n : ℕ} (h : n < 2 ^ 31) : (BitVec.ofNat 32 n).msb = false := by
  rw [BitVec.msb_eq_false_iff_two_mul_lt, toNat_small h]; omega

theorem divsi_small (u : ArithUnit) {n k : ℕ} (h : n < 2 ^ 31) (hk : 0 < k) (hk' : k < 2 ^ 31) :
    IntOp.divsi u (BitVec.ofNat 32 n) (BitVec.ofNat 32 k) = BitVec.ofNat 32 (n / k) := by
  have hc : ¬ IntOp.SDivCorner (BitVec.ofNat 32 n) (BitVec.ofNat 32 k) :=
    IntOp.not_corner_of_pos (by rw [BitVec.toInt_eq_toNat_of_lt (by rw [toNat_small hk']; omega), toNat_small hk']; omega)
  refine (if_neg hc).trans ?_
  rw [BitVec.sdiv_eq, msb_small h, msb_small hk']
  refine BitVec.eq_of_toNat_eq ?_
  show (BitVec.ofNat 32 n / BitVec.ofNat 32 k).toNat = _
  rw [BitVec.toNat_udiv, toNat_small h, toNat_small hk', toNat_small (lt_of_le_of_lt (Nat.div_le_self _ _) h)]

theorem remsi_small (u : ArithUnit) {n k : ℕ} (h : n < 2 ^ 31) (hk : 0 < k) (hk' : k < 2 ^ 31) :
    IntOp.remsi u (BitVec.ofNat 32 n) (BitVec.ofNat 32 k) = BitVec.ofNat 32 (n % k) := by
  refine BitVec.eq_of_toNat_eq ?_
  rw [IntOp.toNat_remsi u (by rw [toNat_small h]; omega) k hk (by omega), toNat_small h,
    toNat_small (lt_of_le_of_lt (Nat.mod_le _ _) h)]

/-- A bit is what a decided proposition says. -/
theorem bit_eq {b : BitVec 1} {p : Prop} [Decidable p] (h : b = 1#1 ↔ p) : b = BitVec.ofBool (decide p) := by
  by_cases hp : p
  · rw [h.2 hp, decide_eq_true hp]; rfl
  · rcases BitVec.eq_zero_or_eq_one b with e | e
    · rw [e, decide_eq_false hp]; rfl
    · exact absurd (h.1 e) hp

theorem ofNat_inj {a b : ℕ} (ha : a < 2 ^ 31) (hb : b < 2 ^ 31) : BitVec.ofNat 32 a = BitVec.ofNat 32 b ↔ a = b :=
  ⟨fun h => by have := congrArg BitVec.toNat h; rwa [toNat_small ha, toNat_small hb] at this, fun h => by rw [h]⟩

/-- The quotient by 64 rounded down, as it is written for words of either sign. -/
theorem floor64 (u : ArithUnit) {n : ℕ} (h : n < 2 ^ 31) :
    Scalar.select (IntOp.andi
        (IntOp.cmpi .ne (if BitVec.ofNat 32 n = 0 then 0 else if (BitVec.ofNat 32 n).msb = true then -1 else 1)
          (if (64#32 : BitVec 32) = 0 then 0 else if (64#32 : BitVec 32).msb = true then -1 else 1 : BitVec 32))
        (IntOp.cmpi .ne (IntOp.remsi u (BitVec.ofNat 32 n) 64#32) 0#32))
      (IntOp.subi (IntOp.divsi u (BitVec.ofNat 32 n) 64#32) 1#32) (IntOp.divsi u (BitVec.ofNat 32 n) 64#32) = BitVec.ofNat 32 (n / 64) := by
  rw [divsi_small u h (by omega) (by omega), remsi_small u h (by omega) (by omega), msb_small h]
  by_cases h0 : n = 0
  · subst h0; decide
  · have hne : BitVec.ofNat 32 n ≠ 0 := fun e => h0 ((ofNat_inj h (by omega)).1 e)
    rw [if_neg hne, if_neg (by decide), show (if (64#32 : BitVec 32) = 0 then 0 else if (64#32 : BitVec 32).msb = true then -1 else 1 : BitVec 32) = 1 from rfl]
    have hc : ∀ b : BitVec 1, IntOp.andi (IntOp.cmpi .ne (1 : BitVec 32) 1) b = 0#1 := by decide
    rw [hc]
    rfl

/-- The same quotient, the signs written as differences of comparisons. -/
theorem floor64' (u : ArithUnit) {n : ℕ} (h : n < 2 ^ 31) :
    Scalar.select (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi u (BitVec.ofNat 32 n) 64#32) 0#32))
      (IntOp.subi (IntOp.divsi u (BitVec.ofNat 32 n) 64#32) 1#32) (IntOp.divsi u (BitVec.ofNat 32 n) 64#32) = BitVec.ofNat 32 (n / 64) := by
  rw [divsi_small u h (by omega) (by omega), remsi_small u h (by omega) (by omega)]
  by_cases h0 : n = 0
  · subst h0; decide
  · have hi : (BitVec.ofNat 32 n).toInt = n := by rw [BitVec.toInt_eq_toNat_of_lt (by rw [toNat_small h]; omega), toNat_small h]
    have h1 : IntOp.cmpi .sgt (BitVec.ofNat 32 n) 0#32 = 1#1 := by rw [IntOp.cmpi_sgt, hi]; show (0 : ℤ) < _; omega
    have h2 : IntOp.cmpi .slt (BitVec.ofNat 32 n) 0#32 = 0#1 := by
      rcases BitVec.eq_zero_or_eq_one (IntOp.cmpi .slt (BitVec.ofNat 32 n) 0#32) with e | e
      · exact e
      · rw [IntOp.cmpi_slt, hi] at e
        exact absurd e (by show ¬ (n : ℤ) < 0; omega)
    rw [h1, h2]
    have hc : ∀ b : BitVec 1, IntOp.andi (IntOp.cmpi .ne (IntOp.subi (BitVec.setWidth 32 (1#1)) (BitVec.setWidth 32 (0#1)))
      (Scalar.subi (Scalar.extui (Scalar.cmpi .sgt 64#32 0#32)) (Scalar.extui (Scalar.cmpi .slt 64#32 0#32)))) b = 0#1 := by decide
    rw [hc]
    rfl

/-- The same remainder, the two signs compared by an exclusive or. -/
theorem floorRem3' {x : BitVec 32} {n : ℕ} (hx : x = BitVec.ofNat 32 (n % 3)) :
    Scalar.select (IntOp.andi (IntOp.xori (IntOp.cmpi .slt x 0#32)
        (Scalar.cmpi .slt 3#32 0#32)) (IntOp.cmpi .ne x 0#32)) (IntOp.addi x 3#32) x = x := by
  have : n % 3 < 3 := Nat.mod_lt _ (by omega)
  subst hx
  generalize n % 3 = k at this ⊢
  interval_cases k <;> decide

theorem muli_addi {w : BitVec 32} {n k a : ℕ} (hw : w = BitVec.ofNat 32 n) :
    IntOp.addi (Scalar.muli w (BitVec.ofNat 32 k)) (BitVec.ofNat 32 a) = BitVec.ofNat 32 (n * k + a) := by
  subst hw
  show BitVec.ofNat 32 n * BitVec.ofNat 32 k + BitVec.ofNat 32 a = _
  rw [BitVec.ofNat_add, BitVec.ofNat_mul]

/-- The remainder by three, as it is written for words of either sign. -/
theorem floorRem3 {x : BitVec 32} {n : ℕ} (hx : x = BitVec.ofNat 32 (n % 3)) :
    Scalar.select (IntOp.andi (IntOp.cmpi .ne (IntOp.cmpi .slt x 0#32) (IntOp.cmpi .slt 3#32 0#32)) (IntOp.cmpi .ne x 0#32)) (IntOp.addi x 3#32) x = x := by
  have : n % 3 < 3 := Nat.mod_lt _ (by omega)
  subst hx
  generalize n % 3 = k at this ⊢
  interval_cases k <;> decide

theorem addi_small {a b : ℕ} : IntOp.addi (BitVec.ofNat 32 a) (BitVec.ofNat 32 b) = BitVec.ofNat 32 (a + b) :=
  (BitVec.ofNat_add a b).symm

/-- The mask's three tests on the blocks of a row and a column. -/
theorem keep_bits (u : ArithUnit) {r k : ℕ} (hr : r < 2 ^ 30) (hk : k < 2 ^ 30) :
    IntOp.ori (IntOp.ori (IntOp.cmpi .eq (BitVec.ofNat 32 (r / 64)) (BitVec.ofNat 32 (k / 64))) (IntOp.cmpi .eq (BitVec.ofNat 32 (k / 64)) 0#32))
      (IntOp.cmpi .eq (IntOp.remsi u (IntOp.addi (BitVec.ofNat 32 (r / 64)) (BitVec.ofNat 32 (k / 64))) 3#32) 0#32)
      = BitVec.ofBool (decide (Keep r k)) := by
  refine bit_eq ?_
  rw [addi_small, remsi_small u (by omega) (by omega) (by omega), IntOp.ori_eq_one, IntOp.ori_eq_one, IntOp.cmpi_eq, IntOp.cmpi_eq, IntOp.cmpi_eq,
    ofNat_inj (by omega) (by omega), show (0#32 : BitVec 32) = BitVec.ofNat 32 0 from rfl, ofNat_inj (by omega) (by omega), ofNat_inj (by omega) (by omega),
    or_assoc]
  rfl

theorem select_keep {α : Type} (p : Prop) [Decidable p] (x y : α) : Scalar.select (BitVec.ofBool (decide p)) x y = if p then x else y := by
  by_cases hp : p
  · rw [if_pos hp, decide_eq_true hp]; rfl
  · rw [if_neg hp, decide_eq_false hp]; rfl

end Cert.Words
-- ==== Proof.KerTerm.lean ====
/-
  The kernel's terms read at an index.
-/
module

public import proofs.«01_k».proof.Proof.Region
public import Idealize.ShloMosaic.Lib.Pointwise
public import proofs.«01_k».proof.Proof.Words

@[expose] public section

noncomputable section

namespace Cert.KernelIdeal.Ring

open Cert.KernelIdeal Cert.KernelIdeal.Gen Idealize.ShloMosaic Idealize.ShloMosaic.TcCoe

theorem mask_eq : Named.named (F := Ideal) κ "mask" (φ := .f32) 0xCE6E6B28#32 = (⊥ : EReal) := by
  rfl

theorem scale_eq : Named.named (F := Ideal) κ "scale2" (φ := .f32) 0x3E0293EE#32 = (((Real.sqrt 128)⁻¹ * (Real.log 2)⁻¹ : ℝ) : EReal) := by
  rfl

theorem rowIx_apply (i : Fin 256) : rowIx (ix2 i 0) = BitVec.ofNat 32 (i.val / 64) := by
  pointwise [rowIx, k0_pay60, k0_pay59]
  exact Words.floor64' _ (by omega)

theorem colIx_apply (my : BitVec 32) {n : ℕ} (hn : my = BitVec.ofNat 32 n) (j : Fin 4096) :
    k0_pay62 (F := Ideal) my (colIx) (ix2 0 j) = BitVec.ofNat 32 (n * 64 + j.val / 64) := by
  pointwise [k0_pay62, colIx, k0_pay61]
  rw [Words.floor64' _ (by omega)]
  exact Words.muli_addi hn

theorem headE_apply (b : FVec Ideal S256x4096 .f32) (x : FVec Ideal S256x128 .bf16) (k : FVec Ideal S4096x128 .bf16) (i : Fin 256) (j : Fin 4096) :
    headE b x k (ix2 i j) = Ideal.exp2 ((∑ d : Fin 128, x (ix2 i d) * k (ix2 j d)) * Named.named (F := Ideal) κ "scale2" (φ := .f32) 0x3E0293EE#32 + b (ix2 i j)) := by
  pointwise [headE]
  rfl

theorem headL_apply (b : FVec Ideal S256x4096 .f32) (x : FVec Ideal S256x128 .bf16) (k : FVec Ideal S4096x128 .bf16) (i : Fin 256) :
    headL b x k (ix1 i) = ∑ j : Fin 4096, headE b x k (ix2 i j) := by
  pointwise [headL]

theorem headP_apply (b : FVec Ideal S256x4096 .f32) (x : FVec Ideal S256x128 .bf16) (k v : FVec Ideal S4096x128 .bf16) (i : Fin 256) (d : Fin 128) :
    headP b x k v (ix2 i d) = ∑ j : Fin 4096, headE b x k (ix2 i j) * v (ix2 j d) := by
  pointwise [headP]

theorem bias_apply {my w : BitVec 32} {n o : ℕ} (hn : my = BitVec.ofNat 32 n) (ho : w = BitVec.ofNat 32 o) (hn8 : n < 8) (ho8 : o < 8) (i : Fin 256) (j : Fin 4096) :
    (k0_pay2 (F := Ideal) (rowIx) (k0_pay62 (F := Ideal) my (colIx)) w) (ix2 i j)
      = if Words.Keep (256 * o + i.val) (4096 * n + j.val) then (0 : EReal) else ⊥ := by
  pointwise [k0_pay2, rowIx_apply, colIx_apply my hn]
  rw [Words.muli_addi ho]
  rw [show Scalar.select (Scalar.cmpi .eq 3#32 0#32) 1#32 3#32 = 3#32 from rfl,
    Words.floorRem3' (n := o * 4 + i.val / 64 + (n * 64 + j.val / 64)) (by rw [Words.addi_small]; exact Words.remsi_small _ (by omega) (by omega) (by omega)),
    show o * 4 + i.val / 64 = (256 * o + i.val) / 64 by omega, show n * 64 + j.val / 64 = (4096 * n + j.val) / 64 by omega,
    Words.keep_bits _ (by omega) (by omega), Words.select_keep, mask_eq]

theorem outRow_apply (x : FVec Ideal S256x128 .bf16) (r : FVec Ideal S256x1 .f32) (i : Fin 256) (d : Fin 128) :
    outRow x r (ix2 i d) = Ideal.div (x (ix2 i d)) (r (ix2 i 0)) := by
  pointwise [outRow]

end Cert.KernelIdeal.Ring

end
-- ==== Proof.KerIn.lean ====
/-
  What the host hands the kernel, read at an index.
-/
module

public import proofs.«01_k».proof.Proof.Region
public import Idealize.ShloMosaic.Lib.Pointwise
public import Idealize.ShloMosaic.Lib.StableHlo.RunRead

@[expose] public section

noncomputable section

namespace Cert.KernelIdeal.Ring

open Cert.KernelIdeal Cert.KernelIdeal.Gen Idealize.ShloMosaic Idealize.ShloMosaic.TcCoe Idealize.SL.Sem

/-- An argument as device c holds it. -/
def argX (m : (ℓ : Loc nD τ sig) → Buf (Elt Ideal) ℓ) (c : Dev nD) : FVec Ideal S1x256x1024 .f32 := m ((c.tc : Thread nD τ).loc main_arg0)
def argWq (m : (ℓ : Loc nD τ sig) → Buf (Elt Ideal) ℓ) (c : Dev nD) : FVec Ideal S1024x1024 .f32 := m ((c.tc : Thread nD τ).loc main_arg1)
def argK (m : (ℓ : Loc nD τ sig) → Buf (Elt Ideal) ℓ) (c : Dev nD) : FVec Ideal S1x4096x8x128 .f32 := m ((c.tc : Thread nD τ).loc main_arg2)
def argV (m : (ℓ : Loc nD τ sig) → Buf (Elt Ideal) ℓ) (c : Dev nD) : FVec Ideal S1x4096x8x128 .f32 := m ((c.tc : Thread nD τ).loc main_arg3)
def argWo (m : (ℓ : Loc nD τ sig) → Buf (Elt Ideal) ℓ) (c : Dev nD) : FVec Ideal S1024x1024 .f32 := m ((c.tc : Thread nD τ).loc main_arg4)

variable (m : (ℓ : Loc nD τ sig) → Buf (Elt Ideal) ℓ) (c : Dev nD)

theorem Qt_eq : Qt m c = (truncf .bf16 (transpose S8x256x128 [1, 0, 2] (shapeCast S256x8x128 (Host.dotGeneral (F := Ideal) dot_S256x1024_S1024x1024_S256x1024_1_0_0_1_n_n none (shapeCast S256x1024 (argX m c) shapeCasts_S1x256x1024_S256x1024) (argWq m c)) shapeCasts_S256x1024_S256x8x128) transposes_S256x8x128_S8x256x128_1_0_2) bitsLt_bf16_f32 : FVec Ideal S8x256x128 .bf16) := by
  unfold Qt V3
  after_reads_simp
  rfl

theorem Kt_eq : Kt m c = (truncf .bf16 (transpose S8x4096x128 [1, 0, 2] (shapeCast S4096x8x128 (argK m c) shapeCasts_S1x4096x8x128_S4096x8x128)
    transposes_S4096x8x128_S8x4096x128_1_0_2) bitsLt_bf16_f32 : FVec Ideal S8x4096x128 .bf16) := by
  unfold Kt V3
  after_reads_simp
  rfl

theorem Vt_eq : Vt m c = (truncf .bf16 (transpose S8x4096x128 [1, 0, 2] (shapeCast S4096x8x128 (argV m c) shapeCasts_S1x4096x8x128_S4096x8x128)
    transposes_S4096x8x128_S8x4096x128_1_0_2) bitsLt_bf16_f32 : FVec Ideal S8x4096x128 .bf16) := by
  unfold Vt V3
  after_reads_simp
  rfl

theorem Wo_eq : V4 m (outs m) c main_arg4 = argWo m c := by
  rw [V4_ne m c _ (by decide)]
  unfold V3
  after_reads_simp
  rfl

theorem out_eq : V5 m (outs m) c main_v50 = (broadcastInDim S1x256x1024 ![1, 2] bcast_S256x1024_S1x256x1024_1_2
    (Host.dotGeneral (F := Ideal) (φ₁ := .f32) dot_S256x1024_S1024x1024_S256x1024_1_0_0_1_n_n none
      (shapeCast S256x1024 (transpose S256x8x128 [1, 0, 2] (outT m c : FVec Ideal S8x256x128 .f32) transposes_S8x256x128_S256x8x128_1_0_2) shapeCasts_S256x8x128_S256x1024)
      (argWo m c)) : FVec Ideal S1x256x1024 .f32) := by
  rw [← Wo_eq, ← V4_out]
  unfold V5
  after_reads_simp
  rfl

theorem Qt_apply (h : Fin 8) (i : Fin 256) (d : Fin 128) :
    Qt m c (ix3 h i d) = ∑ e : Fin 1024, argX m c (ix3 0 i e) * argWq m c (ix2 e ⟨h.val * 128 + d.val, by omega⟩) := by
  rw [Qt_eq]
  pointwise

theorem Kt_apply (h : Fin 8) (j : Fin 4096) (d : Fin 128) : Kt m c (ix3 h j d) = argK m c (ix4 0 j h d) := by
  rw [Kt_eq]
  pointwise

theorem Vt_apply (h : Fin 8) (j : Fin 4096) (d : Fin 128) : Vt m c (ix3 h j d) = argV m c (ix4 0 j h d) := by
  rw [Vt_eq]
  pointwise

theorem out_apply (i : Fin 256) (n : Fin 1024) :
    (V5 m (outs m) c main_v50 : FVec Ideal S1x256x1024 .f32) (ix3 0 i n) = ∑ e : Fin 1024, outT m c (ix3 ⟨e.val / 128, by omega⟩ i ⟨e.val % 128, by omega⟩) * argWo m c (ix2 e n) := by
  rw [out_eq]
  pointwise

end Cert.KernelIdeal.Ring

end
-- ==== Proof.Attn.lean ====
/-
  What the kernel's travelling sums come to: for each row, its weights against the values of every device, and the weights alone.
-/
module

public import proofs.«01_k».proof.Proof.KerTerm
public import proofs.«01_k».proof.Proof.KerIn
public import proofs.«01_k».proof.Proof.Meta

@[expose] public section

noncomputable section

namespace Cert.KernelIdeal.Ring

open Cert.KernelIdeal Cert.KernelIdeal.Gen Idealize.ShloMosaic Idealize.ShloMosaic.TcCoe Idealize.SL.Sem

theorem vix1 {n : ℕ} (a : Fin n) : (ValueIdx.ix1 a : (⟨1, ![n]⟩ : Shape).Idx) = ix1 a := by
  funext i; fin_cases i; rfl
theorem vix2 {n k : ℕ} (a : Fin n) (b : Fin k) : (ValueIdx.ix2 a b : (⟨2, ![n, k]⟩ : Shape).Idx) = ix2 a b := by
  funext i; fin_cases i <;> rfl
theorem vix3 {n k l : ℕ} (a : Fin n) (b : Fin k) (c : Fin l) : (ValueIdx.ix3 a b c : (⟨3, ![n, k, l]⟩ : Shape).Idx) = ix3 a b c := by
  funext i; fin_cases i <;> rfl

variable (m : (ℓ : Loc nD τ sig) → Buf (Elt Ideal) ℓ)

/-- A query of device c. -/
def qE (c : Dev nD) (hd : Fin 8) (i : Fin 256) (d : Fin 128) : EReal :=
  ∑ e : Fin 1024, argX m c (ix3 0 i e) * argWq m c (ix2 e ⟨hd.val * 128 + d.val, by omega⟩)

/-- The product of a query of device c with a key of device h. -/
def dotE (c h : Dev nD) (hd : Fin 8) (i : Fin 256) (j : Fin 4096) : EReal :=
  ∑ d : Fin 128, qE m c hd i d * argK m h (ix4 0 j hd d)

/-- The weight of a key of device h for a query of device c. -/
def wgt (c h : Dev nD) (hd : Fin 8) (i : Fin 256) (j : Fin 4096) : EReal :=
  Ideal.exp2 (dotE m c h hd i j * (((Real.sqrt 128)⁻¹ * (Real.log 2)⁻¹ : ℝ) : EReal)
    + if Words.Keep (256 * c.val + i.val) (4096 * h.val + j.val) then (0 : EReal) else ⊥)

/-- The bias of step s at device h. -/
def biasAt (h : Dev nD) (s : ℕ) : FVec Ideal S256x4096 .f32 :=
  k0_pay2 rowIx (k0_pay62 (F := Ideal) (Mt m h (ValueIdx.ix1 10)) colIx) (Mt m h (wordAt s))

theorem word_my (h : Dev nD) : (Mt m h (ValueIdx.ix1 10) : BitVec 32) = BitVec.ofNat 32 h.val := by
  rw [tbl]
  refine BitVec.eq_of_toNat_eq ?_
  rw [table_my, Words.toNat_small (lt_of_lt_of_le h.isLt (by decide))]

theorem word_own (h : Dev nD) (s : Fin 8) : (Mt m h (wordAt s.val) : BitVec 32) = BitVec.ofNat 32 (own h s.val).val := by
  rw [tbl]
  have e : wordAt s.val = ValueIdx.ix1 ⟨s.1, by omega⟩ := congrArg ValueIdx.ix1 (Fin.ext (by show s.val % 8 = s.val; omega))
  rw [e]
  refine BitVec.eq_of_toNat_eq ?_
  rw [table_own, Words.toNat_small (lt_of_lt_of_le (own h s.val).isLt (by decide))]

theorem biasAt_apply (h c : Dev nD) (s : Fin 8) (hc : own h s.val = c) (i : Fin 256) (j : Fin 4096) :
    biasAt m h s.val (ix2 i j) = if Words.Keep (256 * c.val + i.val) (4096 * h.val + j.val) then (0 : EReal) else ⊥ := by
  unfold biasAt
  rw [bias_apply (word_my m h) (word_own m h s) h.isLt (own h s.val).isLt, hc]

theorem headE_step (h c : Dev nD) (s : Fin 8) (hc : own h s.val = c) (hd : Fin 8) (i : Fin 256) (j : Fin 4096) :
    headE (biasAt m h s.val) (qRow (Qt m (own h s.val)) hd) (kRow (Kt m h) hd) (ix2 i j) = wgt m c h hd i j := by
  rw [headE_apply, biasAt_apply m h c s hc, scale_eq, hc]
  have e : (∑ d : Fin 128, qRow (Qt m c) hd (ix2 i d) * kRow (Kt m h) hd (ix2 j d)) = dotE m c h hd i j :=
    Finset.sum_congr rfl fun d _ => by
      have e1 : qRow (Qt m c) hd (ix2 i d) = qE m c hd i d := (congrArg (Qt m c) (vix3 _ _ _)).trans (Qt_apply m c hd i d)
      have e2 : kRow (Kt m h) hd (ix2 j d) = argK m h (ix4 0 j hd d) := (congrArg (Kt m h) (vix3 _ _ _)).trans (Kt_apply m h hd j d)
      rw [e1, e2]
  rw [e]
  rfl

theorem PT_step (h c : Dev nD) (s : Fin 8) (hc : own h s.val = c) (hd : Fin 8) (i : Fin 256) (d : Fin 128) :
    PT (biasAt m h s.val) (Qt m (own h s.val)) (Kt m h) (Vt m h) (ix3 hd i d) = ∑ j : Fin 4096, wgt m c h hd i j * argV m h (ix4 0 j hd d) := by
  have e0 : PT (biasAt m h s.val) (Qt m (own h s.val)) (Kt m h) (Vt m h) (ix3 hd i d)
      = headP (biasAt m h s.val) (qRow (Qt m (own h s.val)) hd) (kRow (Kt m h) hd) (kRow (Vt m h) hd) (ix2 i d) :=
    congrArg (headP (biasAt m h s.val) (qRow (Qt m (own h s.val)) hd) (kRow (Kt m h) hd) (kRow (Vt m h) hd)) (vix2 i d)
  rw [e0, headP_apply]
  refine Finset.sum_congr rfl fun j _ => ?_
  have e2 : kRow (Vt m h) hd (ix2 j d) = argV m h (ix4 0 j hd d) := (congrArg (Vt m h) (vix3 _ _ _)).trans (Vt_apply m h hd j d)
  rw [headE_step m h c s hc, e2]

theorem LT_step (h c : Dev nD) (s : Fin 8) (hc : own h s.val = c) (hd : Fin 8) (i : Fin 256) :
    LT (biasAt m h s.val) (Qt m (own h s.val)) (Kt m h) (ix2 i hd) = ∑ j : Fin 4096, wgt m c h hd i j := by
  have e0 : LT (biasAt m h s.val) (Qt m (own h s.val)) (Kt m h) (ix2 i hd)
      = headL (biasAt m h s.val) (qRow (Qt m (own h s.val)) hd) (kRow (Kt m h) hd) (ix1 i) :=
    congrArg (headL (biasAt m h s.val) (qRow (Qt m (own h s.val)) hd) (kRow (Kt m h) hd)) (vix1 i)
  rw [e0, headL_apply]
  exact Finset.sum_congr rfl fun j _ => headE_step m h c s hc hd i j

/-! ## Round the ring -/

/-- Where device c's sums are at step s. -/
def at_ (c : Dev nD) (s : ℕ) : Dev nD := nxt^[s] c

theorem at_succ (c : Dev nD) (s : ℕ) : prv (at_ c (s + 1)) = at_ c s := by
  unfold at_
  rw [Function.iterate_succ_apply', prv_nxt]

theorem own_at : ∀ (c : Dev nD) (s : Fin 8), own (at_ c s.val) s.val = c := by decide +kernel
theorem at_seven : ∀ c : Dev nD, at_ c 7 = prv c := by decide +kernel
theorem at_bij : ∀ c : Dev nD, Function.Bijective (fun s : Fin 8 => at_ c s.val) := by decide +kernel

theorem ZA_apply (x : S8x256x128.Idx) : (ZA : QT Ideal) x = (0 : EReal) := by
  unfold ZA k0_pay57
  exact Ideal.ofBits_zero .bf16

theorem ZR_apply (x : S256x8.Idx) : (ZR : ST Ideal) x = (0 : EReal) := by
  unfold ZR k0_pay58
  exact Ideal.ofBits_zero .f32

/-- Adding blocks adds their entries. -/
theorem mA_apply (X Y : QT Ideal) (x : S8x256x128.Idx) : (mA X Y x : EReal) = (X x : EReal) + (Y x : EReal) := rfl
theorem mS_apply (X Y : ST Ideal) (x : S256x8.Idx) : (mS X Y x : EReal) = (X x : EReal) + (Y x : EReal) := rfl

/-- What step s adds at device h. -/
def addA (h : Dev nD) (s : ℕ) : QT Ideal := PT (biasAt m h s) (Qt m (own h s)) (Kt m h) (Vt m h)
def addS (h : Dev nD) (s : ℕ) : ST Ideal := LT (biasAt m h s) (Qt m (own h s)) (Kt m h)

theorem AA_zero (c : Dev nD) : AA m 0 c = mA ZA (addA m c 0) := by
  rw [AA, addA, biasAt, own]
theorem AA_succ (c : Dev nD) (t : ℕ) : AA m (t + 1) c = mA (AA m t (prv c)) (addA m c (t + 1)) := by
  rw [AA, addA, biasAt]
theorem SS_zero (c : Dev nD) : SS m 0 c = mS ZR (addS m c 0) := by
  rw [SS, addS, biasAt, own]
theorem SS_succ (c : Dev nD) (t : ℕ) : SS m (t + 1) c = mS (SS m t (prv c)) (addS m c (t + 1)) := by
  rw [SS, addS, biasAt]

/-- A sum that grows by one term each time it moves on, where it is after t moves. -/
theorem ring_sum (f : ℕ → Dev nD → EReal) (g : Dev nD → ℕ → EReal) (h0 : ∀ c, f 0 c = g c 0)
    (h1 : ∀ t c, f (t + 1) c = f t (prv c) + g c (t + 1)) (c : Dev nD) (t : ℕ) :
    f t (at_ c t) = ∑ s ∈ Finset.range (t + 1), g (at_ c s) s := by
  induction t with
  | zero => rw [h0]; exact (Finset.sum_range_one _).symm
  | succ t ih => rw [h1, at_succ, ih, ← Finset.sum_range_succ]

/-- After the whole ring, the sum over the devices. -/
theorem ring_all (f : ℕ → Dev nD → EReal) (g : Dev nD → ℕ → EReal) (h0 : ∀ c, f 0 c = g c 0)
    (h1 : ∀ t c, f (t + 1) c = f t (prv c) + g c (t + 1)) (c : Dev nD) (G : Dev nD → EReal)
    (hG : ∀ s : Fin 8, g (at_ c s.val) s.val = G (at_ c s.val)) : f 7 (prv c) = ∑ h : Dev nD, G h := by
  rw [← at_seven c, ring_sum f g h0 h1, Finset.sum_range]
  exact (Finset.sum_congr rfl fun s _ => hG s).trans ((at_bij c).sum_comp G)

theorem AA_all (c : Dev nD) (hd : Fin 8) (i : Fin 256) (d : Fin 128) :
    (AA m 7 (prv c) (ix3 hd i d) : EReal) = ∑ h : Dev nD, ∑ j : Fin 4096, wgt m c h hd i j * argV m h (ix4 0 j hd d) :=
  ring_all (fun t h => AA m t h (ix3 hd i d)) (fun h s => addA m h s (ix3 hd i d))
    (fun h => by
      show AA m 0 h (ix3 hd i d) = _
      rw [AA_zero]
      exact (mA_apply _ _ _).trans ((congrArg (· + (addA m h 0 (ix3 hd i d) : EReal)) (ZA_apply _)).trans (zero_add _)))
    (fun t h => by
      show AA m (t + 1) h (ix3 hd i d) = _
      rw [AA_succ]
      exact mA_apply _ _ _)
    c (fun h => ∑ j : Fin 4096, wgt m c h hd i j * argV m h (ix4 0 j hd d))
    (fun s => PT_step m (at_ c s.val) c s (own_at c s) hd i d)

theorem SS_all (c : Dev nD) (hd : Fin 8) (i : Fin 256) :
    (SS m 7 (prv c) (ix2 i hd) : EReal) = ∑ h : Dev nD, ∑ j : Fin 4096, wgt m c h hd i j :=
  ring_all (fun t h => SS m t h (ix2 i hd)) (fun h s => addS m h s (ix2 i hd))
    (fun h => by
      show SS m 0 h (ix2 i hd) = _
      rw [SS_zero]
      exact (mS_apply _ _ _).trans ((congrArg (· + (addS m h 0 (ix2 i hd) : EReal)) (ZR_apply _)).trans (zero_add _)))
    (fun t h => by
      show SS m (t + 1) h (ix2 i hd) = _
      rw [SS_succ]
      exact mS_apply _ _ _)
    c (fun h => ∑ j : Fin 4096, wgt m c h hd i j)
    (fun s => LT_step m (at_ c s.val) c s (own_at c s) hd i)

/-- A head's output of device c. -/
theorem outT_apply (c : Dev nD) (hd : Fin 8) (i : Fin 256) (d : Fin 128) :
    (outT m c (ix3 hd i d) : EReal) = Ideal.div (∑ h : Dev nD, ∑ j : Fin 4096, wgt m c h hd i j * argV m h (ix4 0 j hd d))
      (∑ h : Dev nD, ∑ j : Fin 4096, wgt m c h hd i j) := by
  rw [← AA_all, ← SS_all]
  have e0 : outT m c (ix3 hd i d) = outRow (qRow (AA m 7 (prv c)) hd) (sCol (SS m 7 (prv c)) hd) (ix2 i d) :=
    congrArg (outRow (qRow (AA m 7 (prv c)) hd) (sCol (SS m 7 (prv c)) hd)) (vix2 i d)
  rw [e0, outRow_apply]
  have e1 : qRow (AA m 7 (prv c)) hd (ix2 i d) = AA m 7 (prv c) (ix3 hd i d) := congrArg (AA m 7 (prv c)) (vix3 _ _ _)
  have e2 : sCol (SS m 7 (prv c)) hd (ix2 i 0) = SS m 7 (prv c) (ix2 i hd) := congrArg (SS m 7 (prv c)) (vix2 _ _)
  rw [e1, e2]

end Cert.KernelIdeal.Ring

end
-- ==== Proof.RefTerm.lean ====
/-
  The reference's result, its repeated terms named, and read at an index.
-/
module

public import proofs.«01_k».proof.Proof.Gen.ReferenceIdeal
public import Idealize.ShloMosaic.Lib.Pointwise
public import Idealize.ShloMosaic.Lib.Routing.OpsOrder
public import proofs.«01_k».proof.Proof.Words

@[expose] public section

noncomputable section

namespace Cert.ReferenceIdeal.Term

open Cert.ReferenceIdeal Cert.ReferenceIdeal.Gen Idealize.ShloMosaic Idealize.ShloMosaic.TcCoe

variable {F : FTy → Type} [FloatOps F]

/-- The block of 64 each row lies in, as the program divides. -/
def rowBlk : IVec S2048 32 :=
  select (andi (cmpi .ne (signi (iotaInDim S2048 32 0)) (broadcastInDim S2048 ![] bcast_S_S2048 (signi (id (constantI S_ 32 64#32))))) (cmpi
    .ne (Host.remsi (iotaInDim S2048 32 0) (broadcastInDim S2048 ![] bcast_S_S2048 (id (constantI S_ 32 64#32)))) (broadcastInDim S2048 ![]
    bcast_S_S2048 (constantI S_ 32 0#32)))) (subi (Host.divsi (iotaInDim S2048 32 0) (broadcastInDim S2048 ![] bcast_S_S2048 (id (constantI
    S_ 32 64#32)))) (broadcastInDim S2048 ![] bcast_S_S2048 (constantI S_ 32 1#32))) (Host.divsi (iotaInDim S2048 32 0) (broadcastInDim
    S2048 ![] bcast_S_S2048 (id (constantI S_ 32 64#32))))

/-- The block of 64 each column lies in. -/
def colBlk : IVec S32768 32 :=
  select (andi (cmpi .ne (signi (iotaInDim S32768 32 0)) (broadcastInDim S32768 ![] bcast_S_S32768 (signi (id (constantI S_ 32 64#32)))))
    (cmpi .ne (Host.remsi (iotaInDim S32768 32 0) (broadcastInDim S32768 ![] bcast_S_S32768 (id (constantI S_ 32 64#32)))) (broadcastInDim
    S32768 ![] bcast_S_S32768 (constantI S_ 32 0#32)))) (subi (Host.divsi (iotaInDim S32768 32 0) (broadcastInDim S32768 ![] bcast_S_S32768
    (id (constantI S_ 32 64#32)))) (broadcastInDim S32768 ![] bcast_S_S32768 (constantI S_ 32 1#32))) (Host.divsi (iotaInDim S32768 32 0)
    (broadcastInDim S32768 ![] bcast_S_S32768 (id (constantI S_ 32 64#32))))

/-- The divisor of the remainder. -/
def three : IVec S_ 32 :=
  select (cmpi .eq (id (constantI S_ 32 3#32)) (constantI S_ 32 0#32)) (constantI S_ 32 1#32) (id (constantI S_ 32 3#32))

/-- The rows' blocks over the whole square. -/
def rowB : IVec S2048x32768 32 :=
  broadcastInDim S2048x32768 ![0, 1] bcast_S2048x1_S2048x32768_0_1 (broadcastInDim S2048x1 ![0] bcast_S2048_S2048x1_0 rowBlk)

/-- The columns' blocks as one row. -/
def colB1 : IVec S1x32768 32 :=
  broadcastInDim S1x32768 ![1] bcast_S32768_S1x32768_1 colBlk

/-- The columns' blocks over the whole square. -/
def colB : IVec S2048x32768 32 :=
  broadcastInDim S2048x32768 ![0, 1] bcast_S1x32768_S2048x32768_0_1 colB1

/-- The truncated remainder of the sum of the two blocks by three. -/
def rem3 : IVec S2048x32768 32 :=
  Host.remsi (addi rowB colB) (broadcastInDim S2048x32768 ![] bcast_S_S2048x32768 three)

/-- The remainder of the sum of the two blocks by three. -/
def mod3 : IVec S2048x32768 32 :=
  select (andi (cmpi .ne (cmpi .slt rem3 (broadcastInDim S2048x32768 ![] bcast_S_S2048x32768 (constantI S_ 32 0#32))) (broadcastInDim
    S2048x32768 ![] bcast_S_S2048x32768 (cmpi .slt three (constantI S_ 32 0#32)))) (cmpi .ne rem3 (broadcastInDim S2048x32768 ![]
    bcast_S_S2048x32768 (constantI S_ 32 0#32)))) (addi rem3 (broadcastInDim S2048x32768 ![] bcast_S_S2048x32768 three)) rem3

/-- The mask: the row's own block, the first block, and every third. -/
def band : IVec S2048x32768 1 :=
  ori (ori (cmpi .eq rowB colB) (broadcastInDim S2048x32768 ![0, 1] bcast_S1x32768_S2048x32768_0_1 (cmpi .eq colB1 (broadcastInDim S1x32768
    ![] bcast_S_S1x32768 (constantI S_ 32 0#32))))) (cmpi .eq mod3 (broadcastInDim S2048x32768 ![] bcast_S_S2048x32768 (constantI S_ 32
    0#32)))

/-- Whether a row keeps any column. -/
def rowAny : IVec S1x1x2048x1 1 :=
  broadcastInDim S1x1x2048x1 ![2] bcast_S2048_S1x1x2048x1_2 (Host.reduce IntOp.ori band (constantI S_ 1 0#1) reducesTo_S2048x32768_S2048_d1
    h_S_)

/-- The masked scores. -/
def scores (X : FVec F S1x2048x1024 .f32) (Wq : FVec F S1024x1024 .f32) (K : FVec F S1x32768x8x128 .f32) : FVec F S1x8x2048x32768 .f32 :=
  select (broadcastInDim S1x8x2048x32768 ![0, 1, 2, 3] bcast_S1x1x2048x32768_S1x8x2048x32768_0_1_2_3 (broadcastInDim S1x1x2048x32768 ![2, 3]
    bcast_S2048x32768_S1x1x2048x32768_2_3 band)) (Host.divf (Host.dotGeneral dot_S1x2048x8x128_S1x32768x8x128_S1x8x2048x32768_3_3_1_1_02_02
    none (shapeCast _ (Host.dotGeneral dot_S1x2048x1024_S1024x1024_S1x2048x1024_2_0_01_1_n_n none X Wq)
    shapeCasts_S1x2048x1024_S1x2048x8x128) K) (broadcastInDim S1x8x2048x32768 ![] bcast_S_S1x8x2048x32768 (Host.sqrt (constant S_ .f32
    0x43000000#32)))) (broadcastInDim S1x8x2048x32768 ![] bcast_S_S1x8x2048x32768 (id (constant S_ .f32 0xFF800000#32)))

/-- The weights before they are normalised. -/
def weights (Sc : FVec F S1x8x2048x32768 .f32) : FVec F S1x8x2048x32768 .f32 :=
  Host.exp (subf Sc (broadcastInDim S1x8x2048x32768 ![0, 1, 2, 3] bcast_S1x8x2048x1_S1x8x2048x32768_0_1_2_3 (broadcastInDim
    S1x8x2048x1 ![0, 1, 2] bcast_S1x8x2048_S1x8x2048x1_0_1_2 (Host.reduce FloatOps.maximumf Sc (constant S_ .f32 0xFF800000#32)
    reducesTo_S1x8x2048x32768_S1x8x2048_d3 h_S_))))

/-- The weights normalised in the rows that keep a column. -/
def normal (A : IVec S1x1x2048x1 1) (W : FVec F S1x8x2048x32768 .f32) : FVec F S1x8x2048x32768 .f32 :=
  select (broadcastInDim S1x8x2048x32768 ![0, 1, 2, 3] bcast_S1x1x2048x1_S1x8x2048x32768_0_1_2_3 A) (Host.divf W
    (broadcastInDim S1x8x2048x32768 ![0, 1, 2, 3] bcast_S1x8x2048x1_S1x8x2048x32768_0_1_2_3 (select (broadcastInDim S1x8x2048x1 ![0, 1, 2,
    3] bcast_S1x1x2048x1_S1x8x2048x1_0_1_2_3 A) (broadcastInDim S1x8x2048x1 ![0, 1, 2] bcast_S1x8x2048_S1x8x2048x1_0_1_2
    (Host.reduceAdd W (constant S_ .f32 0x00000000#32) reducesTo_S1x8x2048x32768_S1x8x2048_d3 h_S_)) (broadcastInDim
    S1x8x2048x1 ![] bcast_S_S1x8x2048x1 (id (constant S_ .f32 0x3F800000#32)))))) (broadcastInDim S1x8x2048x32768 ![]
    bcast_S_S1x8x2048x32768 (id (constant S_ .f32 0x00000000#32)))

/-- The weights normalised. -/
def probs (W : FVec F S1x8x2048x32768 .f32) : FVec F S1x8x2048x32768 .f32 := normal rowAny W

/-- What the heads return, side by side. -/
def heads (V : FVec F S1x32768x8x128 .f32) (P : FVec F S1x8x2048x32768 .f32) : FVec F S1x2048x1024 .f32 :=
  shapeCast _ (transpose S1x2048x8x128 [0, 3, 1, 2] (Host.dotGeneral dot_S1x32768x8x128_S1x8x2048x32768_S1x8x128x2048_1_3_3_2_02_01 none V
    P) transposes_S1x8x128x2048_S1x2048x8x128_0_3_1_2) shapeCasts_S1x2048x8x128_S1x2048x1024

/-- The whole result. -/
def result (X : FVec F S1x2048x1024 .f32) (Wq : FVec F S1024x1024 .f32) (K : FVec F S1x32768x8x128 .f32) (V : FVec F S1x32768x8x128 .f32) (Wo : FVec F S1024x1024 .f32) : FVec F S1x2048x1024 .f32 :=
  Host.dotGeneral dot_S1x2048x1024_S1024x1024_S1x2048x1024_2_0_01_1_n_n none (heads V (probs (weights (scores X Wq K)))) Wo

/-! ## At an index -/

theorem rowBlk_apply (r : Fin 2048) : rowBlk (ix1 r) = BitVec.ofNat 32 (r.val / 64) := by
  pointwise [rowBlk, id]
  exact Words.floor64 _ (by omega)

theorem colBlk_apply (r : Fin 32768) : colBlk (ix1 r) = BitVec.ofNat 32 (r.val / 64) := by
  pointwise [colBlk, id]
  exact Words.floor64 _ (by omega)

theorem three_apply : three ix0 = 3#32 := by
  pointwise [three, id]
  rfl

theorem band_apply (r : Fin 2048) (k : Fin 32768) : band (ix2 r k) = BitVec.ofBool (decide (Words.Keep r.val k.val)) := by
  pointwise [band, mod3, rem3, rowB, colB, colB1, three_apply, rowBlk_apply, colBlk_apply]
  rw [Words.floorRem3 (n := r.val / 64 + k.val / 64) (by rw [Words.addi_small]; exact Words.remsi_small _ (by omega) (by omega) (by omega))]
  exact Words.keep_bits _ (by omega) (by omega)

theorem rowAny_apply (r : Fin 2048) : rowAny (ix4 0 0 r 0) = 1#1 := by
  pointwise [rowAny]
  refine (Routing.fold_ori _ _).2 ⟨(0 : Fin 32768), Finset.mem_univ _, ?_⟩
  rw [band_apply, decide_eq_true (p := Words.Keep r.val (0 : Fin 32768).val) (Or.inr (Or.inl rfl))]
  rfl

/-- An entry of the queries. -/
def qAt (X : FVec Ideal S1x2048x1024 .f32) (Wq : FVec Ideal S1024x1024 .f32) (r : Fin 2048) (h : Fin 8) (d : Fin 128) : EReal :=
  ∑ e : Fin 1024, X (ix3 0 r e) * Wq (ix2 e ⟨h.val * 128 + d.val, by omega⟩)

theorem scores_apply (X : FVec Ideal S1x2048x1024 .f32) (Wq : FVec Ideal S1024x1024 .f32) (K : FVec Ideal S1x32768x8x128 .f32) (h : Fin 8) (r : Fin 2048) (k : Fin 32768) :
    scores X Wq K (ix4 0 h r k) = if Words.Keep r.val k.val then Ideal.div (∑ d : Fin 128, qAt X Wq r h d * K (ix4 0 k h d)) (Ideal.sqrt (Ideal.ofBits .f32 0x43000000#32)) else Ideal.ofBits .f32 0xFF800000#32 := by
  pointwise [scores, band_apply, qAt, id]

theorem weights_apply (Sc : FVec Ideal S1x8x2048x32768 .f32) (h : Fin 8) (r : Fin 2048) (k : Fin 32768) :
    weights Sc (ix4 0 h r k) = Ideal.exp (Sc (ix4 0 h r k) - Finset.fold max (Ideal.ofBits .f32 0xFF800000#32) (fun x : Fin 32768 => Sc (ix4 0 h r x)) Finset.univ) := by
  pointwise [weights]

theorem normal_apply (A : IVec S1x1x2048x1 1) (W : FVec Ideal S1x8x2048x32768 .f32) (h : Fin 8) (r : Fin 2048) (k : Fin 32768) (hA : A (ix4 0 0 r 0) = 1#1) :
    normal A W (ix4 0 h r k) = Ideal.div (W (ix4 0 h r k)) (∑ k' : Fin 32768, W (ix4 0 h r k')) := by
  pointwise [normal, hA]

theorem probs_apply (W : FVec Ideal S1x8x2048x32768 .f32) (h : Fin 8) (r : Fin 2048) (k : Fin 32768) :
    probs W (ix4 0 h r k) = Ideal.div (W (ix4 0 h r k)) (∑ k' : Fin 32768, W (ix4 0 h r k')) :=
  normal_apply rowAny W h r k (rowAny_apply r)

theorem heads_apply (V : FVec Ideal S1x32768x8x128 .f32) (P : FVec Ideal S1x8x2048x32768 .f32) (r : Fin 2048) (e : Fin 1024) :
    heads V P (ix3 0 r e) = ∑ k : Fin 32768, V (ix4 0 k ⟨e.val / 128, by omega⟩ ⟨e.val % 128, by omega⟩) * P (ix4 0 ⟨e.val / 128, by omega⟩ r k) := by
  pointwise [heads]

theorem result_apply (X : FVec Ideal S1x2048x1024 .f32) (Wq : FVec Ideal S1024x1024 .f32) (K V : FVec Ideal S1x32768x8x128 .f32) (Wo : FVec Ideal S1024x1024 .f32) (r : Fin 2048) (n : Fin 1024) :
    result X Wq K V Wo (ix3 0 r n) = ∑ e : Fin 1024, heads V (probs (weights (scores X Wq K))) (ix3 0 r e) * Wo (ix2 e n) := by
  pointwise [result]

end Cert.ReferenceIdeal.Term

end
-- ==== Proof.Soft.lean ====
/-
  The algebra of the softmax: sums of unnormalised weights against normalised ones, over the extended reals.
-/
module

public import Idealize.ShloMosaic.PureOps.Ideal.Laws
public import Mathlib.Analysis.SpecialFunctions.Pow.Real

@[expose] public section

namespace Cert.Soft

open Idealize.ShloMosaic

variable {ι : Type} (s : Finset ι)

theorem coe_sum (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A factor that is a nonnegative real goes into a sum. -/
theorem sum_mul_coe (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The largest of scores of which one is real and none is plus infinity. -/
theorem max_real [Fintype ι] (sc : ι → EReal) (k₀ : ι) (h₀ : ⊥ < sc k₀) (h : ∀ k, sc k < ⊤) :
    ∃ μ : ℝ, Finset.fold max ⊥ sc Finset.univ = (μ : EReal) := by
  have e : Finset.fold max ⊥ sc Finset.univ = Finset.univ.sup sc := rfl
  rw [e]
  have hb : ⊥ < Finset.univ.sup sc := lt_of_lt_of_le h₀ (Finset.le_sup (Finset.mem_univ k₀))
  have ht : Finset.univ.sup sc < ⊤ := (Finset.sup_lt_iff bot_lt_top).2 fun k _ => h k
  exact ⟨(Finset.univ.sup sc).toReal, (EReal.coe_toReal ht.ne hb.ne').symm⟩

/-- The exponential in base two of a score scaled by the change of base. -/
theorem exp2_scaled (ρ σ : ℝ) : Ideal.exp2 ((ρ : EReal) * ((σ * (Real.log 2)⁻¹ : ℝ) : EReal) + 0) = ((Real.exp (ρ * σ) : ℝ) : EReal) := by
  rw [add_zero, ← EReal.coe_mul, Ideal.exp2_coe]
  refine congrArg _ ?_
  show (2 : ℝ) ^ (ρ * (σ * (Real.log 2)⁻¹)) = _
  rw [Real.rpow_def_of_pos (by norm_num)]
  have : Real.log 2 ≠ 0 := (Real.log_pos (by norm_num)).ne'
  congr 1
  field_simp

theorem exp2_dropped (ρ σ : ℝ) : Ideal.exp2 ((ρ : EReal) * (σ : EReal) + ⊥) = 0 := by
  rw [EReal.add_bot]; rfl

/-- THE SOFTMAX: the unnormalised weights against the values over their sum, is the values against the normalised weights. -/
theorem soft [Fintype ι] (σ : ι → ℝ) (keep : ι → Prop) [DecidablePred keep] (k₀ : ι) (h₀ : keep k₀) (v : ι → EReal) :
    Ideal.div (∑ k, (if keep k then ((Real.exp (σ k) : ℝ) : EReal) else 0) * v k) (∑ k, if keep k then ((Real.exp (σ k) : ℝ) : EReal) else 0)
      = ∑ k, v k * Ideal.div (Ideal.exp ((if keep k then (σ k : EReal) else ⊥) - Finset.fold max ⊥ (fun k' => if keep k' then (σ k' : EReal) else ⊥) Finset.univ))
          (∑ k', Ideal.exp ((if keep k' then (σ k' : EReal) else ⊥) - Finset.fold max ⊥ (fun k' => if keep k' then (σ k' : EReal) else ⊥) Finset.univ)) := by
  obtain ⟨μ, hμ⟩ := max_real (fun k => if keep k then (σ k : EReal) else ⊥) k₀ (by simp only [if_pos h₀]; exact EReal.bot_lt_coe _)
    (fun k => by split; exacts [EReal.coe_lt_top _, bot_lt_top])
  rw [hμ]
  have hw : ∀ k, Ideal.exp ((if keep k then (σ k : EReal) else ⊥) - (μ : EReal)) = (((if keep k then Real.exp (σ k - μ) else 0 : ℝ)) : EReal) := fun k => by
    by_cases hk : keep k
    · rw [if_pos hk, if_pos hk, ← EReal.coe_sub, Ideal.exp_coe]
    · rw [if_neg hk, if_neg hk, EReal.bot_sub]; rfl
  have he : ∀ k, (if keep k then ((Real.exp (σ k) : ℝ) : EReal) else 0) = ((Real.exp μ * (if keep k then Real.exp (σ k - μ) else 0) : ℝ) : EReal) := fun k => by
    by_cases hk : keep k
    · rw [if_pos hk, if_pos hk, ← Real.exp_add, add_sub_cancel]
    · rw [if_neg hk, if_neg hk, mul_zero]; rfl
  simp only [hw, he]
  generalize hW : (fun k => if keep k then Real.exp (σ k - μ) else 0) = w
  have hwk : ∀ k, (if keep k then Real.exp (σ k - μ) else 0) = w k := fun k => congrFun hW k
  simp only [hwk]
  have h0 : ∀ k, 0 ≤ w k := fun k => by rw [← hwk]; split; exacts [(Real.exp_pos _).le, le_rfl]
  have hZ : 0 < ∑ k, w k := Finset.sum_pos' (fun k _ => h0 k) ⟨k₀, Finset.mem_univ _, by rw [← hwk, if_pos h₀]; exact Real.exp_pos _⟩
  have hE : 0 < Real.exp μ := Real.exp_pos μ
  rw [coe_sum, coe_sum, ← Finset.mul_sum, Ideal.div_coe (mul_pos hE hZ).ne', sum_mul_coe _ _ (by positivity)]
  refine Finset.sum_congr rfl fun k _ => ?_
  rw [Ideal.div_coe hZ.ne', mul_comm _ (v k), mul_assoc, ← EReal.coe_mul, ← EReal.coe_mul]
  congr 2
  field_simp

end Cert.Soft
-- ==== Proof.Equal.lean ====
/-
  The kernel's heads are the reference's: a query's sums over the devices are its sums over the keys, and the unnormalised weights do as the normalised.
-/
module

public import proofs.«01_k».proof.Proof.Attn
public import proofs.«01_k».proof.Proof.RefTerm
public import proofs.«01_k».proof.Proof.Soft

@[expose] public section

noncomputable section

namespace Cert.Equal

open Idealize.ShloMosaic Idealize.ShloMosaic.TcCoe Idealize.SL.Sem
open Cert.KernelIdeal.Ring (argX argWq argK argV argWo qE dotE wgt outT)
open Cert.ReferenceIdeal.Term (scores weights probs heads result qAt)

/-! ## The constants -/

theorem word_128 : Ideal.ofBits .f32 0x43000000#32 = ((128 : ℝ) : EReal) := by
  simp [Ideal.ofBits, Ideal.ieee, -EReal.coe_mul]; norm_num

theorem word_bot : Ideal.ofBits .f32 0xFF800000#32 = ⊥ := by
  simp [Ideal.ofBits, Ideal.ieee]

theorem sqrt128_ne : Real.sqrt 128 ≠ 0 := by positivity

theorem scaled (ρ : ℝ) : Ideal.div (ρ : EReal) (Ideal.sqrt (Ideal.ofBits .f32 0x43000000#32)) = ((ρ * (Real.sqrt 128)⁻¹ : ℝ) : EReal) := by
  rw [word_128, Ideal.sqrt_coe, if_neg (by norm_num), Ideal.div_coe sqrt128_ne, one_div, EReal.coe_mul]

/-! ## Finite entries -/

/-- A finite entry. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.sum {ι : Type} (s : Finset ι) {f : ι → EReal} (h : ∀ i, Fin' (f i)) : Fin' (∑ i ∈ s, f i) := by
  choose g hg using h
  exact ⟨∑ i ∈ s, g i, by rw [← Soft.coe_sum]; exact Finset.sum_congr rfl fun i _ => hg i⟩

/-! ## Keys, device by device -/

theorem sum_keys (f : Fin 32768 → EReal) :
    ∑ h : Dev Cert.KernelIdeal.nD, ∑ j : Fin 4096, f ⟨4096 * h.val + j.val, by have := h.isLt; have := (show Cert.KernelIdeal.nD = 8 from rfl); omega⟩ = ∑ k, f k := by
  rw [← Fintype.sum_prod_type' (f := fun (h : Dev Cert.KernelIdeal.nD) (j : Fin 4096) => f ⟨4096 * h.val + j.val, by have := h.isLt; have := (show Cert.KernelIdeal.nD = 8 from rfl); omega⟩)]
  refine Fintype.sum_equiv ((finProdFinEquiv (m := 8) (n := 4096)).trans (finCongr (by norm_num))) _ _ fun x => congrArg f (Fin.ext ?_)
  show 4096 * x.1.val + x.2.val = x.2.val + 4096 * x.1.val
  omega

variable (m : (ℓ : Loc Cert.KernelIdeal.nD Cert.KernelIdeal.τ Cert.KernelIdeal.sig) → Buf (Elt Ideal) ℓ)
  (X : FVec Ideal Cert.ReferenceIdeal.S1x2048x1024 .f32) (Wq : FVec Ideal Cert.ReferenceIdeal.S1024x1024 .f32)
  (K V : FVec Ideal Cert.ReferenceIdeal.S1x32768x8x128 .f32) (Wo : FVec Ideal Cert.ReferenceIdeal.S1024x1024 .f32)

/-- The row of the whole array that row i of device c is. -/
def rowOf (c : Dev Cert.KernelIdeal.nD) (i : Fin 256) : Fin 2048 :=
  ⟨256 * c.val + i.val, by have := c.isLt; have := (show Cert.KernelIdeal.nD = 8 from rfl); omega⟩
/-- The key of the whole array that key j of device h is. -/
def keyOf (h : Dev Cert.KernelIdeal.nD) (j : Fin 4096) : Fin 32768 :=
  ⟨4096 * h.val + j.val, by have := h.isLt; have := (show Cert.KernelIdeal.nD = 8 from rfl); omega⟩

theorem keyOf_all (k : Fin 32768) : ∃ h j, keyOf h j = k :=
  ⟨⟨k.val / 4096, by show _ < 8; omega⟩, ⟨k.val % 4096, Nat.mod_lt _ (by norm_num)⟩, Fin.ext (by show 4096 * (k.val / 4096) + k.val % 4096 = k.val; omega)⟩

/-- The devices hold the blocks of the whole arrays. -/
structure Blocks : Prop where
  x : ∀ c i e, argX m c (ix3 0 i e) = X (ix3 0 (rowOf c i) e)
  wq : ∀ c e n, argWq m c (ix2 e n) = Wq (ix2 e n)
  k : ∀ h j hd d, argK m h (ix4 0 j hd d) = K (ix4 0 (keyOf h j) hd d)
  v : ∀ h j hd d, argV m h (ix4 0 j hd d) = V (ix4 0 (keyOf h j) hd d)
  wo : ∀ c e n, argWo m c (ix2 e n) = Wo (ix2 e n)

/-- Rows, query weights and keys are finite. -/
structure Finite : Prop where
  x : ∀ c i e, Fin' (argX m c (ix3 0 i e))
  wq : ∀ c e n, Fin' (argWq m c (ix2 e n))
  k : ∀ h j hd d, Fin' (argK m h (ix4 0 j hd d))

variable {m X Wq K V Wo} (hB : Blocks m X Wq K V Wo) (hF : Finite m)

/-- A query of the whole array against a key. -/
def dotR (X : FVec Ideal Cert.ReferenceIdeal.S1x2048x1024 .f32) (Wq : FVec Ideal Cert.ReferenceIdeal.S1024x1024 .f32)
    (K : FVec Ideal Cert.ReferenceIdeal.S1x32768x8x128 .f32) (r : Fin 2048) (hd : Fin 8) (k : Fin 32768) : EReal :=
  ∑ d : Fin 128, qAt X Wq r hd d * K (ix4 0 k hd d)

include hB in
theorem dotE_eq (c h : Dev Cert.KernelIdeal.nD) (hd : Fin 8) (i : Fin 256) (j : Fin 4096) :
    dotE m c h hd i j = dotR X Wq K (rowOf c i) hd (keyOf h j) := by
  unfold dotE dotR qE qAt
  refine Finset.sum_congr rfl fun d _ => ?_
  rw [hB.k]
  refine congrArg (· * _) (Finset.sum_congr rfl fun e _ => ?_)
  rw [hB.x, hB.wq]

include hF in
theorem dotE_fin (c h : Dev Cert.KernelIdeal.nD) (hd : Fin 8) (i : Fin 256) (j : Fin 4096) : Fin' (dotE m c h hd i j) :=
  Fin'.sum _ fun d => (Fin'.sum _ fun e => (hF.x c i e).mul (hF.wq c e _)).mul (hF.k h j hd d)

include hB hF in
theorem dotR_fin (c : Dev Cert.KernelIdeal.nD) (hd : Fin 8) (i : Fin 256) (k : Fin 32768) : Fin' (dotR X Wq K (rowOf c i) hd k) := by
  obtain ⟨h, j, rfl⟩ := keyOf_all k
  rw [← dotE_eq hB]
  exact dotE_fin hF c h hd i j

include hB hF in
/-- A head's output of device c is the reference's. -/
theorem head_eq (c : Dev Cert.KernelIdeal.nD) (hd : Fin 8) (i : Fin 256) (d : Fin 128) (e : Fin 1024) (h1 : e.val / 128 = hd.val) (h2 : e.val % 128 = d.val) :
    (outT m c (ix3 hd i d) : EReal) = heads V (probs (weights (scores X Wq K))) (ix3 0 (rowOf c i) e) := by
  choose ρ hρ using dotR_fin hB hF c hd i
  have hw : ∀ h j, wgt m c h hd i j = (fun k : Fin 32768 => if Words.Keep (rowOf c i).val k.val then ((Real.exp (ρ k * (Real.sqrt 128)⁻¹) : ℝ) : EReal) else 0) (keyOf h j) := fun h j => by
    unfold wgt
    rw [dotE_eq hB, hρ]
    show Ideal.exp2 (_ + if Words.Keep (rowOf c i).val (keyOf h j).val then (0 : EReal) else ⊥) = if Words.Keep (rowOf c i).val (keyOf h j).val then _ else _
    by_cases hk : Words.Keep (rowOf c i).val (keyOf h j).val
    · rw [if_pos hk, if_pos hk]; exact Soft.exp2_scaled _ _
    · rw [if_neg hk, if_neg hk]; exact Soft.exp2_dropped _ _
  have hs : ∀ k, scores X Wq K (ix4 0 hd (rowOf c i) k) = if Words.Keep (rowOf c i).val k.val then ((ρ k * (Real.sqrt 128)⁻¹ : ℝ) : EReal) else ⊥ := fun k => by
    rw [Cert.ReferenceIdeal.Term.scores_apply, word_bot, ← scaled, ← hρ]
    rfl
  have e1 : (⟨e.val / 128, by omega⟩ : Fin 8) = hd := Fin.ext h1
  have e2 : (⟨e.val % 128, by omega⟩ : Fin 128) = d := Fin.ext h2
  rw [Cert.KernelIdeal.Ring.outT_apply, Cert.ReferenceIdeal.Term.heads_apply, e1, e2]
  have n1 : (∑ h, ∑ j, wgt m c h hd i j * argV m h (ix4 0 j hd d))
      = ∑ k : Fin 32768, (if Words.Keep (rowOf c i).val k.val then ((Real.exp (ρ k * (Real.sqrt 128)⁻¹) : ℝ) : EReal) else 0) * V (ix4 0 k hd d) := by
    rw [← sum_keys]
    refine Finset.sum_congr rfl fun h _ => Finset.sum_congr rfl fun j _ => ?_
    rw [hw, hB.v]
    rfl
  have n2 : (∑ h, ∑ j, wgt m c h hd i j)
      = ∑ k : Fin 32768, (if Words.Keep (rowOf c i).val k.val then ((Real.exp (ρ k * (Real.sqrt 128)⁻¹) : ℝ) : EReal) else 0) := by
    rw [← sum_keys]
    refine Finset.sum_congr rfl fun h _ => Finset.sum_congr rfl fun j _ => ?_
    rw [hw]
    rfl
  rw [n1, n2]
  refine (Soft.soft (fun k : Fin 32768 => ρ k * (Real.sqrt 128)⁻¹) (fun k => Words.Keep (rowOf c i).val k.val) ⟨0, by norm_num⟩
    (Or.inr (Or.inl (by norm_num))) (fun k => (V (ix4 0 k hd d) : EReal))).trans ?_
  refine Finset.sum_congr rfl fun k _ => ?_
  rw [Cert.ReferenceIdeal.Term.probs_apply]
  have hq : ∀ k, weights (scores X Wq K) (ix4 0 hd (rowOf c i) k) = Ideal.exp ((if Words.Keep (rowOf c i).val k.val then ((ρ k * (Real.sqrt 128)⁻¹ : ℝ) : EReal) else ⊥)
      - Finset.fold max ⊥ (fun k' : Fin 32768 => if Words.Keep (rowOf c i).val k'.val then ((ρ k' * (Real.sqrt 128)⁻¹ : ℝ) : EReal) else ⊥) Finset.univ) := fun k => by
    rw [Cert.ReferenceIdeal.Term.weights_apply, word_bot, funext hs, hs]
  rw [funext hq, hq]

include hB hF in
/-- THE VALUE: device c's result is its rows of the reference's. -/
theorem value_eq (c : Dev Cert.KernelIdeal.nD) (i : Fin 256) (n : Fin 1024) :
    @Eq EReal ((Cert.KernelIdeal.Gen.V5 m (Cert.KernelIdeal.Ring.outs m) c Cert.KernelIdeal.main_v50 : FVec Ideal Cert.KernelIdeal.S1x256x1024 .f32) (ix3 0 i n))
      (result X Wq K V Wo (ix3 0 (rowOf c i) n)) := by
  have e0 : (∑ e : Fin 1024, (outT m c (ix3 (⟨e.val / 128, by omega⟩ : Fin 8) i (⟨e.val % 128, by omega⟩ : Fin 128)) : EReal) * (argWo m c (ix2 e n) : EReal))
      = ∑ e : Fin 1024, (heads V (probs (weights (scores X Wq K))) (ix3 0 (rowOf c i) e) : EReal) * (Wo (ix2 e n) : EReal) :=
    Finset.sum_congr rfl fun e _ => by rw [hB.wo, head_eq hB hF c _ i _ e rfl rfl]
  exact (Cert.KernelIdeal.Ring.out_apply m c i n).trans (e0.trans (Cert.ReferenceIdeal.Term.result_apply X Wq K V Wo (rowOf c i) n).symm)

end Cert.Equal

end
-- ==== Proof.PreReal.lean ====
/-
  What the precondition says of an argument: its entries are finite.
-/
module

public import proofs.«01_k».proof.Pre_finite_KernelIdeal
public import Idealize.ShloMosaic.Lib.Pointwise
public import Idealize.ShloMosaic.Lib.ReduceAll

@[expose] public section

noncomputable section

namespace Cert.Pre_finite_KernelIdeal

open Idealize.ShloMosaic Idealize.ShloMosaic.TcCoe

variable [Facts]
open Facts

theorem word_top : Ideal.ofBits .f32 0x7F800000#32 = ⊤ := by
  simp [Ideal.ofBits, Ideal.ieee]

/-- Below +∞ in magnitude is finite. -/
theorem finite_of_cmp {x : EReal} (h : Ideal.cmp .olt (max x (-x)) (Ideal.ofBits .f32 0x7F800000#32) = 1#1) : ∃ r : ℝ, x = (r : EReal) := by
  rw [word_top] at h
  induction x using EReal.rec with
  | bot => simp [Ideal.cmp] at h
  | top => simp [Ideal.cmp] at h
  | coe r => exact ⟨r, rfl⟩

variable {a0 : FVec Ideal S1x256x1024 .f32} {a1 : FVec Ideal S1024x1024 .f32} {a2 a3 : FVec Ideal S1x4096x8x128 .f32} {a4 : FVec Ideal S1024x1024 .f32}

instance : Subsingleton S_.Idx := ⟨fun a b => funext fun i => i.elim0⟩

/-! The three answers side by side, read one at a time. -/

theorem three_0 (p q r : IVec S_ 1) :
    concatenate S3 0 [⟨S1, broadcastInDim S1 ![] bcast_S_S1 p⟩, ⟨S1, broadcastInDim S1 ![] bcast_S_S1 q⟩, ⟨S1, broadcastInDim S1 ![] bcast_S_S1 r⟩]
      concatenates_S1_S1_S1_S3_d0 (ix1 0) = p ix0 := by
  pointwise

theorem three_1 (p q r : IVec S_ 1) :
    concatenate S3 0 [⟨S1, broadcastInDim S1 ![] bcast_S_S1 p⟩, ⟨S1, broadcastInDim S1 ![] bcast_S_S1 q⟩, ⟨S1, broadcastInDim S1 ![] bcast_S_S1 r⟩]
      concatenates_S1_S1_S1_S3_d0 (ix1 1) = q ix0 := by
  pointwise

theorem three_2 (p q r : IVec S_ 1) :
    concatenate S3 0 [⟨S1, broadcastInDim S1 ![] bcast_S_S1 p⟩, ⟨S1, broadcastInDim S1 ![] bcast_S_S1 q⟩, ⟨S1, broadcastInDim S1 ![] bcast_S_S1 r⟩]
      concatenates_S1_S1_S1_S3_d0 (ix1 2) = r ix0 := by
  pointwise

theorem first_finite (h : fn (F := Ideal) a0 a1 a2 a3 a4 = fun _ => 1#1) (i : S1x256x1024.Idx) : ∃ r : ℝ, (a0 i : EReal) = (r : EReal) := by
  have e := congrFun h (ix1 0)
  dsimp only [fn] at e
  rw [three_0] at e
  have e1 := Host.reduce_andi_all _ _ _ _ _ e i
  exact finite_of_cmp e1

theorem second_finite (h : fn (F := Ideal) a0 a1 a2 a3 a4 = fun _ => 1#1) (i : S1024x1024.Idx) : ∃ r : ℝ, (a1 i : EReal) = (r : EReal) := by
  have e := congrFun h (ix1 1)
  dsimp only [fn] at e
  rw [three_1] at e
  have e1 := Host.reduce_andi_all _ _ _ _ _ e i
  exact finite_of_cmp e1

theorem third_finite (h : fn (F := Ideal) a0 a1 a2 a3 a4 = fun _ => 1#1) (i : S1x4096x8x128.Idx) : ∃ r : ℝ, (a2 i : EReal) = (r : EReal) := by
  have e := congrFun h (ix1 2)
  dsimp only [fn] at e
  rw [three_2] at e
  have e1 := Host.reduce_andi_all _ _ _ _ _ e i
  exact finite_of_cmp e1

end Cert.Pre_finite_KernelIdeal

end
-- ==== Proof.RefVal.lean ====
/-
  The reference's result is the term read in parts.
-/
module

public import proofs.«01_k».proof.Proof.RefTerm
public import proofs.«01_k».proof.Proof.Gen.ReferenceIdeal.Run

@[expose] public section

noncomputable section

namespace Cert.ReferenceIdeal.Term

open Cert.ReferenceIdeal Cert.ReferenceIdeal.Gen Idealize.ShloMosaic Idealize.ShloMosaic.TcCoe

variable {F : FTy → Type} [FloatOps F]

theorem res_eq (m : (ℓ : Loc nD τ sig) → Buf (Elt F) ℓ) (c : Dev nD) :
    Cert.ReferenceIdeal.Value.res_main_v45 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v45
  rfl

end Cert.ReferenceIdeal.Term

end
-- ==== Proof.Value.lean ====
/-
  The kernel over the extended reals ends with the reference's result, each device with its rows.
-/
module

public import proofs.«01_k».proof.Defs
public import proofs.«01_k».proof.Proof.Equal
public import proofs.«01_k».proof.Proof.PreReal
public import proofs.«01_k».proof.Proof.RefVal
public import proofs.«01_k».proof.Proof.Ends
public import proofs.«01_k».proof.Proof.Gen.Pre_finite_KernelIdeal

@[expose] public section

noncomputable section

namespace Cert.Proof

open Idealize.ShloMosaic Idealize.ShloMosaic.TcCoe Idealize.SL.Sem

attribute [local instance] Cert.KernelIdeal.Gen.facts Cert.ReferenceIdeal.Gen.facts Cert.Pre_finite_KernelIdeal.Gen.facts

/-- A row of a device's block is a row of the whole array. -/
theorem row_block (c : Dev Cert.KernelIdeal.nD) (A : (⟨3, ![1, 2048, 1024]⟩ : Shape).Idx → EReal) (i : Fin 256) (e : Fin 1024) :
    Layout.block ⟨3, ![1, 256, 1024]⟩ ⟨3, ![1, 2048, 1024]⟩ 1 8 c A (by decide) (ix3 0 i e) = A (ix3 0 (Cert.Equal.rowOf c i) e) := by
  rw [Layout.block_apply]
  refine congrArg A (funext fun b => Fin.ext ?_)
  rw [Layout.Tiles.idx_val]
  fin_cases b
  · rfl
  · show c.val * 256 + i.val = 256 * c.val + i.val
    omega
  · rfl

/-- A key of a device's block is a key of the whole array. -/
theorem key_block (h : Dev Cert.KernelIdeal.nD) (A : (⟨4, ![1, 32768, 8, 128]⟩ : Shape).Idx → EReal) (j : Fin 4096) (hd : Fin 8) (d : Fin 128) :
    Layout.block ⟨4, ![1, 4096, 8, 128]⟩ ⟨4, ![1, 32768, 8, 128]⟩ 1 8 h A (by decide) (ix4 0 j hd d) = A (ix4 0 (Cert.Equal.keyOf h j) hd d) := by
  rw [Layout.block_apply]
  refine congrArg A (funext fun b => Fin.ext ?_)
  rw [Layout.Tiles.idx_val]
  fin_cases b
  · rfl
  · show h.val * 4096 + j.val = 4096 * h.val + j.val
    omega
  · rfl
  · rfl

/-- A block with the whole array's rows is the device's block of it. -/
theorem block_of_rows (c : Dev Cert.KernelIdeal.nD) (f : (⟨3, ![1, 256, 1024]⟩ : Shape).Idx → EReal) (A : (⟨3, ![1, 2048, 1024]⟩ : Shape).Idx → EReal)
    (h : ∀ i n, f (ix3 0 i n) = A (ix3 0 (Cert.Equal.rowOf c i) n)) :
    f = Layout.block ⟨3, ![1, 256, 1024]⟩ ⟨3, ![1, 2048, 1024]⟩ 1 8 c A (by decide) := by
  funext x
  have e : x = ix3 (0 : Fin 1) (x 1 : Fin 256) (x 2 : Fin 1024) := by
    funext b
    fin_cases b
    · exact Subsingleton.elim (α := Fin 1) _ _
    · rfl
    · rfl
  exact (congrArg f e).trans ((h (x 1) (x 2)).trans ((row_block c A (x 1) (x 2)).symm.trans
    (congrArg (Layout.block ⟨3, ![1, 256, 1024]⟩ ⟨3, ![1, 2048, 1024]⟩ 1 8 c A (by decide)) e.symm)))

/-- Where the rows, the query weights and the keys are finite, the kernel's result is the reference's, block by block. -/
theorem same_value : Cert.algebraic_KernelIdeal_ReferenceIdeal_pre_finite_KernelIdeal := by
  intro m g m' g' hP hA
  refine ⟨Cert.ReferenceIdeal.Value.res_main_v45 m' 0, ?_, ?_⟩
  · refine θ_run_mono (Cert.KernelIdeal.Ring.run_ends m g) fun r h c => ⟨?_, (h.1 c).2⟩
    rw [(h.1 c).1, Cert.ReferenceIdeal.Term.res_eq]
    have hF : Cert.Equal.Finite m :=
      ⟨fun c i e => Cert.Pre_finite_KernelIdeal.first_finite (hP c) _, fun c e n => Cert.Pre_finite_KernelIdeal.second_finite (hP c) _,
        fun h j hd d => Cert.Pre_finite_KernelIdeal.third_finite (hP h) _⟩
    have hB : Cert.Equal.Blocks m (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) := by
      refine ⟨fun c i e => ?_, fun c e n => congrFun (hA c).2.1 _, fun h j hd d => ?_, fun h j hd d => ?_, fun c e n => congrFun (hA c).2.2.2.2 _⟩
      · exact (congrFun (hA c).1 _).trans (row_block c _ i e)
      · exact (congrFun (hA h).2.2.1 _).trans (key_block h _ j hd d)
      · exact (congrFun (hA h).2.2.2.1 _).trans (key_block h _ j hd d)
    exact block_of_rows c _ _ (Cert.Equal.value_eq hB hF c)
  · exact θ_run_mono (Cert.ReferenceIdeal.Value.run m' g') fun r h => h 0

end Cert.Proof

end
-- ==== Proof.lean ====
/- The claim: the kernel and its reading over the extended reals run to their end, keep their arguments and leave every
   semaphore at zero, and so does the reference; the named constants stand for what they name; and where
   the rows, the query weights and the keys are finite, every device ends with its rows of the reference's result. -/
module

public import proofs.«01_k».proof.Defs
public import proofs.«01_k».proof.Proof.Frames
public import proofs.«01_k».proof.Proof.Refs
public import proofs.«01_k».proof.Proof.Value

@[expose] public section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_runs, kernel_ideal_runs, kernel_ideal_runs_pre, reference_ideal_runs, reference_ideal_runs_pre, names_kept, same_value⟩

end Cert.Proof

end
